-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInReferenceIdeal (m : (ℓ : Loc Cert.LnInReferenceIdeal.nD Cert.LnInReferenceIdeal.τ Cert.LnInReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ r.2.sem = fun _ => 0)

def quiescent_LnInReferenceIdeal [hLnInReferenceIdeal : Cert.LnInReferenceIdeal.Facts] : Prop :=
  ∀ (m : (ℓ : Loc Cert.LnInReferenceIdeal.nD Cert.LnInReferenceIdeal.τ Cert.LnInReferenceIdeal.sig) → Buf (Elt Ideal) ℓ) (g : Dev Cert.LnInReferenceIdeal.nD → PrngReg), Pre_LnInReferenceIdeal m →
    θ_run (Cert.LnInReferenceIdeal.defs (F := Ideal)) (onTc (τ := Cert.LnInReferenceIdeal.τ) (Cert.LnInReferenceIdeal.main (F := Ideal))) ⟨m, fun _ => 0, g⟩ (fun r => (∀ c : Dev Cert.LnInReferenceIdeal.nD,
      r.2.mem ((c.tc : Thread Cert.LnInReferenceIdeal.nD Cert.LnInReferenceIdeal.τ).loc Cert.LnInReferenceIdeal.main_arg0) = m ((c.tc : Thread Cert.LnInReferenceIdeal.nD Cert.LnInReferenceIdeal.τ).loc Cert.LnInReferenceIdeal.main_arg0)
      ∧ r.2.mem ((c.tc : Thread Cert.LnInReferenceIdeal.nD Cert.LnInReferenceIdeal.τ).loc Cert.LnInReferenceIdeal.main_arg1) = m ((c.tc : Thread Cert.LnInReferenceIdeal.nD Cert.LnInReferenceIdeal.τ).loc Cert.LnInReferenceIdeal.main_arg1)
      ∧ r.2.mem ((c.tc : Thread Cert.LnInReferenceIdeal.nD Cert.LnInReferenceIdeal.τ).loc Cert.LnInReferenceIdeal.main_arg2) = m ((c.tc : Thread Cert.LnInReferenceIdeal.nD Cert.LnInReferenceIdeal.τ).loc Cert.LnInReferenceIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v15)) (v1 : (c : Dev Cert.InProjIdeal.nD) → Buf (Elt Ideal) ((c.tc : Thread Cert.InProjIdeal.nD Cert.InProjIdeal.τ).loc Cert.InProjIdeal.main_v16)) (v2 : (c : Dev Cert.InProjIdeal.nD) → Buf (Elt Ideal) ((c.tc : Thread Cert.InProjIdeal.nD Cert.InProjIdeal.τ).loc Cert.InProjIdeal.main_v17)) (v3 : (c : Dev Cert.InProjIdeal.nD) → Buf (Elt Ideal) ((c.tc : Thread Cert.InProjIdeal.nD Cert.InProjIdeal.τ).loc Cert.InProjIdeal.main_v18)) (v4 : (c : Dev Cert.InProjIdeal.nD) → Buf (Elt Ideal) ((c.tc : Thread Cert.InProjIdeal.nD Cert.InProjIdeal.τ).loc Cert.InProjIdeal.main_v19)) (v5 : (c : Dev Cert.InProjIdeal.nD) → Buf (Elt Ideal) ((c.tc : Thread Cert.InProjIdeal.nD Cert.InProjIdeal.τ).loc Cert.InProjIdeal.main_v20)) (v6 : (c : Dev Cert.InProjIdeal.nD) → Buf (Elt Ideal) ((c.tc : Thread Cert.InProjIdeal.nD Cert.InProjIdeal.τ).loc Cert.InProjIdeal.main_v21)) (v7 : (c : Dev Cert.InProjIdeal.nD) → Buf (Elt Ideal) ((c.tc : Thread Cert.InProjIdeal.nD Cert.InProjIdeal.τ).loc Cert.InProjIdeal.main_v22)) (v8 : (c : Dev Cert.InProjIdeal.nD) → Buf (Elt Ideal) ((c.tc : Thread Cert.InProjIdeal.nD Cert.InProjIdeal.τ).loc Cert.InProjIdeal.main_v23)) (v9 : (c : Dev Cert.InProjIdeal.nD) → Buf (Elt Ideal) ((c.tc : Thread Cert.InProjIdeal.nD Cert.InProjIdeal.τ).loc Cert.InProjIdeal.main_v24)) (v10 : (c : Dev Cert.InProjIdeal.nD) → Buf (Elt Ideal) ((c.tc : Thread Cert.InProjIdeal.nD Cert.InProjIdeal.τ).loc Cert.InProjIdeal.main_v25)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v15) = v0 c
          ∧ r.2.mem ((c.tc : Thread Cert.InProjIdeal.nD Cert.InProjIdeal.τ).loc Cert.InProjIdeal.main_v16) = v1 c
          ∧ r.2.mem ((c.tc : Thread Cert.InProjIdeal.nD Cert.InProjIdeal.τ).loc Cert.InProjIdeal.main_v17) = v2 c
          ∧ r.2.mem ((c.tc : Thread Cert.InProjIdeal.nD Cert.InProjIdeal.τ).loc Cert.InProjIdeal.main_v18) = v3 c
          ∧ r.2.mem ((c.tc : Thread Cert.InProjIdeal.nD Cert.InProjIdeal.τ).loc Cert.InProjIdeal.main_v19) = v4 c
          ∧ r.2.mem ((c.tc : Thread Cert.InProjIdeal.nD Cert.InProjIdeal.τ).loc Cert.InProjIdeal.main_v20) = v5 c
          ∧ r.2.mem ((c.tc : Thread Cert.InProjIdeal.nD Cert.InProjIdeal.τ).loc Cert.InProjIdeal.main_v21) = v6 c
          ∧ r.2.mem ((c.tc : Thread Cert.InProjIdeal.nD Cert.InProjIdeal.τ).loc Cert.InProjIdeal.main_v22) = v7 c
          ∧ r.2.mem ((c.tc : Thread Cert.InProjIdeal.nD Cert.InProjIdeal.τ).loc Cert.InProjIdeal.main_v23) = v8 c
          ∧ r.2.mem ((c.tc : Thread Cert.InProjIdeal.nD Cert.InProjIdeal.τ).loc Cert.InProjIdeal.main_v24) = v9 c
          ∧ r.2.mem ((c.tc : Thread Cert.InProjIdeal.nD Cert.InProjIdeal.τ).loc Cert.InProjIdeal.main_v25) = v10 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_v4) = v1 c
          ∧ r.2.mem ((c.tc : Thread Cert.InProjReferenceIdeal.nD Cert.InProjReferenceIdeal.τ).loc Cert.InProjReferenceIdeal.main_v5) = v2 c
          ∧ r.2.mem ((c.tc : Thread Cert.InProjReferenceIdeal.nD Cert.InProjReferenceIdeal.τ).loc Cert.InProjReferenceIdeal.main_v6) = v3 c
          ∧ r.2.mem ((c.tc : Thread Cert.InProjReferenceIdeal.nD Cert.InProjReferenceIdeal.τ).loc Cert.InProjReferenceIdeal.main_v7) = v4 c
          ∧ r.2.mem ((c.tc : Thread Cert.InProjReferenceIdeal.nD Cert.InProjReferenceIdeal.τ).loc Cert.InProjReferenceIdeal.main_v8) = v5 c
          ∧ r.2.mem ((c.tc : Thread Cert.InProjReferenceIdeal.nD Cert.InProjReferenceIdeal.τ).loc Cert.InProjReferenceIdeal.main_v9) = v6 c
          ∧ r.2.mem ((c.tc : Thread Cert.InProjReferenceIdeal.nD Cert.InProjReferenceIdeal.τ).loc Cert.InProjReferenceIdeal.main_v10) = v7 c
          ∧ r.2.mem ((c.tc : Thread Cert.InProjReferenceIdeal.nD Cert.InProjReferenceIdeal.τ).loc Cert.InProjReferenceIdeal.main_v11) = v8 c
          ∧ r.2.mem ((c.tc : Thread Cert.InProjReferenceIdeal.nD Cert.InProjReferenceIdeal.τ).loc Cert.InProjReferenceIdeal.main_v12) = v9 c
          ∧ r.2.mem ((c.tc : Thread Cert.InProjReferenceIdeal.nD Cert.InProjReferenceIdeal.τ).loc Cert.InProjReferenceIdeal.main_v13) = v10 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v8_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v44) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v0)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v0) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v23) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v3) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v6)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v35) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_LnIn_LnInIdeal : Prop :=
  True

def algebraic_LnInIdeal_LnInReferenceIdeal [hLnInIdeal : Cert.LnInIdeal.Facts] [hLnInReferenceIdeal : Cert.LnInReferenceIdeal.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.LnInReferenceIdeal.nD Cert.LnInReferenceIdeal.τ Cert.LnInReferenceIdeal.sig) → Buf (Elt Ideal) ℓ) (g' : Dev Cert.LnInReferenceIdeal.nD → PrngReg), Pre_LnInIdeal m →
    (∀ c : Dev Cert.LnInIdeal.nD,
      m' ((c.tc : Thread Cert.LnInReferenceIdeal.nD Cert.LnInReferenceIdeal.τ).loc Cert.LnInReferenceIdeal.main_arg0) = m ((c.tc : Thread Cert.LnInIdeal.nD Cert.LnInIdeal.τ).loc Cert.LnInIdeal.main_arg0)
      ∧ m' ((c.tc : Thread Cert.LnInReferenceIdeal.nD Cert.LnInReferenceIdeal.τ).loc Cert.LnInReferenceIdeal.main_arg1) = m ((c.tc : Thread Cert.LnInIdeal.nD Cert.LnInIdeal.τ).loc Cert.LnInIdeal.main_arg1)
      ∧ m' ((c.tc : Thread Cert.LnInReferenceIdeal.nD Cert.LnInReferenceIdeal.τ).loc Cert.LnInReferenceIdeal.main_arg2) = m ((c.tc : Thread Cert.LnInIdeal.nD Cert.LnInIdeal.τ).loc Cert.LnInIdeal.main_arg2)) →
    ∃ (v0 : (c : Dev Cert.LnInIdeal.nD) → Buf (Elt Ideal) ((c.tc : Thread Cert.LnInIdeal.nD Cert.LnInIdeal.τ).loc Cert.LnInIdeal.main_v3)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v3) = v0 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ θ_run (Cert.LnInReferenceIdeal.defs (F := Ideal)) (onTc (τ := Cert.LnInReferenceIdeal.τ) (Cert.LnInReferenceIdeal.main (F := Ideal))) ⟨m', fun _ => 0, g'⟩ (fun r => ∀ c : Dev Cert.LnInReferenceIdeal.nD,
          r.2.mem ((c.tc : Thread Cert.LnInReferenceIdeal.nD Cert.LnInReferenceIdeal.τ).loc Cert.LnInReferenceIdeal.main_v24) = v0 c
          ∧ r.2.mem ((c.tc : Thread Cert.LnInReferenceIdeal.nD Cert.LnInReferenceIdeal.τ).loc Cert.LnInReferenceIdeal.main_arg0) = m' ((c.tc : Thread Cert.LnInReferenceIdeal.nD Cert.LnInReferenceIdeal.τ).loc Cert.LnInReferenceIdeal.main_arg0)
          ∧ r.2.mem ((c.tc : Thread Cert.LnInReferenceIdeal.nD Cert.LnInReferenceIdeal.τ).loc Cert.LnInReferenceIdeal.main_arg1) = m' ((c.tc : Thread Cert.LnInReferenceIdeal.nD Cert.LnInReferenceIdeal.τ).loc Cert.LnInReferenceIdeal.main_arg1)
          ∧ r.2.mem ((c.tc : Thread Cert.LnInReferenceIdeal.nD Cert.LnInReferenceIdeal.τ).loc Cert.LnInReferenceIdeal.main_arg2) = m' ((c.tc : Thread Cert.LnInReferenceIdeal.nD Cert.LnInReferenceIdeal.τ).loc Cert.LnInReferenceIdeal.main_arg2))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v27_2)) (v1 : (c : Dev Cert.PrepIdeal.nD) → Buf (Elt Ideal) ((c.tc : Thread Cert.PrepIdeal.nD Cert.PrepIdeal.τ).loc Cert.PrepIdeal.main_v27_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v27_2) = v0 c
          ∧ r.2.mem ((c.tc : Thread Cert.PrepIdeal.nD Cert.PrepIdeal.τ).loc Cert.PrepIdeal.main_v27_3) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v18) = v0 c
          ∧ r.2.mem ((c.tc : Thread Cert.PrepReferenceIdeal.nD Cert.PrepReferenceIdeal.τ).loc Cert.PrepReferenceIdeal.main_v20) = v1 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hMemory : Cert.Memory.Facts) (hMemoryIdeal : Cert.MemoryIdeal.Facts) (hMemoryReferenceIdeal : Cert.MemoryReferenceIdeal.Facts) (hMemKv : Cert.MemKv.Facts) (hMemKvIdeal : Cert.MemKvIdeal.Facts) (hMemKvReferenceIdeal : Cert.MemKvReferenceIdeal.Facts) (hConv : Cert.Conv.Facts) (hConvIdeal : Cert.ConvIdeal.Facts) (hConvReferenceIdeal : Cert.ConvReferenceIdeal.Facts) (hLnIn : Cert.LnIn.Facts) (hLnInIdeal : Cert.LnInIdeal.Facts) (hLnInReferenceIdeal : Cert.LnInReferenceIdeal.Facts) (hPrep : Cert.Prep.Facts) (hPrepIdeal : Cert.PrepIdeal.Facts) (hPrepReferenceIdeal : Cert.PrepReferenceIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_LnIn (hLnIn := hLnIn)
    ∧ quiescent_LnInIdeal (hLnInIdeal := hLnInIdeal)
    ∧ quiescent_LnInReferenceIdeal (hLnInReferenceIdeal := hLnInReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
    ∧ preserves_Memory_MemoryIdeal
    ∧ algebraic_MemoryIdeal_MemoryReferenceIdeal (hMemoryIdeal := hMemoryIdeal) (hMemoryReferenceIdeal := hMemoryReferenceIdeal)
    ∧ preserves_MemKv_MemKvIdeal
    ∧ algebraic_MemKvIdeal_MemKvReferenceIdeal (hMemKvIdeal := hMemKvIdeal) (hMemKvReferenceIdeal := hMemKvReferenceIdeal)
    ∧ preserves_Conv_ConvIdeal
    ∧ algebraic_ConvIdeal_ConvReferenceIdeal (hConvIdeal := hConvIdeal) (hConvReferenceIdeal := hConvReferenceIdeal)
    ∧ preserves_LnIn_LnInIdeal
    ∧ algebraic_LnInIdeal_LnInReferenceIdeal (hLnInIdeal := hLnInIdeal) (hLnInReferenceIdeal := hLnInReferenceIdeal)
    ∧ preserves_Prep_PrepIdeal
    ∧ algebraic_PrepIdeal_PrepReferenceIdeal (hPrepIdeal := hPrepIdeal) (hPrepReferenceIdeal := hPrepReferenceIdeal)
-- ==== Kernel.lean ====
abbrev S73728x1024 : Shape := ⟨2, ![73728, 1024]⟩
abbrev S32 : Shape := ⟨1, ![32]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S256x256 : Shape := ⟨2, ![256, 256]⟩
abbrev S_ : Shape := ⟨0, ![]⟩
abbrev S1x32 : Shape := ⟨2, ![1, 32]⟩
abbrev S288 : Shape := ⟨1, ![288]⟩
abbrev S288x1 : Shape := ⟨2, ![288, 1]⟩
abbrev S288x32 : Shape := ⟨2, ![288, 32]⟩
abbrev S1 : Shape := ⟨1, ![1]⟩
abbrev S289 : Shape := ⟨1, ![289]⟩
abbrev S4x32x8x128x2 : Shape := ⟨5, ![4, 32, 8, 128, 2]⟩
abbrev S4x32x8x2x128 : Shape := ⟨5, ![4, 32, 8, 2, 128]⟩
abbrev S4x32x1x2048 : Shape := ⟨4, ![4, 32, 1, 2048]⟩
abbrev S4x32x1x1024 : Shape := ⟨4, ![4, 32, 1, 1024]⟩
abbrev S256x1024 : Shape := ⟨2, ![256, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S1x1x1024x256 : Shape := ⟨4, ![1, 1, 1024, 256]⟩
abbrev S1024x256 : Shape := ⟨2, ![1024, 256]⟩
abbrev S256x2048 : Shape := ⟨2, ![256, 2048]⟩
abbrev S1x2048 : Shape := ⟨2, ![1, 2048]⟩
abbrev S256x128 : Shape := ⟨2, ![256, 128]⟩
abbrev S1x1024 : Shape := ⟨2, ![1, 1024]⟩

abbrev nBuf : Space → Nat
  | .hbm => 55
  | .vmem => 15
  | .smem => 1
  | _ => 0

abbrev bufTy : (tb : Table) → Fin (tcTables nBuf tb) → BufTy
  | .hbm, ⟨0, _⟩ => ⟨S73728x1024, .f32⟩
  | .hbm, ⟨1, _⟩ => ⟨S32, .i32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S256x256, .bf16⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S32, .i32⟩
  | .hbm, ⟨22, _⟩ => ⟨S32, .i32⟩
  | .hbm, ⟨23, _⟩ => ⟨S_, .i32⟩
  | .hbm, ⟨24, _⟩ => ⟨S32, .i32⟩
  | .hbm, ⟨25, _⟩ => ⟨S32, .i1⟩
  | .hbm, ⟨26, _⟩ => ⟨S32, .i1⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S1x32, .i32⟩
  | .hbm, ⟨35, _⟩ => ⟨S288, .i32⟩
  | .hbm, ⟨36, _⟩ => ⟨S288x1, .i32⟩
  | .hbm, ⟨37, _⟩ => ⟨S288x32, .i32⟩
  | .hbm, ⟨38, _⟩ => ⟨S288x32, .i32⟩
  | .hbm, ⟨39, _⟩ => ⟨S288x32, .i1⟩
  | .hbm, ⟨40, _⟩ => ⟨S288x32, .i32⟩
  | .hbm, ⟨41, _⟩ => ⟨S_, .i32⟩
  | .hbm, ⟨42, _⟩ => ⟨S288, .i32⟩
  | .hbm, ⟨43, _⟩ => ⟨S_, .i32⟩
  | .hbm, ⟨44, _⟩ => ⟨S288, .i32⟩
  | .hbm, ⟨45, _⟩ => ⟨S288, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S4x32x8x128x2, .f32⟩
  | .hbm, ⟨50, _⟩ => ⟨S4x32x8x2x128, .f32⟩
  | .hbm, ⟨51, _⟩ => ⟨S4x32x2048, .f32⟩
  | .hbm, ⟨52, _⟩ => ⟨S4x32x1x2048, .f32⟩
  | .hbm, ⟨53, _⟩ => ⟨S4x32x1x1024, .f32⟩
  | .hbm, ⟨54, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S256x256, .bf16⟩
  | .local _ .vmem, ⟨11, _⟩ => ⟨S256x1024, .f32⟩
  | .local _ .vmem, ⟨12, _⟩ => ⟨S256x1024, .f32⟩
  | .local _ .vmem, ⟨13, _⟩ => ⟨S1024x2048, .bf16⟩
  | .local _ .vmem, ⟨14, _⟩ => ⟨S1024x1024, .bf16⟩
  | .local _ .smem, ⟨0, _⟩ => ⟨S289, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v4 : Ref sig .tc := ⟨.hbm, 30, rfl⟩
abbrev main_call1_call0_c : Ref sig .tc := ⟨.hbm, 31, rfl⟩
abbrev main_call1_call0_v0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_2 : Ref sig .tc := ⟨.hbm, 41, rfl⟩
abbrev main_v13 : Ref sig .tc := ⟨.hbm, 42, rfl⟩
abbrev main_c_3 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v19 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_v19.idx], fun | 0 => main_v19.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c1_i32 : BitVec 32 := 1#32
  let arg0 : BitVec 32 := BitVec.ofNat 32 (i 0).val
  let v0 : BitVec 32 := Scalar.addi c1_i32 arg0
  let v1 : Index := Scalar.indexCast v0
  ![v1.toNat]
def k0_off2 (i : grid0.Coords) : Fin 1 → Nat :=
  let arg0 : BitVec 32 := BitVec.ofNat 32 (i 0).val
  let c1_i32_0 : BitVec 32 := 1#32
  let v6 : BitVec 32 := Scalar.maxsi arg0 c1_i32_0
  let v7 : Index := Scalar.indexCast v6
  ![v7.toNat]
def k0_cond2 (i : grid0.Coords) (v0 : BitVec 32) : BitVec 1 :=
  let arg0 : BitVec 32 := BitVec.ofNat 32 (i 0).val
  let v14 : BitVec 1 := Scalar.cmpi .slt arg0 v0
  let v15 : BitVec 32 := Scalar.extui v14
  let c0_i32_2 : BitVec 32 := 0#32
  let v16 : BitVec 1 := Scalar.cmpi .ne v15 c0_i32_2
  v16

def k0_cond3 (i : grid0.Coords) (v0 : BitVec 32) : BitVec 1 :=
  let arg0 : BitVec 32 := BitVec.ofNat 32 (i 0).val
  let v17 : BitVec 1 := Scalar.cmpi .sge arg0 v0
  let v18 : BitVec 32 := Scalar.extui v17
  let c0_i32_3 : BitVec 32 := 0#32
  let v19 : BitVec 1 := Scalar.cmpi .ne v18 c0_i32_3
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S289.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.addi c1_i32 arg0
  let v1 : Index := Scalar.indexCast v0
  let v2 : BitVec 32 := pf.at 0 (Rect.unit (s := S289) ![v1.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_2 (k0_off1_inb : ∀ i : grid0.Coords, ∀ a, (k0_off1 i) a + S1.size a ≤ S289.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.addi c1_i32 arg0
  let v1 : Index := Scalar.indexCast v0
  let v2 : BitVec 32 := pf.at 0 (Rect.unit (s := S289) ![v1.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_3 (k0_off1_inb : ∀ i : grid0.Coords, ∀ a, (k0_off1 i) a + S1.size a ≤ S289.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.addi c1_i32 arg0
  let v1 : Index := Scalar.indexCast v0
  let v2 : BitVec 32 := pf.at 0 (Rect.unit (s := S289) ![v1.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_4 (k0_off1_inb : ∀ i : grid0.Coords, ∀ a, (k0_off1 i) a + S1.size a ≤ S289.size a) (numel1_S1 : S1.numel = 1) (pf : pre0.Contents (Elt F)) (i : grid0.Coords) : Fin 4 → Nat :=
  let arg0 : BitVec 32 := BitVec.ofNat 32 (i 0).val
  let c1_i32 : BitVec 32 := 1#32
  let v0 : BitVec 32 := Scalar.addi c1_i32 arg0
  let v1 : Index := Scalar.indexCast v0
  let v2 : BitVec 32 := pf.at 0 (Rect.unit (s := S289) ![v1.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S73728x1024 : Shape := ⟨2, ![73728, 1024]⟩
abbrev S32 : Shape := ⟨1, ![32]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S288x256x1024 : Shape := ⟨3, ![288, 256, 1024]⟩
abbrev S1x32x1024x2048 : Shape := ⟨4, ![1, 32, 1024, 2048]⟩
abbrev S32x1024x2048 : Shape := ⟨3, ![32, 1024, 2048]⟩
abbrev S288x1024x2048 : Shape := ⟨3, ![288, 1024, 2048]⟩
abbrev S288x256x2048 : Shape := ⟨3, ![288, 256, 2048]⟩
abbrev S1x32x2048 : Shape := ⟨3, ![1, 32, 2048]⟩
abbrev S32x2048 : Shape := ⟨2, ![32, 2048]⟩
abbrev S288x2048 : Shape := ⟨2, ![288, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1024 : Shape := ⟨3, ![1, 32, 1024]⟩
abbrev S32x1024 : Shape := ⟨2, ![32, 1024]⟩
abbrev S288x1024 : Shape := ⟨2, ![288, 1024]⟩
abbrev S288x1x1024 : Shape := ⟨3, ![288, 1, 1024]⟩
abbrev S1 : Shape := ⟨1, ![1]⟩
abbrev S288x1x1 : Shape := ⟨3, ![288, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S73728x1024, .f32⟩
  | .hbm, ⟨1, _⟩ => ⟨S32, .i32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S288, .i32⟩
  | .hbm, ⟨34, _⟩ => ⟨S1x32, .i32⟩
  | .hbm, ⟨35, _⟩ => ⟨S288x1, .i32⟩
  | .hbm, ⟨36, _⟩ => ⟨S288x32, .i32⟩
  | .hbm, ⟨37, _⟩ => ⟨S288x32, .i32⟩
  | .hbm, ⟨38, _⟩ => ⟨S288x32, .i1⟩
  | .hbm, ⟨39, _⟩ => ⟨S288x32, .i32⟩
  | .hbm, ⟨40, _⟩ => ⟨S_, .i32⟩
  | .hbm, ⟨41, _⟩ => ⟨S288, .i32⟩
  | .hbm, ⟨42, _⟩ => ⟨S_, .i32⟩
  | .hbm, ⟨43, _⟩ => ⟨S288, .i32⟩
  | .hbm, ⟨44, _⟩ => ⟨S288, .i32⟩
  | .hbm, ⟨45, _⟩ => ⟨S288x256x1024, .f32⟩
  | .hbm, ⟨46, _⟩ => ⟨S1x32x1024x2048, .f32⟩
  | .hbm, ⟨47, _⟩ => ⟨S32x1024x2048, .f32⟩
  | .hbm, ⟨48, _⟩ => ⟨S288x1, .i32⟩
  | .hbm, ⟨49, _⟩ => ⟨S288x1024x2048, .f32⟩
  | .hbm, ⟨50, _⟩ => ⟨S288x256x2048, .f32⟩
  | .hbm, ⟨51, _⟩ => ⟨S1x32x2048, .f32⟩
  | .hbm, ⟨52, _⟩ => ⟨S32x2048, .f32⟩
  | .hbm, ⟨53, _⟩ => ⟨S288x1, .i32⟩
  | .hbm, ⟨54, _⟩ => ⟨S288x2048, .f32⟩
  | .hbm, ⟨55, _⟩ => ⟨S288x1x2048, .f32⟩
  | .hbm, ⟨56, _⟩ => ⟨S288x256x2048, .f32⟩
  | .hbm, ⟨57, _⟩ => ⟨S288x256x2048, .f32⟩
  | .hbm, ⟨58, _⟩ => ⟨S288x256x1024, .f32⟩
  | .hbm, ⟨59, _⟩ => ⟨S_, .f32⟩
  | .hbm, ⟨60, _⟩ => ⟨S288x256x1024, .f32⟩
  | .hbm, ⟨61, _⟩ => ⟨S288x256x1024, .f32⟩
  | .hbm, ⟨62, _⟩ => ⟨S288x256x1024, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S288x256x1024, .f32⟩
  | .hbm, ⟨67, _⟩ => ⟨S288x256x1024, .f32⟩
  | .hbm, ⟨68, _⟩ => ⟨S_, .f32⟩
  | .hbm, ⟨69, _⟩ => ⟨S288x256x1024, .f32⟩
  | .hbm, ⟨70, _⟩ => ⟨S288x256x1024, .f32⟩
  | .hbm, ⟨71, _⟩ => ⟨S_, .f32⟩
  | .hbm, ⟨72, _⟩ => ⟨S288x256x1024, .f32⟩
  | .hbm, ⟨73, _⟩ => ⟨S288x256x1024, .f32⟩
  | .hbm, ⟨74, _⟩ => ⟨S288x256x1024, .f32⟩
  | .hbm, ⟨75, _⟩ => ⟨S288x256x1024, .f32⟩
  | .hbm, ⟨76, _⟩ => ⟨S_, .f32⟩
  | .hbm, ⟨77, _⟩ => ⟨S288x256x1024, .f32⟩
  | .hbm, ⟨78, _⟩ => ⟨S288x256x1024, .f32⟩
  | .hbm, ⟨79, _⟩ => ⟨S_, .f32⟩
  | .hbm, ⟨80, _⟩ => ⟨S288x256x1024, .f32⟩
  | .hbm, ⟨81, _⟩ => ⟨S288x256x1024, .f32⟩
  | .hbm, ⟨82, _⟩ => ⟨S288x256x1024, .f32⟩
  | .hbm, ⟨83, _⟩ => ⟨S_, .f32⟩
  | .hbm, ⟨84, _⟩ => ⟨S288x256x1024, .f32⟩
  | .hbm, ⟨85, _⟩ => ⟨S288x256x1024, .f32⟩
  | .hbm, ⟨86, _⟩ => ⟨S288x256x1024, .f32⟩
  | .hbm, ⟨87, _⟩ => ⟨S1x32x1024x1024, .f32⟩
  | .hbm, ⟨88, _⟩ => ⟨S32x1024x1024, .f32⟩
  | .hbm, ⟨89, _⟩ => ⟨S288x1, .i32⟩
  | .hbm, ⟨90, _⟩ => ⟨S288x1024x1024, .f32⟩
  | .hbm, ⟨91, _⟩ => ⟨S288x256x1024, .f32⟩
  | .hbm, ⟨92, _⟩ => ⟨S1x32x1024, .f32⟩
  | .hbm, ⟨93, _⟩ => ⟨S32x1024, .f32⟩
  | .hbm, ⟨94, _⟩ => ⟨S288x1, .i32⟩
  | .hbm, ⟨95, _⟩ => ⟨S288x1024, .f32⟩
  | .hbm, ⟨96, _⟩ => ⟨S288x1x1024, .f32⟩
  | .hbm, ⟨97, _⟩ => ⟨S288x256x1024, .f32⟩
  | .hbm, ⟨98, _⟩ => ⟨S288x256x1024, .f32⟩
  | .hbm, ⟨99, _⟩ => ⟨S1, .i32⟩
  | .hbm, ⟨100, _⟩ => ⟨S_, .i32⟩
  | .hbm, ⟨101, _⟩ => ⟨S288, .i32⟩
  | .hbm, ⟨102, _⟩ => ⟨S288, .i1⟩
  | .hbm, ⟨103, _⟩ => ⟨S288x1x1, .i1⟩
  | .hbm, ⟨104, _⟩ => ⟨S_, .f32⟩
  | .hbm, ⟨105, _⟩ => ⟨S_, .f32⟩
  | .hbm, ⟨106, _⟩ => ⟨S288x256x1024, .i1⟩
  | .hbm, ⟨107, _⟩ => ⟨S288x256x1024, .f32⟩
  | .hbm, ⟨108, _⟩ => ⟨S288x256x1024, .f32⟩
  | .hbm, ⟨109, _⟩ => ⟨S73728x1024, .f32⟩
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call2_v0 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call3_v0 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_4 : Ref sig .tc := ⟨.hbm, 63, rfl⟩
abbrev main_cst_5 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_v31 : Ref sig .tc := ⟨.hbm, 70, rfl⟩
abbrev main_cst_6 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_7 : Ref sig .tc := ⟨.hbm, 76, rfl⟩
abbrev main_v36 : Ref sig .tc := ⟨.hbm, 77, rfl⟩
abbrev main_v37 : Ref sig .tc := ⟨.hbm, 78, rfl⟩
abbrev main_cst_8 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_9 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_call5_v0 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_call6_v0 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_10 : Ref sig .tc := ⟨.hbm, 104, rfl⟩
abbrev main_call7_v0 : Ref sig .tc := ⟨.hbm, 105, rfl⟩
abbrev main_call7_v1 : Ref sig .tc := ⟨.hbm, 106, rfl⟩
abbrev main_call7_v2 : Ref sig .tc := ⟨.hbm, 107, rfl⟩
abbrev main_v59 : Ref sig .tc := ⟨.hbm, 108, rfl⟩
abbrev main_v60 : Ref sig .tc := ⟨.hbm, 109, rfl⟩

abbrev nD : Nat := 1
abbrev τ : Topo := Topo.v7x

variable {F : FTy → Type} [FloatOps F]
-- ==== InProj.lean ====
abbrev S16384x1024 : Shape := ⟨2, ![16384, 1024]⟩
abbrev S4x1024x7592 : Shape := ⟨3, ![4, 1024, 7592]⟩
abbrev S4x1024x512 : Shape := ⟨3, ![4, 1024, 512]⟩
abbrev S4x1024x128 : Shape := ⟨3, ![4, 1024, 128]⟩
abbrev S4x1024x256 : Shape := ⟨3, ![4, 1024, 256]⟩
abbrev S4x1024x32 : Shape := ⟨3, ![4, 1024, 32]⟩
abbrev S4x1024x8 : Shape := ⟨3, ![4, 1024, 8]⟩
abbrev S4x1024x4096 : Shape := ⟨3, ![4, 1024, 4096]⟩
abbrev S_ : Shape := ⟨0, ![]⟩
abbrev S4x1024x88 : Shape := ⟨3, ![4, 1024, 88]⟩
abbrev S4x1024x7680 : Shape := ⟨3, ![4, 1024, 7680]⟩
abbrev S16384x7680 : Shape := ⟨2, ![16384, 7680]⟩
abbrev S256x1024 : Shape := ⟨2, ![256, 1024]⟩
abbrev S1x1024x7680 : Shape := ⟨3, ![1, 1024, 7680]⟩
abbrev S256x7680 : Shape := ⟨2, ![256, 7680]⟩
abbrev S1024x7680 : Shape := ⟨2, ![1024, 7680]⟩
abbrev S16384x512 : Shape := ⟨2, ![16384, 512]⟩
abbrev S16384x128 : Shape := ⟨2, ![16384, 128]⟩
abbrev S16384x256 : Shape := ⟨2, ![16384, 256]⟩
abbrev S16384x32 : Shape := ⟨2, ![16384, 32]⟩
abbrev S16384x8 : Shape := ⟨2, ![16384, 8]⟩
abbrev S16384x4096 : Shape := ⟨2, ![16384, 4096]⟩

abbrev nBuf : Space → Nat
  | .hbm => 29
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S4x1024x7592, .f32⟩
  | .hbm, ⟨2, _⟩ => ⟨S4x1024x512, .f32⟩
  | .hbm, ⟨3, _⟩ => ⟨S4x1024x128, .f32⟩
  | .hbm, ⟨4, _⟩ => ⟨S4x1024x256, .f32⟩
  | .hbm, ⟨5, _⟩ => ⟨S4x1024x32, .f32⟩
  | .hbm, ⟨6, _⟩ => ⟨S4x1024x8, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x4096, .f32⟩
  | .hbm, ⟨13, _⟩ => ⟨S_, .f32⟩
  | .hbm, ⟨14, _⟩ => ⟨S4x1024x88, .f32⟩
  | .hbm, ⟨15, _⟩ => ⟨S4x1024x7680, .f32⟩
  | .hbm, ⟨16, _⟩ => ⟨S4x1024x7680, .bf16⟩
  | .hbm, ⟨17, _⟩ => ⟨S16384x7680, .f32⟩
  | .hbm, ⟨18, _⟩ => ⟨S16384x512, .f32⟩
  | .hbm, ⟨19, _⟩ => ⟨S16384x128, .f32⟩
  | .hbm, ⟨20, _⟩ => ⟨S16384x256, .f32⟩
  | .hbm, ⟨21, _⟩ => ⟨S16384x32, .f32⟩
  | .hbm, ⟨22, _⟩ => ⟨S16384x8, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x4096, .f32⟩
  | .local _ .vmem, ⟨0, _⟩ => ⟨S256x1024, .f32⟩
  | .local _ .vmem, ⟨1, _⟩ => ⟨S256x1024, .f32⟩
  | .local _ .vmem, ⟨2, _⟩ => ⟨S1x1024x7680, .bf16⟩
  | .local _ .vmem, ⟨3, _⟩ => ⟨S256x7680, .f32⟩
  | .local _ .vmem, ⟨4, _⟩ => ⟨S256x7680, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x7680 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7680 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InProjReferenceIdeal.lean ====
abbrev S16384x1024 : Shape := ⟨2, ![16384, 1024]⟩
abbrev S4x1024x7592 : Shape := ⟨3, ![4, 1024, 7592]⟩
abbrev S1x1024x7592 : Shape := ⟨3, ![1, 1024, 7592]⟩
abbrev S1024x7592 : Shape := ⟨2, ![1024, 7592]⟩
abbrev S16384x7592 : Shape := ⟨2, ![16384, 7592]⟩
abbrev S16384x512 : Shape := ⟨2, ![16384, 512]⟩
abbrev S16384x128 : Shape := ⟨2, ![16384, 128]⟩
abbrev S16384x256 : Shape := ⟨2, ![16384, 256]⟩
abbrev S16384x32 : Shape := ⟨2, ![16384, 32]⟩
abbrev S16384x8 : Shape := ⟨2, ![16384, 8]⟩
abbrev S16384x4096 : Shape := ⟨2, ![16384, 4096]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x7592, .f32⟩
  | .hbm, ⟨2, _⟩ => ⟨S1x1024x7592, .f32⟩
  | .hbm, ⟨3, _⟩ => ⟨S1024x7592, .f32⟩
  | .hbm, ⟨4, _⟩ => ⟨S16384x7592, .f32⟩
  | .hbm, ⟨5, _⟩ => ⟨S16384x512, .f32⟩
  | .hbm, ⟨6, _⟩ => ⟨S16384x128, .f32⟩
  | .hbm, ⟨7, _⟩ => ⟨S16384x256, .f32⟩
  | .hbm, ⟨8, _⟩ => ⟨S16384x32, .f32⟩
  | .hbm, ⟨9, _⟩ => ⟨S16384x8, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Merge.lean ====
abbrev S16384x512 : Shape := ⟨2, ![16384, 512]⟩
abbrev S16384x7680 : Shape := ⟨2, ![16384, 7680]⟩
abbrev S16384x1024 : Shape := ⟨2, ![16384, 1024]⟩
abbrev S4x512x1024 : Shape := ⟨3, ![4, 512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S512x512 : Shape := ⟨2, ![512, 512]⟩
abbrev S1x1024 : Shape := ⟨2, ![1, 1024]⟩
abbrev S1x32 : Shape := ⟨2, ![1, 32]⟩
abbrev S16384x128 : Shape := ⟨2, ![16384, 128]⟩
abbrev S512x4096 : Shape := ⟨2, ![512, 4096]⟩
abbrev S512x1024 : Shape := ⟨2, ![512, 1024]⟩
abbrev S512x128 : Shape := ⟨2, ![512, 128]⟩
abbrev S1x512x1024 : Shape := ⟨3, ![1, 512, 1024]⟩
abbrev S512 : Shape := ⟨1, ![512]⟩
abbrev S512x1 : Shape := ⟨2, ![512, 1]⟩
abbrev S512x32 : Shape := ⟨2, ![512, 32]⟩

abbrev nBuf : Space → Nat
  | .hbm => 33
  | .vmem => 27
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x7680, .f32⟩
  | .hbm, ⟨5, _⟩ => ⟨S16384x1024, .f32⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S_, .f32⟩
  | .hbm, ⟨13, _⟩ => ⟨S512x512, .f32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S512x512, .bf16⟩
  | .hbm, ⟨24, _⟩ => ⟨S4x512x1024, .bf16⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S1x32, .f32⟩
  | .hbm, ⟨29, _⟩ => ⟨S16384x1024, .f32⟩
  | .hbm, ⟨30, _⟩ => ⟨S16384x128, .i32⟩
  | .hbm, ⟨31, _⟩ => ⟨S16384x128, .f32⟩
  | .hbm, ⟨32, _⟩ => ⟨S1x32, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x4096, .f32⟩
  | .local _ .vmem, ⟨9, _⟩ => ⟨S512x4096, .f32⟩
  | .local _ .vmem, ⟨10, _⟩ => ⟨S512x1024, .f32⟩
  | .local _ .vmem, ⟨11, _⟩ => ⟨S512x1024, .f32⟩
  | .local _ .vmem, ⟨12, _⟩ => ⟨S4x512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x32, .f32⟩
  | .local _ .vmem, ⟨17, _⟩ => ⟨S1x32, .f32⟩
  | .local _ .vmem, ⟨18, _⟩ => ⟨S512x512, .bf16⟩
  | .local _ .vmem, ⟨19, _⟩ => ⟨S512x1024, .f32⟩
  | .local _ .vmem, ⟨20, _⟩ => ⟨S512x1024, .f32⟩
  | .local _ .vmem, ⟨21, _⟩ => ⟨S512x128, .i32⟩
  | .local _ .vmem, ⟨22, _⟩ => ⟨S512x128, .i32⟩
  | .local _ .vmem, ⟨23, _⟩ => ⟨S512x128, .f32⟩
  | .local _ .vmem, ⟨24, _⟩ => ⟨S512x128, .f32⟩
  | .local _ .vmem, ⟨25, _⟩ => ⟨S1x32, .f32⟩
  | .local _ .vmem, ⟨26, _⟩ => ⟨S1x32, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst : Ref sig .tc := ⟨.hbm, 20, rfl⟩
abbrev main_call0_v5 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8_0 : Ref sig .tc := ⟨.hbm, 29, rfl⟩
abbrev main_v8_1 : Ref sig .tc := ⟨.hbm, 30, rfl⟩
abbrev main_v8_2 : Ref sig .tc := ⟨.hbm, 31, rfl⟩
abbrev main_v8_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeReferenceIdeal.lean ====
abbrev S16384x512 : Shape := ⟨2, ![16384, 512]⟩
abbrev S16384x7680 : Shape := ⟨2, ![16384, 7680]⟩
abbrev S16384x1024 : Shape := ⟨2, ![16384, 1024]⟩
abbrev S4x512x1024 : Shape := ⟨3, ![4, 512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S16384x1x512 : Shape := ⟨3, ![16384, 1, 512]⟩
abbrev S16384x4x512 : Shape := ⟨3, ![16384, 4, 512]⟩
abbrev S16384x4096 : Shape := ⟨2, ![16384, 4096]⟩
abbrev S16384x4x1024 : Shape := ⟨3, ![16384, 4, 1024]⟩
abbrev S_ : Shape := ⟨0, ![]⟩
abbrev S4x1024x16384 : Shape := ⟨3, ![4, 1024, 16384]⟩
abbrev S16384 : Shape := ⟨1, ![16384]⟩
abbrev S16384x1 : Shape := ⟨2, ![16384, 1]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x7680, .f32⟩
  | .hbm, ⟨5, _⟩ => ⟨S16384x1024, .f32⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S16384x1x512, .f32⟩
  | .hbm, ⟨13, _⟩ => ⟨S16384x1x512, .f32⟩
  | .hbm, ⟨14, _⟩ => ⟨S16384x1x512, .f32⟩
  | .hbm, ⟨15, _⟩ => ⟨S16384x1x512, .f32⟩
  | .hbm, ⟨16, _⟩ => ⟨S16384x4x512, .f32⟩
  | .hbm, ⟨17, _⟩ => ⟨S16384x4096, .f32⟩
  | .hbm, ⟨18, _⟩ => ⟨S16384x4x1024, .f32⟩
  | .hbm, ⟨19, _⟩ => ⟨S16384x4x1024, .f32⟩
  | .hbm, ⟨20, _⟩ => ⟨S16384x4x1024, .f32⟩
  | .hbm, ⟨21, _⟩ => ⟨S_, .f32⟩
  | .hbm, ⟨22, _⟩ => ⟨S16384x4x1024, .f32⟩
  | .hbm, ⟨23, _⟩ => ⟨S16384x4x1024, .f32⟩
  | .hbm, ⟨24, _⟩ => ⟨S_, .f32⟩
  | .hbm, ⟨25, _⟩ => ⟨S16384x4x1024, .f32⟩
  | .hbm, ⟨26, _⟩ => ⟨S16384x4x1024, .f32⟩
  | .hbm, ⟨27, _⟩ => ⟨S4x1024x16384, .f32⟩
  | .hbm, ⟨28, _⟩ => ⟨S16384x4x1024, .f32⟩
  | .hbm, ⟨29, _⟩ => ⟨S16384x4x1024, .f32⟩
  | .hbm, ⟨30, _⟩ => ⟨S_, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Memory.lean ====
abbrev S16384x7680 : Shape := ⟨2, ![16384, 7680]⟩
abbrev S512x1024 : Shape := ⟨2, ![512, 1024]⟩
abbrev S16384x512 : Shape := ⟨2, ![16384, 512]⟩
abbrev S512x512 : Shape := ⟨2, ![512, 512]⟩
abbrev S256x1024 : Shape := ⟨2, ![256, 1024]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x7680, .f32⟩
  | .hbm, ⟨1, _⟩ => ⟨S512x1024, .f32⟩
  | .hbm, ⟨2, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S256x1024, .f32⟩
  | .local _ .vmem, ⟨4, _⟩ => ⟨S512x512, .f32⟩
  | .local _ .vmem, ⟨5, _⟩ => ⟨S512x512, .f32⟩
  | _, _ => ⟨S16384x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c13_i32 : BitVec 32 := 13#32
  let c0_i32 : BitVec 32 := 0#32
  ![v1.toNat, c13_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemoryReferenceIdeal.lean ====
abbrev S16384x7680 : Shape := ⟨2, ![16384, 7680]⟩
abbrev S512x1024 : Shape := ⟨2, ![512, 1024]⟩
abbrev S16384x512 : Shape := ⟨2, ![16384, 512]⟩
abbrev S2x8192x4x128 : Shape := ⟨4, ![2, 8192, 4, 128]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩

abbrev nBuf : Space → Nat
  | .hbm => 30
  | .vmem => 0
  | .smem => 0
  | _ => 0

abbrev bufTy : (tb : Table) → Fin (tcTables nBuf tb) → BufTy
  | .hbm, ⟨0, _⟩ => ⟨S16384x7680, .f32⟩
  | .hbm, ⟨1, _⟩ => ⟨S512x1024, .f32⟩
  | .hbm, ⟨2, _⟩ => ⟨S16384x512, .f32⟩
  | .hbm, ⟨3, _⟩ => ⟨S2x8192x4x128, .f32⟩
  | .hbm, ⟨4, _⟩ => ⟨S2x256x2x4x128, .f32⟩
  | .hbm, ⟨5, _⟩ => ⟨S2x256x1x4x128, .f32⟩
  | .hbm, ⟨6, _⟩ => ⟨S2x256x4x128, .f32⟩
  | .hbm, ⟨7, _⟩ => ⟨S2x256x1x4x128, .f32⟩
  | .hbm, ⟨8, _⟩ => ⟨S2x256x4x128, .f32⟩
  | .hbm, ⟨9, _⟩ => ⟨S2x4x8192x256, .f32⟩
  | .hbm, ⟨10, _⟩ => ⟨S_, .f32⟩
  | .hbm, ⟨11, _⟩ => ⟨S2x4x8192x256, .f32⟩
  | .hbm, ⟨12, _⟩ => ⟨S2x4x8192x256, .f32⟩
  | .hbm, ⟨13, _⟩ => ⟨S_, .f32⟩
  | .hbm, ⟨14, _⟩ => ⟨S2x4x8192, .f32⟩
  | .hbm, ⟨15, _⟩ => ⟨S_, .f32⟩
  | .hbm, ⟨16, _⟩ => ⟨S2x4x8192, .f32⟩
  | .hbm, ⟨17, _⟩ => ⟨S2x4x8192, .f32⟩
  | .hbm, ⟨18, _⟩ => ⟨S2x4x8192x1, .f32⟩
  | .hbm, ⟨19, _⟩ => ⟨S2x4x8192x256, .f32⟩
  | .hbm, ⟨20, _⟩ => ⟨S2x4x8192x256, .f32⟩
  | .hbm, ⟨21, _⟩ => ⟨S2x4x8192x256, .f32⟩
  | .hbm, ⟨22, _⟩ => ⟨S_, .f32⟩
  | .hbm, ⟨23, _⟩ => ⟨S2x4x8192, .f32⟩
  | .hbm, ⟨24, _⟩ => ⟨S2x4x8192x1, .f32⟩
  | .hbm, ⟨25, _⟩ => ⟨S2x4x8192x256, .f32⟩
  | .hbm, ⟨26, _⟩ => ⟨S2x4x8192x256, .f32⟩
  | .hbm, ⟨27, _⟩ => ⟨S2x4x128x8192, .f32⟩
  | .hbm, ⟨28, _⟩ => ⟨S2x8192x4x128, .f32⟩
  | .hbm, ⟨29, _⟩ => ⟨S16384x512, .f32⟩
  | _, _ => ⟨S16384x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== MemKv.lean ====
abbrev S2x256x1024 : Shape := ⟨3, ![2, 256, 1024]⟩
abbrev S4x1024x1024 : Shape := ⟨3, ![4, 1024, 1024]⟩
abbrev S512x1024 : Shape := ⟨2, ![512, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2x256x1024, .f32⟩
  | .hbm, ⟨1, _⟩ => ⟨S4x1024x1024, .f32⟩
  | .hbm, ⟨2, _⟩ => ⟨S512x1024, .f32⟩
  | .hbm, ⟨3, _⟩ => ⟨S4x1024x1024, .bf16⟩
  | .hbm, ⟨4, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S256x1024, .f32⟩
  | .local _ .vmem, ⟨4, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemKvReferenceIdeal.lean ====
abbrev S2x256x1024 : Shape := ⟨3, ![2, 256, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S4x1024x1024, .f32⟩
  | .hbm, ⟨2, _⟩ => ⟨S1x1024x1024, .f32⟩
  | .hbm, ⟨3, _⟩ => ⟨S1024x1024, .f32⟩
  | .hbm, ⟨4, _⟩ => ⟨S2x256x1024, .f32⟩
  | .hbm, ⟨5, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Conv.lean ====
abbrev S16384x7680 : Shape := ⟨2, ![16384, 7680]⟩
abbrev S4x3x512 : Shape := ⟨3, ![4, 3, 512]⟩
abbrev S4x512 : Shape := ⟨2, ![4, 512]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S_ : Shape := ⟨0, ![]⟩
abbrev S8x512 : Shape := ⟨2, ![8, 512]⟩
abbrev S16384x512 : Shape := ⟨2, ![16384, 512]⟩
abbrev S512x512 : Shape := ⟨2, ![512, 512]⟩
abbrev S520x512 : Shape := ⟨2, ![520, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x7680, .f32⟩
  | .hbm, ⟨1, _⟩ => ⟨S4x3x512, .f32⟩
  | .hbm, ⟨2, _⟩ => ⟨S4x512, .f32⟩
  | .hbm, ⟨3, _⟩ => ⟨S1x3x512, .f32⟩
  | .hbm, ⟨4, _⟩ => ⟨S3x512, .f32⟩
  | .hbm, ⟨5, _⟩ => ⟨S1x512, .f32⟩
  | .hbm, ⟨6, _⟩ => ⟨S512, .f32⟩
  | .hbm, ⟨7, _⟩ => ⟨S_, .i32⟩
  | .hbm, ⟨8, _⟩ => ⟨S_, .f32⟩
  | .hbm, ⟨9, _⟩ => ⟨S8x512, .f32⟩
  | .hbm, ⟨10, _⟩ => ⟨S1x512, .f32⟩
  | .hbm, ⟨11, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | _, _ => ⟨S16384x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c10_i32 : BitVec 32 := 10#32
  let c0_i32 : BitVec 32 := 0#32
  ![v1.toNat, c10_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c11_i32 : BitVec 32 := 11#32
  let c0_i32 : BitVec 32 := 0#32
  ![v1.toNat, c11_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c9_i32 : BitVec 32 := 9#32
  let c0_i32_0 : BitVec 32 := 0#32
  ![v4.toNat, c9_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c11_i32 : BitVec 32 := 11#32
  let c0_i32_0 : BitVec 32 := 0#32
  ![v4.toNat, c11_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvReferenceIdeal.lean ====
abbrev S16384x7680 : Shape := ⟨2, ![16384, 7680]⟩
abbrev S4x3x512 : Shape := ⟨3, ![4, 3, 512]⟩
abbrev S4x512 : Shape := ⟨2, ![4, 512]⟩
abbrev S16384x512 : Shape := ⟨2, ![16384, 512]⟩
abbrev S2x8192x512 : Shape := ⟨3, ![2, 8192, 512]⟩
abbrev S_ : Shape := ⟨0, ![]⟩
abbrev S2x8194x512 : Shape := ⟨3, ![2, 8194, 512]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 41
  | .vmem => 0
  | .smem => 0
  | _ => 0

abbrev bufTy : (tb : Table) → Fin (tcTables nBuf tb) → BufTy
  | .hbm, ⟨0, _⟩ => ⟨S16384x7680, .f32⟩
  | .hbm, ⟨1, _⟩ => ⟨S4x3x512, .f32⟩
  | .hbm, ⟨2, _⟩ => ⟨S4x512, .f32⟩
  | .hbm, ⟨3, _⟩ => ⟨S16384x512, .f32⟩
  | .hbm, ⟨4, _⟩ => ⟨S2x8192x512, .f32⟩
  | .hbm, ⟨5, _⟩ => ⟨S16384x512, .f32⟩
  | .hbm, ⟨6, _⟩ => ⟨S2x8192x512, .f32⟩
  | .hbm, ⟨7, _⟩ => ⟨S2x8192x512, .f32⟩
  | .hbm, ⟨8, _⟩ => ⟨S_, .i32⟩
  | .hbm, ⟨9, _⟩ => ⟨S_, .f32⟩
  | .hbm, ⟨10, _⟩ => ⟨S2x8194x512, .f32⟩
  | .hbm, ⟨11, _⟩ => ⟨S1x3x512, .f32⟩
  | .hbm, ⟨12, _⟩ => ⟨S3x512, .f32⟩
  | .hbm, ⟨13, _⟩ => ⟨S1x512, .f32⟩
  | .hbm, ⟨14, _⟩ => ⟨S512, .f32⟩
  | .hbm, ⟨15, _⟩ => ⟨S2x8192x512, .f32⟩
  | .hbm, ⟨16, _⟩ => ⟨S1x1x512, .f32⟩
  | .hbm, ⟨17, _⟩ => ⟨S2x8192x512, .f32⟩
  | .hbm, ⟨18, _⟩ => ⟨S2x8192x512, .f32⟩
  | .hbm, ⟨19, _⟩ => ⟨S1x512, .f32⟩
  | .hbm, ⟨20, _⟩ => ⟨S512, .f32⟩
  | .hbm, ⟨21, _⟩ => ⟨S2x8192x512, .f32⟩
  | .hbm, ⟨22, _⟩ => ⟨S1x1x512, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S1x512, .f32⟩
  | .hbm, ⟨27, _⟩ => ⟨S512, .f32⟩
  | .hbm, ⟨28, _⟩ => ⟨S1x1x512, .f32⟩
  | .hbm, ⟨29, _⟩ => ⟨S2x8192x512, .f32⟩
  | .hbm, ⟨30, _⟩ => ⟨S2x8192x512, .f32⟩
  | .hbm, ⟨31, _⟩ => ⟨S2x8192x512, .f32⟩
  | .hbm, ⟨32, _⟩ => ⟨S16384x512, .f32⟩
  | .hbm, ⟨33, _⟩ => ⟨S2x8192x512, .f32⟩
  | .hbm, ⟨34, _⟩ => ⟨S1x512, .f32⟩
  | .hbm, ⟨35, _⟩ => ⟨S512, .f32⟩
  | .hbm, ⟨36, _⟩ => ⟨S1x1x512, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S16384x512, .f32⟩
  | _, _ => ⟨S16384x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== LnIn.lean ====
abbrev S2x8192x1024 : Shape := ⟨3, ![2, 8192, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnInReferenceIdeal.lean ====
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S1x1x1024, .f32⟩
  | .hbm, ⟨30, _⟩ => ⟨S2x8192x1024, .f32⟩
  | .hbm, ⟨31, _⟩ => ⟨S2x8192x1024, .f32⟩
  | .hbm, ⟨32, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Prep.lean ====
abbrev S16384x7680 : Shape := ⟨2, ![16384, 7680]⟩
abbrev S4x128 : Shape := ⟨2, ![4, 128]⟩
abbrev S1x128 : Shape := ⟨2, ![1, 128]⟩
abbrev S128 : Shape := ⟨1, ![128]⟩
abbrev S256x256 : Shape := ⟨2, ![256, 256]⟩
abbrev S_ : Shape := ⟨0, ![]⟩
abbrev S256x8x32 : Shape := ⟨3, ![256, 8, 32]⟩
abbrev S256x8x128 : Shape := ⟨3, ![256, 8, 128]⟩
abbrev S512x8x128 : Shape := ⟨3, ![512, 8, 128]⟩
abbrev S128x32 : Shape := ⟨2, ![128, 32]⟩
abbrev S128x128 : Shape := ⟨2, ![128, 128]⟩
abbrev S256x128 : Shape := ⟨2, ![256, 128]⟩
abbrev S512x1024 : Shape := ⟨2, ![512, 1024]⟩
abbrev S16384x1024 : Shape := ⟨2, ![16384, 1024]⟩
abbrev S16384x128 : Shape := ⟨2, ![16384, 128]⟩
abbrev S2x128x8192 : Shape := ⟨3, ![2, 128, 8192]⟩
abbrev S512x256 : Shape := ⟨2, ![512, 256]⟩
abbrev S512x128 : Shape := ⟨2, ![512, 128]⟩
abbrev S1x128x512 : Shape := ⟨3, ![1, 128, 512]⟩
abbrev S512x512 : Shape := ⟨2, ![512, 512]⟩
abbrev S512 : Shape := ⟨1, ![512]⟩
abbrev S512x1 : Shape := ⟨2, ![512, 1]⟩
abbrev S128x512 : Shape := ⟨2, ![128, 512]⟩

abbrev nBuf : Space → Nat
  | .hbm => 37
  | .vmem => 17
  | .smem => 0
  | _ => 0

abbrev bufTy : (tb : Table) → Fin (tcTables nBuf tb) → BufTy
  | .hbm, ⟨0, _⟩ => ⟨S16384x7680, .f32⟩
  | .hbm, ⟨1, _⟩ => ⟨S4x128, .f32⟩
  | .hbm, ⟨2, _⟩ => ⟨S1x128, .f32⟩
  | .hbm, ⟨3, _⟩ => ⟨S128, .f32⟩
  | .hbm, ⟨4, _⟩ => ⟨S256x256, .i32⟩
  | .hbm, ⟨5, _⟩ => ⟨S256x256, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .f32⟩
  | .hbm, ⟨11, _⟩ => ⟨S256x8x32, .f32⟩
  | .hbm, ⟨12, _⟩ => ⟨S_, .f32⟩
  | .hbm, ⟨13, _⟩ => ⟨S256x8x32, .f32⟩
  | .hbm, ⟨14, _⟩ => ⟨S256x8x128, .f32⟩
  | .hbm, ⟨15, _⟩ => ⟨S256x8x128, .f32⟩
  | .hbm, ⟨16, _⟩ => ⟨S512x8x128, .f32⟩
  | .hbm, ⟨17, _⟩ => ⟨S128x32, .i32⟩
  | .hbm, ⟨18, _⟩ => ⟨S128x32, .i32⟩
  | .hbm, ⟨19, _⟩ => ⟨S_, .i32⟩
  | .hbm, ⟨20, _⟩ => ⟨S128x32, .i32⟩
  | .hbm, ⟨21, _⟩ => ⟨S128x32, .i32⟩
  | .hbm, ⟨22, _⟩ => ⟨S128x32, .i1⟩
  | .hbm, ⟨23, _⟩ => ⟨S128x32, .f32⟩
  | .hbm, ⟨24, _⟩ => ⟨S_, .f32⟩
  | .hbm, ⟨25, _⟩ => ⟨S128x32, .f32⟩
  | .hbm, ⟨26, _⟩ => ⟨S128x128, .f32⟩
  | .hbm, ⟨27, _⟩ => ⟨S128x128, .f32⟩
  | .hbm, ⟨28, _⟩ => ⟨S256x128, .f32⟩
  | .hbm, ⟨29, _⟩ => ⟨S512x1024, .f32⟩
  | .hbm, ⟨30, _⟩ => ⟨S512x1024, .bf16⟩
  | .hbm, ⟨31, _⟩ => ⟨S256x128, .bf16⟩
  | .hbm, ⟨32, _⟩ => ⟨S1x128, .f32⟩
  | .hbm, ⟨33, _⟩ => ⟨S16384x1024, .bf16⟩
  | .hbm, ⟨34, _⟩ => ⟨S16384x128, .bf16⟩
  | .hbm, ⟨35, _⟩ => ⟨S16384x128, .bf16⟩
  | .hbm, ⟨36, _⟩ => ⟨S2x128x8192, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x1024, .bf16⟩
  | .local _ .vmem, ⟨8, _⟩ => ⟨S256x128, .bf16⟩
  | .local _ .vmem, ⟨9, _⟩ => ⟨S512x1024, .bf16⟩
  | .local _ .vmem, ⟨10, _⟩ => ⟨S512x1024, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S1x128x512, .bf16⟩
  | .local _ .vmem, ⟨16, _⟩ => ⟨S1x128x512, .bf16⟩
  | _, _ => ⟨S16384x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev main_v27_2 : Ref sig .tc := ⟨.hbm, 35, rfl⟩
abbrev main_v27_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_1 (i : grid0.Coords) : Fin 2 → Nat :=
  let arg0 : BitVec 32 := BitVec.ofNat 32 (i 0).val
  let c58_i32 : BitVec 32 := 58#32
  let c0_i32 : BitVec 32 := 0#32
  ![arg0.toNat, c58_i32.toNat]

def cc0_transform_2 (i : grid0.Coords) : Fin 2 → Nat :=
  let arg0 : BitVec 32 := BitVec.ofNat 32 (i 0).val
  let c59_i32 : BitVec 32 := 59#32
  let c0_i32 : BitVec 32 := 0#32
  ![arg0.toNat, c59_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PrepReferenceIdeal.lean ====
abbrev S16384x7680 : Shape := ⟨2, ![16384, 7680]⟩
abbrev S4x128 : Shape := ⟨2, ![4, 128]⟩
abbrev S16384x128 : Shape := ⟨2, ![16384, 128]⟩
abbrev S2x8192x128 : Shape := ⟨3, ![2, 8192, 128]⟩
abbrev S_ : Shape := ⟨0, ![]⟩
abbrev S2x8192 : Shape := ⟨2, ![2, 8192]⟩
abbrev S2x8192x1 : Shape := ⟨3, ![2, 8192, 1]⟩
abbrev S1x128 : Shape := ⟨2, ![1, 128]⟩
abbrev S128 : Shape := ⟨1, ![128]⟩
abbrev S1x1x128 : Shape := ⟨3, ![1, 1, 128]⟩
abbrev S2x128x8192 : Shape := ⟨3, ![2, 128, 8192]⟩

abbrev nBuf : Space → Nat
  | .hbm => 26
  | .vmem => 0
  | .smem => 0
  | _ => 0

abbrev bufTy : (tb : Table) → Fin (tcTables nBuf tb) → BufTy
  | .hbm, ⟨0, _⟩ => ⟨S16384x7680, .f32⟩
  | .hbm, ⟨1, _⟩ => ⟨S4x128, .f32⟩
  | .hbm, ⟨2, _⟩ => ⟨S16384x128, .f32⟩
  | .hbm, ⟨3, _⟩ => ⟨S2x8192x128, .f32⟩
  | .hbm, ⟨4, _⟩ => ⟨S2x8192x128, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x128, .f32⟩
  | .hbm, ⟨16, _⟩ => ⟨S2x8192x128, .f32⟩
  | .hbm, ⟨17, _⟩ => ⟨S1x128, .f32⟩
  | .hbm, ⟨18, _⟩ => ⟨S128, .f32⟩
  | .hbm, ⟨19, _⟩ => ⟨S1x1x128, .f32⟩
  | .hbm, ⟨20, _⟩ => ⟨S2x8192x128, .f32⟩
  | .hbm, ⟨21, _⟩ => ⟨S2x8192x128, .f32⟩
  | .hbm, ⟨22, _⟩ => ⟨S16384x128, .f32⟩
  | .hbm, ⟨23, _⟩ => ⟨S16384x128, .bf16⟩
  | .hbm, ⟨24, _⟩ => ⟨S2x128x8192, .f32⟩
  | .hbm, ⟨25, _⟩ => ⟨S2x128x8192, .bf16⟩
  | _, _ => ⟨S16384x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Proof.InProj.Value.lean ====
module

public import proofs.«01_k».proof.Defs
public import proofs.«01_k».proof.Proof.Gen.InProjIdeal.Frame
public import proofs.«01_k».proof.Proof.Gen.InProjReferenceIdeal.Run
public import proofs.«01_k».proof.Proof.Gen.InProjReferenceIdeal.Read
public import Idealize.ShloMosaic.Lib.Pipeline.Value
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.InProjIdeal.Val

open Idealize.ShloMosaic Idealize.ShloMosaic.TcCoe Idealize.SL.Sem
open Cert.InProjIdeal Cert.InProjIdeal.Gen
open Idealize.ShloMosaic.Pipeline (Dat Cfg Window)

variable (m : (ℓ : Loc nD τ sig) → Buf (Elt Ideal) ℓ)

/-- The product of the rows with layer 0 of the packed weight. -/
def G (x : (⟨S16384x1024, .f32⟩ : BufTy).Contents (Elt Ideal)) (w : (⟨S4x1024x7680, .bf16⟩ : BufTy).Contents (Elt Ideal)) :
    (⟨S16384x7680, .f32⟩ : BufTy).Contents (Elt Ideal) :=
  fun i => ∑ k : Fin 1024, x (ix2 (i 0) k) * w (ix3 0 k (i 1))

/-- The packed weight: the column groups of the given one in the kernel's order, then zero columns. -/
def packW (a : (⟨S4x1024x7592, .f32⟩ : BufTy).Contents (Elt Ideal)) : (⟨S4x1024x7680, .bf16⟩ : BufTy).Contents (Elt Ideal) :=
  truncf (F := Ideal) (φ := .f32) .bf16 (concatenate S4x1024x7680 2 [⟨S4x1024x4096, extractStridedSlice S4x1024x4096 ![0, 0, 3496] a slices_S4x1024x7592_S4x1024x4096_0_0_3496⟩,
    ⟨S4x1024x512, extractStridedSlice S4x1024x512 ![0, 0, 0] a slices_S4x1024x7592_S4x1024x512_0_0_0⟩,
    ⟨S4x1024x512, extractStridedSlice S4x1024x512 ![0, 0, 936] a slices_S4x1024x7592_S4x1024x512_0_0_936⟩,
    ⟨S4x1024x512, extractStridedSlice S4x1024x512 ![0, 0, 1448] a slices_S4x1024x7592_S4x1024x512_0_0_1448⟩,
    ⟨S4x1024x512, extractStridedSlice S4x1024x512 ![0, 0, 1960] a slices_S4x1024x7592_S4x1024x512_0_0_1960⟩,
    ⟨S4x1024x512, extractStridedSlice S4x1024x512 ![0, 0, 2472] a slices_S4x1024x7592_S4x1024x512_0_0_2472⟩,
    ⟨S4x1024x512, extractStridedSlice S4x1024x512 ![0, 0, 2984] a slices_S4x1024x7592_S4x1024x512_0_0_2984⟩,
    ⟨S4x1024x256, extractStridedSlice S4x1024x256 ![0, 0, 640] a slices_S4x1024x7592_S4x1024x256_0_0_640⟩,
    ⟨S4x1024x128, extractStridedSlice S4x1024x128 ![0, 0, 512] a slices_S4x1024x7592_S4x1024x128_0_0_512⟩,
    ⟨S4x1024x32, extractStridedSlice S4x1024x32 ![0, 0, 896] a slices_S4x1024x7592_S4x1024x32_0_0_896⟩,
    ⟨S4x1024x8, extractStridedSlice S4x1024x8 ![0, 0, 928] a slices_S4x1024x7592_S4x1024x8_0_0_928⟩,
    ⟨S4x1024x88, broadcastInDim S4x1024x88 ![] bcast_S_S4x1024x88 (constant (F := Ideal) S_ .f32 0x00000000#32)⟩]
    concatenates_S4x1024x4096_S4x1024x512_S4x1024x512_S4x1024x512_S4x1024x512_S4x1024x512_S4x1024x512_S4x1024x256_S4x1024x128_S4x1024x32_S4x1024x8_S4x1024x88_S4x1024x7680_d2) bitsLt_bf16_f32

/-- The weight the region finds is the packed one. -/
theorem w_eq (c : Dev nD) : V m c main_v13 = packW (m ((c : Thread nD τ).loc main_arg1)) := by
  show StableHlo.after _ _ _ = _
  simp only [hostOps0, List.flatten_cons, List.flatten_nil, List.append_nil, List.cons_append, List.nil_append]
  after_results
  rfl

/-- What the body stores, read at a row and a column. -/
theorem pay_apply (x0 : Vec Ideal S256x1024 .f32) (x1 : Vec Ideal S1x1024x7680 .bf16) (r : Fin 256) (q : Fin 7680) :
    k0_pay1 x0 x1 (ix2 r q) = ∑ k : Fin 1024, (x0 (ix2 r k) : EReal) * x1 (ix3 0 k q) := by
  pointwise [k0_pay1]

/-- The region leaves the whole product in its output array. -/
theorem out_eq (c : Dev nD) : (dats m 0 c).arrAt 2 (cfgs 0).N = G (V m c main_arg0) (V m c main_v13) := by
  refine (dats m 0 c).arrAt_eq_of_covers 2 _ (by decide +kernel) fun t hf y => ?_
  blk_simp
  rw [after0_2]
  frame_out
  idx_vars y
  have e0 : ∀ t : Fin cfg0.N, win0_0.index t = ![(grid0.coords t 0).val, 0] := (by decide +kernel : ∀ t : Fin grid0.N, _)
  have e1 : ∀ t : Fin cfg0.N, win0_1.index t = ![0, 0, 0] := (by decide +kernel : ∀ t : Fin grid0.N, _)
  have e2 : ∀ t : Fin cfg0.N, win0_2.index t = ![(grid0.coords t 0).val, 0] := (by decide +kernel : ∀ t : Fin grid0.N, _)
  refine (pay_apply _ _ y0 y1).trans ?_
  refine Finset.sum_congr (M := EReal) rfl fun k _ => congrArg₂ (fun a b : EReal => a * b) ?_ ?_
  · blk_ext [iblk, V, e0 t, e2 t]
  · blk_ext [iblk, V, e1 t, e2 t]

/-- Columns from 0 on of the packed weight are those from 3496 on of the given one. -/
theorem pack_0 (a : (⟨S4x1024x7592, .f32⟩ : BufTy).Contents (Elt Ideal)) (l : Fin 4) (d : Fin 1024) (j : Fin 4096) :
    packW a (ix3 l d ⟨0 + j.val, by omega⟩) = a (ix3 l d ⟨3496 + j.val, by omega⟩) := by
  have hj := j.isLt
  pointwise [packW]

/-- Columns from 4096 on of the packed weight are those from 0 on of the given one. -/
theorem pack_4096 (a : (⟨S4x1024x7592, .f32⟩ : BufTy).Contents (Elt Ideal)) (l : Fin 4) (d : Fin 1024) (j : Fin 512) :
    packW a (ix3 l d ⟨4096 + j.val, by omega⟩) = a (ix3 l d ⟨0 + j.val, by omega⟩) := by
  have hj := j.isLt
  pointwise [packW]

/-- Columns from 4608 on of the packed weight are those from 936 on of the given one. -/
theorem pack_4608 (a : (⟨S4x1024x7592, .f32⟩ : BufTy).Contents (Elt Ideal)) (l : Fin 4) (d : Fin 1024) (j : Fin 512) :
    packW a (ix3 l d ⟨4608 + j.val, by omega⟩) = a (ix3 l d ⟨936 + j.val, by omega⟩) := by
  have hj := j.isLt
  pointwise [packW]
  rw [dif_neg (by omega)]
  rw [dif_neg (by omega)]
  rw [dif_pos (by omega)]
  exact congrArg a (congrArg (ix3 l d) (Fin.ext (by dsimp only; omega)))

/-- Columns from 5120 on of the packed weight are those from 1448 on of the given one. -/
theorem pack_5120 (a : (⟨S4x1024x7592, .f32⟩ : BufTy).Contents (Elt Ideal)) (l : Fin 4) (d : Fin 1024) (j : Fin 512) :
    packW a (ix3 l d ⟨5120 + j.val, by omega⟩) = a (ix3 l d ⟨1448 + j.val, by omega⟩) := by
  have hj := j.isLt
  pointwise [packW]
  rw [dif_neg (by omega)]
  rw [dif_neg (by omega)]
  rw [dif_neg (by omega)]
  rw [dif_pos (by omega)]
  exact congrArg a (congrArg (ix3 l d) (Fin.ext (by dsimp only; omega)))

/-- Columns from 5632 on of the packed weight are those from 1960 on of the given one. -/
theorem pack_5632 (a : (⟨S4x1024x7592, .f32⟩ : BufTy).Contents (Elt Ideal)) (l : Fin 4) (d : Fin 1024) (j : Fin 512) :
    packW a (ix3 l d ⟨5632 + j.val, by omega⟩) = a (ix3 l d ⟨1960 + j.val, by omega⟩) := by
  have hj := j.isLt
  pointwise [packW]
  rw [dif_neg (by omega)]
  rw [dif_neg (by omega)]
  rw [dif_neg (by omega)]
  rw [dif_neg (by omega)]
  rw [dif_pos (by omega)]
  exact congrArg a (congrArg (ix3 l d) (Fin.ext (by dsimp only; omega)))

/-- Columns from 6144 on of the packed weight are those from 2472 on of the given one. -/
theorem pack_6144 (a : (⟨S4x1024x7592, .f32⟩ : BufTy).Contents (Elt Ideal)) (l : Fin 4) (d : Fin 1024) (j : Fin 512) :
    packW a (ix3 l d ⟨6144 + j.val, by omega⟩) = a (ix3 l d ⟨2472 + j.val, by omega⟩) := by
  have hj := j.isLt
  pointwise [packW]
  rw [dif_neg (by omega)]
  rw [dif_neg (by omega)]
  rw [dif_neg (by omega)]
  rw [dif_neg (by omega)]
  rw [dif_neg (by omega)]
  rw [dif_pos (by omega)]
  exact congrArg a (congrArg (ix3 l d) (Fin.ext (by dsimp only; omega)))

/-- Columns from 6656 on of the packed weight are those from 2984 on of the given one. -/
theorem pack_6656 (a : (⟨S4x1024x7592, .f32⟩ : BufTy).Contents (Elt Ideal)) (l : Fin 4) (d : Fin 1024) (j : Fin 512) :
    packW a (ix3 l d ⟨6656 + j.val, by omega⟩) = a (ix3 l d ⟨2984 + j.val, by omega⟩) := by
  have hj := j.isLt
  pointwise [packW]
  rw [dif_neg (by omega)]
  rw [dif_neg (by omega)]
  rw [dif_neg (by omega)]
  rw [dif_neg (by omega)]
  rw [dif_neg (by omega)]
  rw [dif_neg (by omega)]
  rw [dif_pos (by omega)]
  exact congrArg a (congrArg (ix3 l d) (Fin.ext (by dsimp only; omega)))

/-- Columns from 7168 on of the packed weight are those from 640 on of the given one. -/
theorem pack_7168 (a : (⟨S4x1024x7592, .f32⟩ : BufTy).Contents (Elt Ideal)) (l : Fin 4) (d : Fin 1024) (j : Fin 256) :
    packW a (ix3 l d ⟨7168 + j.val, by omega⟩) = a (ix3 l d ⟨640 + j.val, by omega⟩) := by
  have hj := j.isLt
  pointwise [packW]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg a (congrArg (ix3 l d) (Fin.ext (by dsimp only; omega)))

/-- Columns from 7424 on of the packed weight are those from 512 on of the given one. -/
theorem pack_7424 (a : (⟨S4x1024x7592, .f32⟩ : BufTy).Contents (Elt Ideal)) (l : Fin 4) (d : Fin 1024) (j : Fin 128) :
    packW a (ix3 l d ⟨7424 + j.val, by omega⟩) = a (ix3 l d ⟨512 + j.val, by omega⟩) := by
  have hj := j.isLt
  pointwise [packW]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg a (congrArg (ix3 l d) (Fin.ext (by dsimp only; omega)))

/-- Columns from 7552 on of the packed weight are those from 896 on of the given one. -/
theorem pack_7552 (a : (⟨S4x1024x7592, .f32⟩ : BufTy).Contents (Elt Ideal)) (l : Fin 4) (d : Fin 1024) (j : Fin 32) :
    packW a (ix3 l d ⟨7552 + j.val, by omega⟩) = a (ix3 l d ⟨896 + j.val, by omega⟩) := by
  have hj := j.isLt
  pointwise [packW]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg a (congrArg (ix3 l d) (Fin.ext (by dsimp only; omega)))

/-- Columns from 7584 on of the packed weight are those from 928 on of the given one. -/
theorem pack_7584 (a : (⟨S4x1024x7592, .f32⟩ : BufTy).Contents (Elt Ideal)) (l : Fin 4) (d : Fin 1024) (j : Fin 8) :
    packW a (ix3 l d ⟨7584 + j.val, by omega⟩) = a (ix3 l d ⟨928 + j.val, by omega⟩) := by
  have hj := j.isLt
  pointwise [packW]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg a (congrArg (ix3 l d) (Fin.ext (by dsimp only; omega)))

/-- Result 0: the kernel's slice of the packed product is the reference's slice of its product. -/
theorem res_4096 (x : (⟨S16384x1024, .f32⟩ : BufTy).Contents (Elt Ideal)) (a : (⟨S4x1024x7592, .f32⟩ : BufTy).Contents (Elt Ideal)) :
    extractStridedSlice S16384x512 ![0, 4096] (G x (packW a)) slices_S16384x7680_S16384x512_0_4096
      = Cert.InProjReferenceIdeal.Read.val_main_v3 (F := Ideal) x a := by
  funext i
  idx_vars i
  rw [Cert.InProjReferenceIdeal.Read.val_main_v3_apply, Cert.InProjReferenceIdeal.Read.val_main_v2_apply]
  pointwise [G]
  refine Finset.sum_congr rfl fun d _ => ?_
  rw [Cert.InProjReferenceIdeal.Read.val_main_v1_apply, Cert.InProjReferenceIdeal.Read.val_main_v0_apply]
  have e : packW a (ix3 0 d ⟨4096 + i1.val, by omega⟩) = a (ix3 0 d ⟨0 + i1.val, by omega⟩) := pack_4096 a 0 d i1
  refine congrArg₂ (· * ·) (congrArg x ?_) (Eq.trans e (congrArg a ?_))
  · funext q; apply Fin.ext; match q with
    | ⟨0, _⟩ => rfl
    | ⟨1, _⟩ => rfl
  · funext q; apply Fin.ext; match q with
    | ⟨0, _⟩ => rfl
    | ⟨1, _⟩ => show d.val = (d.val * 7592 + i1.val) / 7592 % 1024; omega
    | ⟨2, _⟩ => show 0 + i1.val = (d.val * 7592 + i1.val) % 7592; omega

/-- After the lines that follow the region, result 0 is the reference's. -/
theorem tail_4096 (c : Dev nD) : Pipeline.afterTail₀ cfgs (dats m) 0 (V0 m) [hostOps1] c main_v15
    = Cert.InProjReferenceIdeal.Read.val_main_v3 (F := Ideal) (m ((c : Thread nD τ).loc main_arg0)) (m ((c : Thread nD τ).loc main_arg1)) := by
  rw [← res_4096, ← w_eq m c, ← V_main_arg0 m c, ← out_eq m c]
  unfold Pipeline.afterTail₀
  simp only [hostOps1, List.flatten_cons, List.flatten_nil, List.append_nil, List.cons_append, List.nil_append]
  after_results
  exact congrArg (fun z => extractStridedSlice S16384x512 ![0, 4096] z slices_S16384x7680_S16384x512_0_4096)
    (Pipeline.withArrays_arr (cfgs 0).spec winFacts0.arr_inj c (V0 m c) _ 2)

/-- Result 1: the kernel's slice of the packed product is the reference's slice of its product. -/
theorem res_7424 (x : (⟨S16384x1024, .f32⟩ : BufTy).Contents (Elt Ideal)) (a : (⟨S4x1024x7592, .f32⟩ : BufTy).Contents (Elt Ideal)) :
    extractStridedSlice S16384x128 ![0, 7424] (G x (packW a)) slices_S16384x7680_S16384x128_0_7424
      = Cert.InProjReferenceIdeal.Read.val_main_v4 (F := Ideal) x a := by
  funext i
  idx_vars i
  rw [Cert.InProjReferenceIdeal.Read.val_main_v4_apply, Cert.InProjReferenceIdeal.Read.val_main_v2_apply]
  pointwise [G]
  refine Finset.sum_congr rfl fun d _ => ?_
  rw [Cert.InProjReferenceIdeal.Read.val_main_v1_apply, Cert.InProjReferenceIdeal.Read.val_main_v0_apply]
  have e : packW a (ix3 0 d ⟨7424 + i1.val, by omega⟩) = a (ix3 0 d ⟨512 + i1.val, by omega⟩) := pack_7424 a 0 d i1
  refine congrArg₂ (· * ·) (congrArg x ?_) (Eq.trans e (congrArg a ?_))
  · funext q; apply Fin.ext; match q with
    | ⟨0, _⟩ => rfl
    | ⟨1, _⟩ => rfl
  · funext q; apply Fin.ext; match q with
    | ⟨0, _⟩ => rfl
    | ⟨1, _⟩ => show d.val = (d.val * 7592 + (512 + i1.val)) / 7592 % 1024; omega
    | ⟨2, _⟩ => show 512 + i1.val = (d.val * 7592 + (512 + i1.val)) % 7592; omega

/-- After the lines that follow the region, result 1 is the reference's. -/
theorem tail_7424 (c : Dev nD) : Pipeline.afterTail₀ cfgs (dats m) 0 (V0 m) [hostOps1] c main_v16
    = Cert.InProjReferenceIdeal.Read.val_main_v4 (F := Ideal) (m ((c : Thread nD τ).loc main_arg0)) (m ((c : Thread nD τ).loc main_arg1)) := by
  rw [← res_7424, ← w_eq m c, ← V_main_arg0 m c, ← out_eq m c]
  unfold Pipeline.afterTail₀
  simp only [hostOps1, List.flatten_cons, List.flatten_nil, List.append_nil, List.cons_append, List.nil_append]
  after_results
  exact congrArg (fun z => extractStridedSlice S16384x128 ![0, 7424] z slices_S16384x7680_S16384x128_0_7424)
    (Pipeline.withArrays_arr (cfgs 0).spec winFacts0.arr_inj c (V0 m c) _ 2)

/-- Result 2: the kernel's slice of the packed product is the reference's slice of its product. -/
theorem res_7168 (x : (⟨S16384x1024, .f32⟩ : BufTy).Contents (Elt Ideal)) (a : (⟨S4x1024x7592, .f32⟩ : BufTy).Contents (Elt Ideal)) :
    extractStridedSlice S16384x256 ![0, 7168] (G x (packW a)) slices_S16384x7680_S16384x256_0_7168
      = Cert.InProjReferenceIdeal.Read.val_main_v5 (F := Ideal) x a := by
  funext i
  idx_vars i
  rw [Cert.InProjReferenceIdeal.Read.val_main_v5_apply, Cert.InProjReferenceIdeal.Read.val_main_v2_apply]
  pointwise [G]
  refine Finset.sum_congr rfl fun d _ => ?_
  rw [Cert.InProjReferenceIdeal.Read.val_main_v1_apply, Cert.InProjReferenceIdeal.Read.val_main_v0_apply]
  have e : packW a (ix3 0 d ⟨7168 + i1.val, by omega⟩) = a (ix3 0 d ⟨640 + i1.val, by omega⟩) := pack_7168 a 0 d i1
  refine congrArg₂ (· * ·) (congrArg x ?_) (Eq.trans e (congrArg a ?_))
  · funext q; apply Fin.ext; match q with
    | ⟨0, _⟩ => rfl
    | ⟨1, _⟩ => rfl
  · funext q; apply Fin.ext; match q with
    | ⟨0, _⟩ => rfl
    | ⟨1, _⟩ => show d.val = (d.val * 7592 + (640 + i1.val)) / 7592 % 1024; omega
    | ⟨2, _⟩ => show 640 + i1.val = (d.val * 7592 + (640 + i1.val)) % 7592; omega

/-- After the lines that follow the region, result 2 is the reference's. -/
theorem tail_7168 (c : Dev nD) : Pipeline.afterTail₀ cfgs (dats m) 0 (V0 m) [hostOps1] c main_v17
    = Cert.InProjReferenceIdeal.Read.val_main_v5 (F := Ideal) (m ((c : Thread nD τ).loc main_arg0)) (m ((c : Thread nD τ).loc main_arg1)) := by
  rw [← res_7168, ← w_eq m c, ← V_main_arg0 m c, ← out_eq m c]
  unfold Pipeline.afterTail₀
  simp only [hostOps1, List.flatten_cons, List.flatten_nil, List.append_nil, List.cons_append, List.nil_append]
  after_results
  exact congrArg (fun z => extractStridedSlice S16384x256 ![0, 7168] z slices_S16384x7680_S16384x256_0_7168)
    (Pipeline.withArrays_arr (cfgs 0).spec winFacts0.arr_inj c (V0 m c) _ 2)

/-- Result 3: the kernel's slice of the packed product is the reference's slice of its product. -/
theorem res_7552 (x : (⟨S16384x1024, .f32⟩ : BufTy).Contents (Elt Ideal)) (a : (⟨S4x1024x7592, .f32⟩ : BufTy).Contents (Elt Ideal)) :
    extractStridedSlice S16384x32 ![0, 7552] (G x (packW a)) slices_S16384x7680_S16384x32_0_7552
      = Cert.InProjReferenceIdeal.Read.val_main_v6 (F := Ideal) x a := by
  funext i
  idx_vars i
  rw [Cert.InProjReferenceIdeal.Read.val_main_v6_apply, Cert.InProjReferenceIdeal.Read.val_main_v2_apply]
  pointwise [G]
  refine Finset.sum_congr rfl fun d _ => ?_
  rw [Cert.InProjReferenceIdeal.Read.val_main_v1_apply, Cert.InProjReferenceIdeal.Read.val_main_v0_apply]
  have e : packW a (ix3 0 d ⟨7552 + i1.val, by omega⟩) = a (ix3 0 d ⟨896 + i1.val, by omega⟩) := pack_7552 a 0 d i1
  refine congrArg₂ (· * ·) (congrArg x ?_) (Eq.trans e (congrArg a ?_))
  · funext q; apply Fin.ext; match q with
    | ⟨0, _⟩ => rfl
    | ⟨1, _⟩ => rfl
  · funext q; apply Fin.ext; match q with
    | ⟨0, _⟩ => rfl
    | ⟨1, _⟩ => show d.val = (d.val * 7592 + (896 + i1.val)) / 7592 % 1024; omega
    | ⟨2, _⟩ => show 896 + i1.val = (d.val * 7592 + (896 + i1.val)) % 7592; omega

/-- After the lines that follow the region, result 3 is the reference's. -/
theorem tail_7552 (c : Dev nD) : Pipeline.afterTail₀ cfgs (dats m) 0 (V0 m) [hostOps1] c main_v18
    = Cert.InProjReferenceIdeal.Read.val_main_v6 (F := Ideal) (m ((c : Thread nD τ).loc main_arg0)) (m ((c : Thread nD τ).loc main_arg1)) := by
  rw [← res_7552, ← w_eq m c, ← V_main_arg0 m c, ← out_eq m c]
  unfold Pipeline.afterTail₀
  simp only [hostOps1, List.flatten_cons, List.flatten_nil, List.append_nil, List.cons_append, List.nil_append]
  after_results
  exact congrArg (fun z => extractStridedSlice S16384x32 ![0, 7552] z slices_S16384x7680_S16384x32_0_7552)
    (Pipeline.withArrays_arr (cfgs 0).spec winFacts0.arr_inj c (V0 m c) _ 2)

/-- Result 4: the kernel's slice of the packed product is the reference's slice of its product. -/
theorem res_7584 (x : (⟨S16384x1024, .f32⟩ : BufTy).Contents (Elt Ideal)) (a : (⟨S4x1024x7592, .f32⟩ : BufTy).Contents (Elt Ideal)) :
    extractStridedSlice S16384x8 ![0, 7584] (G x (packW a)) slices_S16384x7680_S16384x8_0_7584
      = Cert.InProjReferenceIdeal.Read.val_main_v7 (F := Ideal) x a := by
  funext i
  idx_vars i
  rw [Cert.InProjReferenceIdeal.Read.val_main_v7_apply, Cert.InProjReferenceIdeal.Read.val_main_v2_apply]
  pointwise [G]
  refine Finset.sum_congr rfl fun d _ => ?_
  rw [Cert.InProjReferenceIdeal.Read.val_main_v1_apply, Cert.InProjReferenceIdeal.Read.val_main_v0_apply]
  have e : packW a (ix3 0 d ⟨7584 + i1.val, by omega⟩) = a (ix3 0 d ⟨928 + i1.val, by omega⟩) := pack_7584 a 0 d i1
  refine congrArg₂ (· * ·) (congrArg x ?_) (Eq.trans e (congrArg a ?_))
  · funext q; apply Fin.ext; match q with
    | ⟨0, _⟩ => rfl
    | ⟨1, _⟩ => rfl
  · funext q; apply Fin.ext; match q with
    | ⟨0, _⟩ => rfl
    | ⟨1, _⟩ => show d.val = (d.val * 7592 + (928 + i1.val)) / 7592 % 1024; omega
    | ⟨2, _⟩ => show 928 + i1.val = (d.val * 7592 + (928 + i1.val)) % 7592; omega

/-- After the lines that follow the region, result 4 is the reference's. -/
theorem tail_7584 (c : Dev nD) : Pipeline.afterTail₀ cfgs (dats m) 0 (V0 m) [hostOps1] c main_v19
    = Cert.InProjReferenceIdeal.Read.val_main_v7 (F := Ideal) (m ((c : Thread nD τ).loc main_arg0)) (m ((c : Thread nD τ).loc main_arg1)) := by
  rw [← res_7584, ← w_eq m c, ← V_main_arg0 m c, ← out_eq m c]
  unfold Pipeline.afterTail₀
  simp only [hostOps1, List.flatten_cons, List.flatten_nil, List.append_nil, List.cons_append, List.nil_append]
  after_results
  exact congrArg (fun z => extractStridedSlice S16384x8 ![0, 7584] z slices_S16384x7680_S16384x8_0_7584)
    (Pipeline.withArrays_arr (cfgs 0).spec winFacts0.arr_inj c (V0 m c) _ 2)

/-- Result 5: the kernel's slice of the packed product is the reference's slice of its product. -/
theorem res_4608 (x : (⟨S16384x1024, .f32⟩ : BufTy).Contents (Elt Ideal)) (a : (⟨S4x1024x7592, .f32⟩ : BufTy).Contents (Elt Ideal)) :
    extractStridedSlice S16384x512 ![0, 4608] (G x (packW a)) slices_S16384x7680_S16384x512_0_4608
      = Cert.InProjReferenceIdeal.Read.val_main_v8 (F := Ideal) x a := by
  funext i
  idx_vars i
  rw [Cert.InProjReferenceIdeal.Read.val_main_v8_apply, Cert.InProjReferenceIdeal.Read.val_main_v2_apply]
  pointwise [G]
  refine Finset.sum_congr rfl fun d _ => ?_
  rw [Cert.InProjReferenceIdeal.Read.val_main_v1_apply, Cert.InProjReferenceIdeal.Read.val_main_v0_apply]
  have e : packW a (ix3 0 d ⟨4608 + i1.val, by omega⟩) = a (ix3 0 d ⟨936 + i1.val, by omega⟩) := pack_4608 a 0 d i1
  refine congrArg₂ (· * ·) (congrArg x ?_) (Eq.trans e (congrArg a ?_))
  · funext q; apply Fin.ext; match q with
    | ⟨0, _⟩ => rfl
    | ⟨1, _⟩ => rfl
  · funext q; apply Fin.ext; match q with
    | ⟨0, _⟩ => rfl
    | ⟨1, _⟩ => show d.val = (d.val * 7592 + (936 + i1.val)) / 7592 % 1024; omega
    | ⟨2, _⟩ => show 936 + i1.val = (d.val * 7592 + (936 + i1.val)) % 7592; omega

/-- After the lines that follow the region, result 5 is the reference's. -/
theorem tail_4608 (c : Dev nD) : Pipeline.afterTail₀ cfgs (dats m) 0 (V0 m) [hostOps1] c main_v20
    = Cert.InProjReferenceIdeal.Read.val_main_v8 (F := Ideal) (m ((c : Thread nD τ).loc main_arg0)) (m ((c : Thread nD τ).loc main_arg1)) := by
  rw [← res_4608, ← w_eq m c, ← V_main_arg0 m c, ← out_eq m c]
  unfold Pipeline.afterTail₀
  simp only [hostOps1, List.flatten_cons, List.flatten_nil, List.append_nil, List.cons_append, List.nil_append]
  after_results
  exact congrArg (fun z => extractStridedSlice S16384x512 ![0, 4608] z slices_S16384x7680_S16384x512_0_4608)
    (Pipeline.withArrays_arr (cfgs 0).spec winFacts0.arr_inj c (V0 m c) _ 2)

/-- Result 6: the kernel's slice of the packed product is the reference's slice of its product. -/
theorem res_5120 (x : (⟨S16384x1024, .f32⟩ : BufTy).Contents (Elt Ideal)) (a : (⟨S4x1024x7592, .f32⟩ : BufTy).Contents (Elt Ideal)) :
    extractStridedSlice S16384x512 ![0, 5120] (G x (packW a)) slices_S16384x7680_S16384x512_0_5120
      = Cert.InProjReferenceIdeal.Read.val_main_v9 (F := Ideal) x a := by
  funext i
  idx_vars i
  rw [Cert.InProjReferenceIdeal.Read.val_main_v9_apply, Cert.InProjReferenceIdeal.Read.val_main_v2_apply]
  pointwise [G]
  refine Finset.sum_congr rfl fun d _ => ?_
  rw [Cert.InProjReferenceIdeal.Read.val_main_v1_apply, Cert.InProjReferenceIdeal.Read.val_main_v0_apply]
  have e : packW a (ix3 0 d ⟨5120 + i1.val, by omega⟩) = a (ix3 0 d ⟨1448 + i1.val, by omega⟩) := pack_5120 a 0 d i1
  refine congrArg₂ (· * ·) (congrArg x ?_) (Eq.trans e (congrArg a ?_))
  · funext q; apply Fin.ext; match q with
    | ⟨0, _⟩ => rfl
    | ⟨1, _⟩ => rfl
  · funext q; apply Fin.ext; match q with
    | ⟨0, _⟩ => rfl
    | ⟨1, _⟩ => show d.val = (d.val * 7592 + (1448 + i1.val)) / 7592 % 1024; omega
    | ⟨2, _⟩ => show 1448 + i1.val = (d.val * 7592 + (1448 + i1.val)) % 7592; omega

/-- After the lines that follow the region, result 6 is the reference's. -/
theorem tail_5120 (c : Dev nD) : Pipeline.afterTail₀ cfgs (dats m) 0 (V0 m) [hostOps1] c main_v21
    = Cert.InProjReferenceIdeal.Read.val_main_v9 (F := Ideal) (m ((c : Thread nD τ).loc main_arg0)) (m ((c : Thread nD τ).loc main_arg1)) := by
  rw [← res_5120, ← w_eq m c, ← V_main_arg0 m c, ← out_eq m c]
  unfold Pipeline.afterTail₀
  simp only [hostOps1, List.flatten_cons, List.flatten_nil, List.append_nil, List.cons_append, List.nil_append]
  after_results
  exact congrArg (fun z => extractStridedSlice S16384x512 ![0, 5120] z slices_S16384x7680_S16384x512_0_5120)
    (Pipeline.withArrays_arr (cfgs 0).spec winFacts0.arr_inj c (V0 m c) _ 2)

/-- Result 7: the kernel's slice of the packed product is the reference's slice of its product. -/
theorem res_5632 (x : (⟨S16384x1024, .f32⟩ : BufTy).Contents (Elt Ideal)) (a : (⟨S4x1024x7592, .f32⟩ : BufTy).Contents (Elt Ideal)) :
    extractStridedSlice S16384x512 ![0, 5632] (G x (packW a)) slices_S16384x7680_S16384x512_0_5632
      = Cert.InProjReferenceIdeal.Read.val_main_v10 (F := Ideal) x a := by
  funext i
  idx_vars i
  rw [Cert.InProjReferenceIdeal.Read.val_main_v10_apply, Cert.InProjReferenceIdeal.Read.val_main_v2_apply]
  pointwise [G]
  refine Finset.sum_congr rfl fun d _ => ?_
  rw [Cert.InProjReferenceIdeal.Read.val_main_v1_apply, Cert.InProjReferenceIdeal.Read.val_main_v0_apply]
  have e : packW a (ix3 0 d ⟨5632 + i1.val, by omega⟩) = a (ix3 0 d ⟨1960 + i1.val, by omega⟩) := pack_5632 a 0 d i1
  refine congrArg₂ (· * ·) (congrArg x ?_) (Eq.trans e (congrArg a ?_))
  · funext q; apply Fin.ext; match q with
    | ⟨0, _⟩ => rfl
    | ⟨1, _⟩ => rfl
  · funext q; apply Fin.ext; match q with
    | ⟨0, _⟩ => rfl
    | ⟨1, _⟩ => show d.val = (d.val * 7592 + (1960 + i1.val)) / 7592 % 1024; omega
    | ⟨2, _⟩ => show 1960 + i1.val = (d.val * 7592 + (1960 + i1.val)) % 7592; omega

/-- After the lines that follow the region, result 7 is the reference's. -/
theorem tail_5632 (c : Dev nD) : Pipeline.afterTail₀ cfgs (dats m) 0 (V0 m) [hostOps1] c main_v22
    = Cert.InProjReferenceIdeal.Read.val_main_v10 (F := Ideal) (m ((c : Thread nD τ).loc main_arg0)) (m ((c : Thread nD τ).loc main_arg1)) := by
  rw [← res_5632, ← w_eq m c, ← V_main_arg0 m c, ← out_eq m c]
  unfold Pipeline.afterTail₀
  simp only [hostOps1, List.flatten_cons, List.flatten_nil, List.append_nil, List.cons_append, List.nil_append]
  after_results
  exact congrArg (fun z => extractStridedSlice S16384x512 ![0, 5632] z slices_S16384x7680_S16384x512_0_5632)
    (Pipeline.withArrays_arr (cfgs 0).spec winFacts0.arr_inj c (V0 m c) _ 2)

/-- Result 8: the kernel's slice of the packed product is the reference's slice of its product. -/
theorem res_6144 (x : (⟨S16384x1024, .f32⟩ : BufTy).Contents (Elt Ideal)) (a : (⟨S4x1024x7592, .f32⟩ : BufTy).Contents (Elt Ideal)) :
    extractStridedSlice S16384x512 ![0, 6144] (G x (packW a)) slices_S16384x7680_S16384x512_0_6144
      = Cert.InProjReferenceIdeal.Read.val_main_v11 (F := Ideal) x a := by
  funext i
  idx_vars i
  rw [Cert.InProjReferenceIdeal.Read.val_main_v11_apply, Cert.InProjReferenceIdeal.Read.val_main_v2_apply]
  pointwise [G]
  refine Finset.sum_congr rfl fun d _ => ?_
  rw [Cert.InProjReferenceIdeal.Read.val_main_v1_apply, Cert.InProjReferenceIdeal.Read.val_main_v0_apply]
  have e : packW a (ix3 0 d ⟨6144 + i1.val, by omega⟩) = a (ix3 0 d ⟨2472 + i1.val, by omega⟩) := pack_6144 a 0 d i1
  refine congrArg₂ (· * ·) (congrArg x ?_) (Eq.trans e (congrArg a ?_))
  · funext q; apply Fin.ext; match q with
    | ⟨0, _⟩ => rfl
    | ⟨1, _⟩ => rfl
  · funext q; apply Fin.ext; match q with
    | ⟨0, _⟩ => rfl
    | ⟨1, _⟩ => show d.val = (d.val * 7592 + (2472 + i1.val)) / 7592 % 1024; omega
    | ⟨2, _⟩ => show 2472 + i1.val = (d.val * 7592 + (2472 + i1.val)) % 7592; omega

/-- After the lines that follow the region, result 8 is the reference's. -/
theorem tail_6144 (c : Dev nD) : Pipeline.afterTail₀ cfgs (dats m) 0 (V0 m) [hostOps1] c main_v23
    = Cert.InProjReferenceIdeal.Read.val_main_v11 (F := Ideal) (m ((c : Thread nD τ).loc main_arg0)) (m ((c : Thread nD τ).loc main_arg1)) := by
  rw [← res_6144, ← w_eq m c, ← V_main_arg0 m c, ← out_eq m c]
  unfold Pipeline.afterTail₀
  simp only [hostOps1, List.flatten_cons, List.flatten_nil, List.append_nil, List.cons_append, List.nil_append]
  after_results
  exact congrArg (fun z => extractStridedSlice S16384x512 ![0, 6144] z slices_S16384x7680_S16384x512_0_6144)
    (Pipeline.withArrays_arr (cfgs 0).spec winFacts0.arr_inj c (V0 m c) _ 2)

/-- Result 9: the kernel's slice of the packed product is the reference's slice of its product. -/
theorem res_6656 (x : (⟨S16384x1024, .f32⟩ : BufTy).Contents (Elt Ideal)) (a : (⟨S4x1024x7592, .f32⟩ : BufTy).Contents (Elt Ideal)) :
    extractStridedSlice S16384x512 ![0, 6656] (G x (packW a)) slices_S16384x7680_S16384x512_0_6656
      = Cert.InProjReferenceIdeal.Read.val_main_v12 (F := Ideal) x a := by
  funext i
  idx_vars i
  rw [Cert.InProjReferenceIdeal.Read.val_main_v12_apply, Cert.InProjReferenceIdeal.Read.val_main_v2_apply]
  pointwise [G]
  refine Finset.sum_congr rfl fun d _ => ?_
  rw [Cert.InProjReferenceIdeal.Read.val_main_v1_apply, Cert.InProjReferenceIdeal.Read.val_main_v0_apply]
  have e : packW a (ix3 0 d ⟨6656 + i1.val, by omega⟩) = a (ix3 0 d ⟨2984 + i1.val, by omega⟩) := pack_6656 a 0 d i1
  refine congrArg₂ (· * ·) (congrArg x ?_) (Eq.trans e (congrArg a ?_))
  · funext q; apply Fin.ext; match q with
    | ⟨0, _⟩ => rfl
    | ⟨1, _⟩ => rfl
  · funext q; apply Fin.ext; match q with
    | ⟨0, _⟩ => rfl
    | ⟨1, _⟩ => show d.val = (d.val * 7592 + (2984 + i1.val)) / 7592 % 1024; omega
    | ⟨2, _⟩ => show 2984 + i1.val = (d.val * 7592 + (2984 + i1.val)) % 7592; omega

/-- After the lines that follow the region, result 9 is the reference's. -/
theorem tail_6656 (c : Dev nD) : Pipeline.afterTail₀ cfgs (dats m) 0 (V0 m) [hostOps1] c main_v24
    = Cert.InProjReferenceIdeal.Read.val_main_v12 (F := Ideal) (m ((c : Thread nD τ).loc main_arg0)) (m ((c : Thread nD τ).loc main_arg1)) := by
  rw [← res_6656, ← w_eq m c, ← V_main_arg0 m c, ← out_eq m c]
  unfold Pipeline.afterTail₀
  simp only [hostOps1, List.flatten_cons, List.flatten_nil, List.append_nil, List.cons_append, List.nil_append]
  after_results
  exact congrArg (fun z => extractStridedSlice S16384x512 ![0, 6656] z slices_S16384x7680_S16384x512_0_6656)
    (Pipeline.withArrays_arr (cfgs 0).spec winFacts0.arr_inj c (V0 m c) _ 2)

/-- Result 10: the kernel's slice of the packed product is the reference's slice of its product. -/
theorem res_0 (x : (⟨S16384x1024, .f32⟩ : BufTy).Contents (Elt Ideal)) (a : (⟨S4x1024x7592, .f32⟩ : BufTy).Contents (Elt Ideal)) :
    extractStridedSlice S16384x4096 ![0, 0] (G x (packW a)) slices_S16384x7680_S16384x4096_0_0
      = Cert.InProjReferenceIdeal.Read.val_main_v13 (F := Ideal) x a := by
  funext i
  idx_vars i
  rw [Cert.InProjReferenceIdeal.Read.val_main_v13_apply, Cert.InProjReferenceIdeal.Read.val_main_v2_apply]
  pointwise [G]
  refine Finset.sum_congr rfl fun d _ => ?_
  rw [Cert.InProjReferenceIdeal.Read.val_main_v1_apply, Cert.InProjReferenceIdeal.Read.val_main_v0_apply]
  have e : packW a (ix3 0 d ⟨0 + i1.val, by omega⟩) = a (ix3 0 d ⟨3496 + i1.val, by omega⟩) := pack_0 a 0 d i1
  simp only [Nat.zero_add] at e
  refine congrArg₂ (· * ·) (congrArg x ?_) (Eq.trans e (congrArg a ?_))
  · funext q; apply Fin.ext; match q with
    | ⟨0, _⟩ => rfl
    | ⟨1, _⟩ => rfl
  · funext q; apply Fin.ext; match q with
    | ⟨0, _⟩ => rfl
    | ⟨1, _⟩ => show d.val = (d.val * 7592 + (3496 + i1.val)) / 7592 % 1024; omega
    | ⟨2, _⟩ => show 3496 + i1.val = (d.val * 7592 + (3496 + i1.val)) % 7592; omega

/-- After the lines that follow the region, result 10 is the reference's. -/
theorem tail_0 (c : Dev nD) : Pipeline.afterTail₀ cfgs (dats m) 0 (V0 m) [hostOps1] c main_v25
    = Cert.InProjReferenceIdeal.Read.val_main_v13 (F := Ideal) (m ((c : Thread nD τ).loc main_arg0)) (m ((c : Thread nD τ).loc main_arg1)) := by
  rw [← res_0, ← w_eq m c, ← V_main_arg0 m c, ← out_eq m c]
  unfold Pipeline.afterTail₀
  simp only [hostOps1, List.flatten_cons, List.flatten_nil, List.append_nil, List.cons_append, List.nil_append]
  after_results
  exact congrArg (fun z => extractStridedSlice S16384x4096 ![0, 0] z slices_S16384x7680_S16384x4096_0_0)
    (Pipeline.withArrays_arr (cfgs 0).spec winFacts0.arr_inj c (V0 m c) _ 2)

/-- The input projection over the extended reals: the kernel's results are the reference's, from equal arguments. -/
theorem algebraic : Cert.algebraic_InProjIdeal_InProjReferenceIdeal (hInProjIdeal := Cert.InProjIdeal.Gen.facts)
    (hInProjReferenceIdeal := Cert.InProjReferenceIdeal.Gen.facts) := by
  intro m g m' g' _ hag
  refine ⟨fun c => Cert.InProjReferenceIdeal.Read.val_main_v3 (F := Ideal) (m ((c.tc : Thread nD τ).loc main_arg0)) (m ((c.tc : Thread nD τ).loc main_arg1)),
    fun c => Cert.InProjReferenceIdeal.Read.val_main_v4 (F := Ideal) (m ((c.tc : Thread nD τ).loc main_arg0)) (m ((c.tc : Thread nD τ).loc main_arg1)),
    fun c => Cert.InProjReferenceIdeal.Read.val_main_v5 (F := Ideal) (m ((c.tc : Thread nD τ).loc main_arg0)) (m ((c.tc : Thread nD τ).loc main_arg1)),
    fun c => Cert.InProjReferenceIdeal.Read.val_main_v6 (F := Ideal) (m ((c.tc : Thread nD τ).loc main_arg0)) (m ((c.tc : Thread nD τ).loc main_arg1)),
    fun c => Cert.InProjReferenceIdeal.Read.val_main_v7 (F := Ideal) (m ((c.tc : Thread nD τ).loc main_arg0)) (m ((c.tc : Thread nD τ).loc main_arg1)),
    fun c => Cert.InProjReferenceIdeal.Read.val_main_v8 (F := Ideal) (m ((c.tc : Thread nD τ).loc main_arg0)) (m ((c.tc : Thread nD τ).loc main_arg1)),
    fun c => Cert.InProjReferenceIdeal.Read.val_main_v9 (F := Ideal) (m ((c.tc : Thread nD τ).loc main_arg0)) (m ((c.tc : Thread nD τ).loc main_arg1)),
    fun c => Cert.InProjReferenceIdeal.Read.val_main_v10 (F := Ideal) (m ((c.tc : Thread nD τ).loc main_arg0)) (m ((c.tc : Thread nD τ).loc main_arg1)),
    fun c => Cert.InProjReferenceIdeal.Read.val_main_v11 (F := Ideal) (m ((c.tc : Thread nD τ).loc main_arg0)) (m ((c.tc : Thread nD τ).loc main_arg1)),
    fun c => Cert.InProjReferenceIdeal.Read.val_main_v12 (F := Ideal) (m ((c.tc : Thread nD τ).loc main_arg0)) (m ((c.tc : Thread nD τ).loc main_arg1)),
    fun c => Cert.InProjReferenceIdeal.Read.val_main_v13 (F := Ideal) (m ((c.tc : Thread nD τ).loc main_arg0)) (m ((c.tc : Thread nD τ).loc main_arg1)), ?_, ?_⟩
  · refine (θ_run defs _ _).mono (fun r h c => ⟨((h.1 c).2 main_v15 (Pipeline.mem_restRefs_of main_v15 (by decide) (by decide))).trans (tail_4096 m c),
      ((h.1 c).2 main_v16 (Pipeline.mem_restRefs_of main_v16 (by decide) (by decide))).trans (tail_7424 m c),
      ((h.1 c).2 main_v17 (Pipeline.mem_restRefs_of main_v17 (by decide) (by decide))).trans (tail_7168 m c),
      ((h.1 c).2 main_v18 (Pipeline.mem_restRefs_of main_v18 (by decide) (by decide))).trans (tail_7552 m c),
      ((h.1 c).2 main_v19 (Pipeline.mem_restRefs_of main_v19 (by decide) (by decide))).trans (tail_7584 m c),
      ((h.1 c).2 main_v20 (Pipeline.mem_restRefs_of main_v20 (by decide) (by decide))).trans (tail_4608 m c),
      ((h.1 c).2 main_v21 (Pipeline.mem_restRefs_of main_v21 (by decide) (by decide))).trans (tail_5120 m c),
      ((h.1 c).2 main_v22 (Pipeline.mem_restRefs_of main_v22 (by decide) (by decide))).trans (tail_5632 m c),
      ((h.1 c).2 main_v23 (Pipeline.mem_restRefs_of main_v23 (by decide) (by decide))).trans (tail_6144 m c),
      ((h.1 c).2 main_v24 (Pipeline.mem_restRefs_of main_v24 (by decide) (by decide))).trans (tail_6656 m c),
      ((h.1 c).2 main_v25 (Pipeline.mem_restRefs_of main_v25 (by decide) (by decide))).trans (tail_0 m c),
      (h.2 c).1, (h.2 c).2⟩) (θ_run_and (run_main m g) (unchanged m g))
  · refine (θ_run Cert.InProjReferenceIdeal.defs _ _).mono (fun r h c => ?_) (Cert.InProjReferenceIdeal.Value.run (F := Ideal) m' g')
    obtain ⟨h15, h16, h17, h18, h19, h20, h21, h22, h23, h24, h25, ha0, ha1⟩ := h c
    exact ⟨h15.trans (by rw [(hag c).1, (hag c).2]; exact Cert.InProjReferenceIdeal.Read.val_main_v3_eq _ _),
      h16.trans (by rw [(hag c).1, (hag c).2]; exact Cert.InProjReferenceIdeal.Read.val_main_v4_eq _ _),
      h17.trans (by rw [(hag c).1, (hag c).2]; exact Cert.InProjReferenceIdeal.Read.val_main_v5_eq _ _),
      h18.trans (by rw [(hag c).1, (hag c).2]; exact Cert.InProjReferenceIdeal.Read.val_main_v6_eq _ _),
      h19.trans (by rw [(hag c).1, (hag c).2]; exact Cert.InProjReferenceIdeal.Read.val_main_v7_eq _ _),
      h20.trans (by rw [(hag c).1, (hag c).2]; exact Cert.InProjReferenceIdeal.Read.val_main_v8_eq _ _),
      h21.trans (by rw [(hag c).1, (hag c).2]; exact Cert.InProjReferenceIdeal.Read.val_main_v9_eq _ _),
      h22.trans (by rw [(hag c).1, (hag c).2]; exact Cert.InProjReferenceIdeal.Read.val_main_v10_eq _ _),
      h23.trans (by rw [(hag c).1, (hag c).2]; exact Cert.InProjReferenceIdeal.Read.val_main_v11_eq _ _),
      h24.trans (by rw [(hag c).1, (hag c).2]; exact Cert.InProjReferenceIdeal.Read.val_main_v12_eq _ _),
      h25.trans (by rw [(hag c).1, (hag c).2]; exact Cert.InProjReferenceIdeal.Read.val_main_v13_eq _ _),
      ha0, ha1⟩

/-- The reference leaves its arguments and counters as they were. -/
theorem reference_frame : Cert.quiescent_InProjReferenceIdeal (hInProjReferenceIdeal := Cert.InProjReferenceIdeal.Gen.facts) := by
  intro m ρ _
  refine (θ_run Cert.InProjReferenceIdeal.defs _ _).mono (fun r h => ⟨fun c => ?_,
      Idealize.ShloMosaic.sem_eq_zero_of_no_sems (by decide) r.2⟩) (Cert.InProjReferenceIdeal.Value.run (F := Ideal) m ρ)
  obtain ⟨h15, h16, h17, h18, h19, h20, h21, h22, h23, h24, h25, ha0, ha1⟩ := h c
  exact ⟨ha0, ha1⟩

end Cert.InProjIdeal.Val

end
-- ==== Proof.Merge.Spec.lean ====
module

public import Idealize.ShloMosaic.Adequacy
public import Idealize.ShloMosaic.PureOps.Ideal

@[expose] public section

noncomputable section

namespace Cert.MergeSpec

open Idealize.ShloMosaic

/-- One row of the four branches, each through its own weight and scaled by its gate, summed at channel `d`. -/
def mix (b : Fin 4 → Fin 512 → EReal) (g : Fin 4 → Fin 1024 → EReal) (w : Fin 4 → Fin 512 → Fin 1024 → EReal) (d : Fin 1024) : EReal :=
  ∑ r : Fin 4, (∑ k : Fin 512, b r k * w r k d) * Ideal.logistic (g r d)

/-- The scaled residual row plus the mixed row through the output weight. -/
def pre (h : Fin 1024 → EReal) (x : Fin 1024 → EReal) (w : Fin 1024 → Fin 1024 → EReal) (j : Fin 1024) : EReal :=
  Ideal.ofBits .f32 0x3FD744FD#32 * h j + ∑ d : Fin 1024, x d * w d j

/-- The mean of a row. -/
def mean (y : Fin 1024 → EReal) : EReal := Ideal.div (∑ j : Fin 1024, y j) (Ideal.ofBits .f32 0x44800000#32)

/-- The layer norm of a row at channel `j`, with scale `g` and shift `b`. -/
def norm (y g b : Fin 1024 → EReal) (j : Fin 1024) : EReal :=
  (y j - mean y) * Ideal.rsqrt (mean (fun k => (y k - mean y) * (y k - mean y)) + Ideal.ofBits .f32 0x3727C5AC#32) * g j + b j

end Cert.MergeSpec
-- ==== Proof.Merge.MathM.lean ====
module

public import proofs.«01_k».proof.Proof.Merge.Spec
public import proofs.«01_k».proof.Proof.Gen.MergeIdeal.Skeleton
public import Idealize.ShloMosaic.Lib.Pointwise
public import Idealize.ShloMosaic.Lib.Pipeline.Value
public import Idealize.ShloMosaic.Lib.IdealHost

@[expose] public section

set_option maxRecDepth 16384

noncomputable section

namespace Cert.MergeIdeal.Mg

open Cert.MergeIdeal Cert.MergeIdeal.Gen
open Idealize.ShloMosaic Idealize.ShloMosaic.TcCoe
open Cert.MergeSpec

/-- Three gated branches at a place. -/
theorem three_apply (a0 a1 a2 : Vec Ideal S512x512 .f32) (w0 w1 w2 : Vec Ideal S1x512x1024 .bf16) (g0 g1 g2 : Vec Ideal S512x1024 .f32)
    (p : Fin 512) (d : Fin 1024) :
    (k0_pay3 a0 w0 g0 a1 w1 g1 a2 w2 g2 (ix2 p d) : EReal)
      = (∑ k : Fin 512, (a0 (ix2 p k) : EReal) * w0 (ix3 0 k d)) * Ideal.logistic (g0 (ix2 p d))
        + (∑ k : Fin 512, (a1 (ix2 p k) : EReal) * w1 (ix3 0 k d)) * Ideal.logistic (g1 (ix2 p d))
        + (∑ k : Fin 512, (a2 (ix2 p k) : EReal) * w2 (ix3 0 k d)) * Ideal.logistic (g2 (ix2 p d)) := by
  pointwise [k0_pay3]

/-- All four gated branches. -/
def mixed (v30 : FVec Ideal S512x1024 .f32) (a3 : Vec Ideal S512x512 .f32) (w3 : Vec Ideal S1x512x1024 .bf16) (g3 : Vec Ideal S512x1024 .f32) : FVec Ideal S512x1024 .f32 :=
  addf v30 (mulf (matmul dot_S512x512_S512x1024_S512x1024_1_0_0_1_n_n none (truncf .bf16 (a3 : FVec Ideal S512x512 .f32) bitsLt_bf16_f32 : FVec Ideal S512x512 .bf16) (shapeCast S512x1024 w3 shapeCasts_S1x512x1024_S512x1024 : FVec Ideal S512x1024 .bf16)
    (constant S512x1024 .f32 0x00000000#32 : FVec Ideal S512x1024 .f32) : FVec Ideal S512x1024 .f32) (logistic g3))

theorem mixed_apply (v30 : FVec Ideal S512x1024 .f32) (a3 : Vec Ideal S512x512 .f32) (w3 : Vec Ideal S1x512x1024 .bf16) (g3 : Vec Ideal S512x1024 .f32)
    (p : Fin 512) (d : Fin 1024) :
    (mixed v30 a3 w3 g3 (ix2 p d) : EReal)
      = v30 (ix2 p d) + (∑ k : Fin 512, (a3 (ix2 p k) : EReal) * w3 (ix3 0 k d)) * Ideal.logistic (g3 (ix2 p d)) := by
  pointwise [mixed]

/-- The rows before the norm. -/
def summed (x : FVec Ideal S512x1024 .f32) (h : Vec Ideal S512x1024 .f32) (w : Vec Ideal S1024x1024 .bf16) : FVec Ideal S512x1024 .f32 :=
  addf (mulf (broadcast S512x1024 (Scalar.ofBits .f32 0x3FD744FD#32 : Ideal .f32)) h)
    (matmul dot_S512x1024_S1024x1024_S512x1024_1_0_0_1_n_n none (truncf .bf16 x bitsLt_bf16_f32 : FVec Ideal S512x1024 .bf16) (shapeCast S1024x1024 w shapeCasts_S1024x1024_S1024x1024 : FVec Ideal S1024x1024 .bf16)
      (constant S512x1024 .f32 0x00000000#32 : FVec Ideal S512x1024 .f32))

theorem summed_apply (x : FVec Ideal S512x1024 .f32) (h : Vec Ideal S512x1024 .f32) (w : Vec Ideal S1024x1024 .bf16) (p : Fin 512) (j : Fin 1024) :
    (summed x h w (ix2 p j) : EReal) = pre (fun j => h (ix2 p j)) (fun d => x (ix2 p d)) (fun d j => w (ix2 d j)) j := by
  unfold pre
  pointwise [summed]

/-- The column of row means. -/
def means (y : FVec Ideal S512x1024 .f32) : FVec Ideal S512x1 .f32 :=
  divf (shapeCast S512x1 (multiReduction .add [1] S512 y 0x00000000#32 reduces_S512x1024_S512 (.inl rfl) rfl : FVec Ideal S512 .f32) shapeCasts_S512_S512x1)
    (broadcast S512x1 (Scalar.ofBits .f32 0x44800000#32 : Ideal .f32))

theorem means_apply (y : FVec Ideal S512x1024 .f32) (p : Fin 512) : (means y (ix2 p 0) : EReal) = mean (fun j => y (ix2 p j)) := by
  unfold mean
  pointwise [means]

/-- The rows less their means. -/
def devs (y : FVec Ideal S512x1024 .f32) : FVec Ideal S512x1024 .f32 :=
  subf y (broadcastTo S512x1024 (means y) broadcasts_S512x1_S512x1024)

theorem devs_apply (y : FVec Ideal S512x1024 .f32) (p : Fin 512) (j : Fin 1024) :
    (devs y (ix2 p j) : EReal) = y (ix2 p j) - mean (fun j => y (ix2 p j)) := by
  rw [← means_apply]
  pointwise [devs]

/-- The normed rows before scale and shift. -/
def normed (d : FVec Ideal S512x1024 .f32) : FVec Ideal S512x1024 .f32 :=
  mulf d (broadcastTo S512x1024 (rsqrt (addf (means (mulf d d)) (broadcast S512x1 (Scalar.ofBits .f32 0x3727C5AC#32 : Ideal .f32))) : FVec Ideal S512x1 .f32) broadcasts_S512x1_S512x1024)

theorem normed_apply (d : FVec Ideal S512x1024 .f32) (p : Fin 512) (j : Fin 1024) :
    (normed d (ix2 p j) : EReal) = d (ix2 p j) * Ideal.rsqrt (mean (fun k => (d (ix2 p k) : EReal) * d (ix2 p k)) + Ideal.ofBits .f32 0x3727C5AC#32) := by
  have h := means_apply (mulf d d) p
  have h' : (fun j => ((mulf d d : FVec Ideal S512x1024 .f32) (ix2 p j) : EReal)) = fun k => (d (ix2 p k) : EReal) * d (ix2 p k) := by
    funext k; rfl
  rw [h'] at h
  rw [← h]
  pointwise [normed]

theorem pay6_eq (v30 : FVec Ideal S512x1024 .f32) (a3 : Vec Ideal S512x512 .f32) (w3 : Vec Ideal S1x512x1024 .bf16) (g3 h : Vec Ideal S512x1024 .f32)
    (w : Vec Ideal S1024x1024 .bf16) : k0_pay6 v30 a3 w3 g3 h w = normed (devs (summed (mixed v30 a3 w3 g3) h w)) := rfl

theorem pay7_apply (g b : Vec Ideal S1x1024 .f32) (z : FVec Ideal S512x1024 .f32) (p : Fin 512) (j : Fin 1024) :
    (k0_pay7 (k0_pay4 g) (k0_pay5 b) z (ix2 p j) : EReal) = z (ix2 p j) * g (ix2 0 j) + b (ix2 0 j) := by
  pointwise [k0_pay7, k0_pay4, k0_pay5]

/-- The branch of a place among four. -/
def four {α : Type} (a b c d : α) : Fin 4 → α := fun r =>
  match r with
  | ⟨0, _⟩ => a
  | ⟨1, _⟩ => b
  | ⟨2, _⟩ => c
  | ⟨3, _⟩ => d

/-- The body's first result at a place: the layer norm of the row it mixes. -/
theorem body_apply (a0 a1 a2 a3 : Vec Ideal S512x512 .f32) (w0 w1 w2 w3 : Vec Ideal S1x512x1024 .bf16) (g0 g1 g2 g3 h : Vec Ideal S512x1024 .f32)
    (w : Vec Ideal S1024x1024 .bf16) (g b : Vec Ideal S1x1024 .f32) (p : Fin 512) (j : Fin 1024) :
    (k0_pay7 (k0_pay4 g) (k0_pay5 b) (k0_pay6 (k0_pay3 a0 w0 g0 a1 w1 g1 a2 w2 g2) a3 w3 g3 h w) (ix2 p j) : EReal)
      = norm (pre (fun j => h (ix2 p j))
          (mix (four (fun k => a0 (ix2 p k)) (fun k => a1 (ix2 p k)) (fun k => a2 (ix2 p k)) (fun k => a3 (ix2 p k)))
            (four (fun d => g0 (ix2 p d)) (fun d => g1 (ix2 p d)) (fun d => g2 (ix2 p d)) (fun d => g3 (ix2 p d)))
            (four (fun k d => w0 (ix3 0 k d)) (fun k d => w1 (ix3 0 k d)) (fun k d => w2 (ix3 0 k d)) (fun k d => w3 (ix3 0 k d))))
          (fun d j => w (ix2 d j))) (fun j => g (ix2 0 j)) (fun j => b (ix2 0 j)) j := by
  have hm : ∀ d : Fin 1024, (mixed (k0_pay3 a0 w0 g0 a1 w1 g1 a2 w2 g2) a3 w3 g3 (ix2 p d) : EReal)
      = mix (four (fun k => a0 (ix2 p k)) (fun k => a1 (ix2 p k)) (fun k => a2 (ix2 p k)) (fun k => a3 (ix2 p k)))
            (four (fun d => g0 (ix2 p d)) (fun d => g1 (ix2 p d)) (fun d => g2 (ix2 p d)) (fun d => g3 (ix2 p d)))
            (four (fun k d => w0 (ix3 0 k d)) (fun k d => w1 (ix3 0 k d)) (fun k d => w2 (ix3 0 k d)) (fun k d => w3 (ix3 0 k d))) d := by
    intro d
    rw [mixed_apply, three_apply]
    unfold mix
    rw [Fin.sum_univ_four]
    rfl
  rw [pay7_apply, pay6_eq, normed_apply]
  simp only [devs_apply, summed_apply, hm]
  rfl

end Cert.MergeIdeal.Mg
-- ==== Proof.Merge.BodyM.lean ====
module

public import proofs.«01_k».proof.Proof.Merge.MathM
public import proofs.«01_k».proof.Proof.Gen.MergeIdeal.Frame
public import Idealize.ShloMosaic.Lib.Pipeline.Value
public import Idealize.ShloMosaic.Lib.Pipeline.ValueKit

@[expose] public section

set_option maxRecDepth 16384

noncomputable section

namespace Cert.MergeIdeal.Mg

open Cert.MergeIdeal Cert.MergeIdeal.Gen
open Idealize.ShloMosaic Idealize.ShloMosaic.TcCoe Idealize.SL.Sem
open Idealize.ShloMosaic.Pipeline (Dat Cfg Window)
open Cert.MergeSpec

/-- One branch's weight among the four. -/
def wr (x6 : Vec Ideal S4x512x1024 .bf16) : Fin 4 → Vec Ideal S1x512x1024 .bf16 :=
  four (View.ld x6 (Rect.unit (s := S4x512x1024) ![0, 0, 0] S1x512x1024.size inb_S4x512x1024_S1x512x1024_0_0_0))
    (View.ld x6 (Rect.unit (s := S4x512x1024) ![1, 0, 0] S1x512x1024.size inb_S4x512x1024_S1x512x1024_1_0_0))
    (View.ld x6 (Rect.unit (s := S4x512x1024) ![2, 0, 0] S1x512x1024.size inb_S4x512x1024_S1x512x1024_2_0_0))
    (View.ld x6 (Rect.unit (s := S4x512x1024) ![3, 0, 0] S1x512x1024.size inb_S4x512x1024_S1x512x1024_3_0_0))

/-- One branch's gates among the four. -/
def gr (x4 : Vec Ideal S512x4096 .f32) : Fin 4 → Vec Ideal S512x1024 .f32 :=
  four (View.ld x4 (Rect.unit (s := S512x4096) ![0, 0] S512x1024.size inb_S512x4096_S512x1024_0_0))
    (View.ld x4 (Rect.unit (s := S512x4096) ![0, 1024] S512x1024.size inb_S512x4096_S512x1024_0_1024))
    (View.ld x4 (Rect.unit (s := S512x4096) ![0, 2048] S512x1024.size inb_S512x4096_S512x1024_0_2048))
    (View.ld x4 (Rect.unit (s := S512x4096) ![0, 3072] S512x1024.size inb_S512x4096_S512x1024_0_3072))

theorem wr_apply (x6 : Vec Ideal S4x512x1024 .bf16) (r : Fin 4) (k : Fin 512) (d : Fin 1024) : wr x6 r (ix3 0 k d) = x6 (ix3 r k d) := by
  fin_cases r <;>
    (refine congrArg x6 ?_
     funext a
     refine Fin.ext ((Rect.idx_unit_val _ _ _ _ _).trans ?_)
     fin_cases a
     · rfl
     · exact Nat.zero_add _
     · exact Nat.zero_add _)

theorem gr_apply (x4 : Vec Ideal S512x4096 .f32) (r : Fin 4) (p : Fin 512) (d : Fin 1024) :
    gr x4 r (ix2 p d) = x4 (ix2 p ⟨1024 * r.val + d.val, by have := r.isLt; have := d.isLt; omega⟩) := by
  fin_cases r <;>
    (refine congrArg x4 ?_
     funext a
     refine Fin.ext ((Rect.idx_unit_val _ _ _ _ _).trans ?_)
     fin_cases a
     · exact Nat.zero_add _
     · rfl)

/-- The body's first result from its blocks. -/
def body (x0 x1 x2 x3 : Vec Ideal S512x512 .f32) (x4 : Vec Ideal S512x4096 .f32) (x5 : Vec Ideal S512x1024 .f32) (x6 : Vec Ideal S4x512x1024 .bf16)
    (x7 : Vec Ideal S1024x1024 .bf16) (x8 x9 : Vec Ideal S1x1024 .f32) : Vec Ideal S512x1024 .f32 :=
  k0_pay7 (k0_pay4 x8) (k0_pay5 x9) (k0_pay6 (k0_pay3 x0 (wr x6 0) (gr x4 0) x1 (wr x6 1) (gr x4 1) x2 (wr x6 2) (gr x4 2)) x3 (wr x6 3) (gr x4 3) x5 x7)

/-- The same at a place. -/
theorem body_at (x0 x1 x2 x3 : Vec Ideal S512x512 .f32) (x4 : Vec Ideal S512x4096 .f32) (x5 : Vec Ideal S512x1024 .f32) (x6 : Vec Ideal S4x512x1024 .bf16)
    (x7 : Vec Ideal S1024x1024 .bf16) (x8 x9 : Vec Ideal S1x1024 .f32) (p : Fin 512) (j : Fin 1024) :
    (body x0 x1 x2 x3 x4 x5 x6 x7 x8 x9 (ix2 p j) : EReal)
      = norm (pre (fun j => x5 (ix2 p j))
          (mix (four (fun k => x0 (ix2 p k)) (fun k => x1 (ix2 p k)) (fun k => x2 (ix2 p k)) (fun k => x3 (ix2 p k)))
            (fun r d => x4 (ix2 p ⟨1024 * r.val + d.val, by have := r.isLt; have := d.isLt; omega⟩))
            (fun r k d => x6 (ix3 r k d)))
          (fun d j => x7 (ix2 d j))) (fun j => x8 (ix2 0 j)) (fun j => x9 (ix2 0 j)) j := by
  unfold body
  rw [body_apply]
  have hg : (four (fun d => (gr x4 0 (ix2 p d) : EReal)) (fun d => gr x4 1 (ix2 p d)) (fun d => gr x4 2 (ix2 p d)) (fun d => gr x4 3 (ix2 p d)))
      = fun (r : Fin 4) (d : Fin 1024) => (x4 (ix2 p ⟨1024 * r.val + d.val, by have := r.isLt; have := d.isLt; omega⟩) : EReal) := by
    funext r d
    refine Eq.trans ?_ (gr_apply x4 r p d)
    fin_cases r <;> rfl
  have hw : (four (fun k d => (wr x6 0 (ix3 0 k d) : EReal)) (fun k d => wr x6 1 (ix3 0 k d)) (fun k d => wr x6 2 (ix3 0 k d)) (fun k d => wr x6 3 (ix3 0 k d)))
      = fun (r : Fin 4) (k : Fin 512) (d : Fin 1024) => (x6 (ix3 r k d) : EReal) := by
    funext r k d
    refine Eq.trans ?_ (wr_apply x6 r k d)
    fin_cases r <;> rfl
  rw [hg, hw]

variable (m : (ℓ : Loc nD τ sig) → Buf (Elt Ideal) ℓ)

/-- What a point leaves in the first output's buffer. -/
theorem after13 (c : Dev nD) (t : Fin cfg0.N) : (outsAt0 m c t.val t.isLt).1
    = body (iblk m c 0 t) (iblk m c 1 t) (iblk m c 2 t) (iblk m c 3 t) (X0_4 m c t) (iblk m c 5 t) (iblk m c 6 t) (iblk m c 7 t) (iblk m c 8 t) (iblk m c 9 t) := by
  by_cases h : t.val % 32 = 0
  · rw [outsAt0_A m c t h]
    frame_out
    rfl
  · rw [outsAt0_B m c t h]
    frame_out
    rfl

end Cert.MergeIdeal.Mg

end
-- ==== Proof.Merge.RefM.lean ====
module

public import proofs.«01_k».proof.Proof.Merge.Spec
public import proofs.«01_k».proof.Proof.Gen.MergeReferenceIdeal.Read
public import Idealize.ShloMosaic.Lib.Pointwise
public import Idealize.ShloMosaic.Lib.IdealHost

@[expose] public section

set_option maxRecDepth 16384

noncomputable section

namespace Cert.MergeReferenceIdeal.Mg

open Idealize.ShloMosaic Idealize.ShloMosaic.TcCoe
open Cert.MergeReferenceIdeal Cert.MergeReferenceIdeal.Gen Cert.MergeReferenceIdeal.Read
open Cert.MergeSpec

variable (x0 x1 x2 x3 : (⟨S16384x512, .f32⟩ : BufTy).Contents (Elt Ideal)) (x4 : (⟨S16384x7680, .f32⟩ : BufTy).Contents (Elt Ideal))
  (x5 : (⟨S16384x1024, .f32⟩ : BufTy).Contents (Elt Ideal)) (x6 : (⟨S4x512x1024, .f32⟩ : BufTy).Contents (Elt Ideal))
  (x7 : (⟨S1024x1024, .f32⟩ : BufTy).Contents (Elt Ideal)) (x8 x9 : (⟨S1024, .f32⟩ : BufTy).Contents (Elt Ideal))

/-- Row `n` of the four branches. -/
def br (n : Fin 16384) : Fin 4 → Fin 512 → EReal := fun r k =>
  match r with
  | ⟨0, _⟩ => x0 (ix2 n k)
  | ⟨1, _⟩ => x1 (ix2 n k)
  | ⟨2, _⟩ => x2 (ix2 n k)
  | ⟨3, _⟩ => x3 (ix2 n k)

/-- Row `n` of the gates' inputs. -/
def gt (n : Fin 16384) : Fin 4 → Fin 1024 → EReal := fun r d => x4 (ix2 n ⟨1024 * r.val + d.val, by have := r.isLt; have := d.isLt; omega⟩)

/-- Row `n` before the norm. -/
def yr (n : Fin 16384) : Fin 1024 → EReal :=
  pre (fun j => x5 (ix2 n j)) (mix (br x0 x1 x2 x3 n) (gt x4 n) (fun r k d => x6 (ix3 r k d))) (fun d j => x7 (ix2 d j))

theorem br_at (n : Fin 16384) (r : Fin 4) (k : Fin 512) :
    val_main_v4 (F := Ideal) x0 x1 x2 x3 (ix3 n r k) = br x0 x1 x2 x3 n r k := by
  fin_cases r <;> pointwise [val_main_v4, val_main_v0, val_main_v1, val_main_v2, val_main_v3, br]

theorem gate_at (n : Fin 16384) (r : Fin 4) (d : Fin 1024) :
    val_main_v12 (F := Ideal) x4 (ix3 n r d) = Ideal.logistic (gt x4 n r d) := by
  pointwise [val_main_v12, val_main_v11, val_main_v10, val_main_v9, val_main_v8, val_main_v7, val_main_v6, val_main_v5, val_main_cst, val_main_cst_0, gt]
  have e : ∀ h, (⟨r.val * 1024 + d.val, h⟩ : Fin 7680) = ⟨1024 * r.val + d.val, by have := r.isLt; have := d.isLt; omega⟩ :=
    fun h => Fin.ext (congrArg (· + d.val) (Nat.mul_comm _ _))
  rw [e]
  rfl

theorem dot_at (n : Fin 16384) (r : Fin 4) (d : Fin 1024) :
    val_main_v14 (F := Ideal) x0 x1 x2 x3 x6 (ix3 n r d) = ∑ k : Fin 512, br x0 x1 x2 x3 n r k * x6 (ix3 r k d) := by
  rw [val_main_v14_apply, val_main_v13_apply]
  refine Finset.sum_congr rfl fun k _ => ?_
  refine (mul_comm (G := EReal) _ _).trans (congrArg₂ (fun a b : EReal => a * b) (Eq.trans (congrArg _ ?_) (br_at x0 x1 x2 x3 n r k)) (congrArg x6 ?_)) <;>
    (funext a; fin_cases a <;> rfl)

theorem mix_at (n : Fin 16384) (d : Fin 1024) :
    val_main_v16 (F := Ideal) x0 x1 x2 x3 x4 x6 (ix2 n d) = mix (br x0 x1 x2 x3 n) (gt x4 n) (fun r k d => x6 (ix3 r k d)) d := by
  rw [val_main_v16_apply]
  refine (congrArg₂ (fun a b : EReal => a + b) Ideal.ofBits_zero_f32 (Finset.sum_congr (M := EReal) rfl fun r _ => ?_)).trans (zero_add (M := EReal) _)
  rw [val_main_v15_apply]
  have e : idx_main_v16 (ix2 n d) r = ix3 n r d := by funext a; fin_cases a <;> rfl
  rw [e, dot_at, gate_at]
  rfl

theorem pre_at (n : Fin 16384) (j : Fin 1024) :
    val_main_v20 (F := Ideal) x0 x1 x2 x3 x4 x5 x6 x7 (ix2 n j) = yr x0 x1 x2 x3 x4 x5 x6 x7 n j := by
  rw [val_main_v20_apply, val_main_v18_apply, val_main_v19_apply]
  unfold yr pre
  refine congrArg₂ (fun a b : EReal => a + b) ?_ (Finset.sum_congr (M := EReal) rfl fun d _ => congrArg₂ (fun a b : EReal => a * b) (Eq.trans (congrArg _ ?_) (mix_at x0 x1 x2 x3 x4 x6 n d)) (congrArg x7 ?_))
  · rfl
  all_goals (funext a; fin_cases a <;> rfl)

theorem mean_at (n : Fin 16384) :
    val_main_v24 (F := Ideal) x0 x1 x2 x3 x4 x5 x6 x7 (ix2 n 0) = mean (yr x0 x1 x2 x3 x4 x5 x6 x7 n) := by
  rw [val_main_v24_apply, val_main_v22_apply, val_main_v21_apply]
  refine congrArg₂ (fun a b : EReal => Ideal.div a b) ?_ rfl
  refine (congrArg₂ (fun a b : EReal => a + b) Ideal.ofBits_zero_f32 (Finset.sum_congr (M := EReal) rfl fun k _ => ?_)).trans (zero_add (M := EReal) _)
  refine Eq.trans (congrArg _ ?_) (pre_at x0 x1 x2 x3 x4 x5 x6 x7 n k)
  funext a; fin_cases a <;> rfl

theorem dev_at (n : Fin 16384) (j : Fin 1024) :
    val_main_v26 (F := Ideal) x0 x1 x2 x3 x4 x5 x6 x7 (ix2 n j) = yr x0 x1 x2 x3 x4 x5 x6 x7 n j - mean (yr x0 x1 x2 x3 x4 x5 x6 x7 n) := by
  rw [val_main_v26_apply, val_main_v25_apply, pre_at]
  refine congrArg₂ (fun a b : EReal => a - b) rfl (Eq.trans (congrArg _ ?_) (mean_at x0 x1 x2 x3 x4 x5 x6 x7 n))
  funext a; fin_cases a <;> rfl

theorem var_at (n : Fin 16384) :
    val_main_v31 (F := Ideal) x0 x1 x2 x3 x4 x5 x6 x7 (ix2 n 0)
      = mean (fun k => (yr x0 x1 x2 x3 x4 x5 x6 x7 n k - mean (yr x0 x1 x2 x3 x4 x5 x6 x7 n)) * (yr x0 x1 x2 x3 x4 x5 x6 x7 n k - mean (yr x0 x1 x2 x3 x4 x5 x6 x7 n))) := by
  rw [val_main_v31_apply, val_main_v29_apply, val_main_v28_apply]
  refine congrArg₂ (fun a b : EReal => Ideal.div a b) ?_ rfl
  refine (congrArg₂ (fun a b : EReal => a + b) Ideal.ofBits_zero_f32 (Finset.sum_congr (M := EReal) rfl fun k _ => ?_)).trans (zero_add (M := EReal) _)
  have e := dev_at x0 x1 x2 x3 x4 x5 x6 x7 n k
  refine Eq.trans (congrArg (val_main_v27 (F := Ideal) x0 x1 x2 x3 x4 x5 x6 x7) (show _ = (ix2 n k : S16384x1024.Idx) from ?_)) ?_
  · funext a; fin_cases a <;> rfl
  · rw [val_main_v27_apply]
    exact congrArg₂ (fun a b : EReal => a * b) e e

/-- The reference at a place: the layer norm of the row. -/
theorem out_at (n : Fin 16384) (j : Fin 1024) :
    val_main_v44 (F := Ideal) x0 x1 x2 x3 x4 x5 x6 x7 x8 x9 (ix2 n j)
      = norm (yr x0 x1 x2 x3 x4 x5 x6 x7 n) (fun k => x8 (ix1 k)) (fun k => x9 (ix1 k)) j := by
  have hg : val_main_v40 (F := Ideal) x8 (ix2 n j) = x8 (ix1 j) := by
    rw [val_main_v40_apply, val_main_v39_apply]
    refine congrArg x8 ?_
    funext a; fin_cases a; rfl
  have hb : val_main_v43 (F := Ideal) x9 (ix2 n j) = x9 (ix1 j) := by
    rw [val_main_v43_apply, val_main_v42_apply]
    refine congrArg x9 ?_
    funext a; fin_cases a; rfl
  have hd : val_main_v33 (F := Ideal) x0 x1 x2 x3 x4 x5 x6 x7 (ix2 n j)
      = yr x0 x1 x2 x3 x4 x5 x6 x7 n j - mean (yr x0 x1 x2 x3 x4 x5 x6 x7 n) := by
    rw [val_main_v33_apply, val_main_v32_apply, pre_at]
    refine congrArg₂ (fun a b : EReal => a - b) rfl (Eq.trans (congrArg _ ?_) (mean_at x0 x1 x2 x3 x4 x5 x6 x7 n))
    funext a; fin_cases a <;> rfl
  have hr : val_main_v37 (F := Ideal) x0 x1 x2 x3 x4 x5 x6 x7 (ix2 n j)
      = Ideal.rsqrt (mean (fun k => (yr x0 x1 x2 x3 x4 x5 x6 x7 n k - mean (yr x0 x1 x2 x3 x4 x5 x6 x7 n)) * (yr x0 x1 x2 x3 x4 x5 x6 x7 n k - mean (yr x0 x1 x2 x3 x4 x5 x6 x7 n))) + Ideal.ofBits .f32 0x3727C5AC#32) := by
    rw [val_main_v37_apply, val_main_v36_apply, val_main_v35_apply]
    refine congrArg Ideal.rsqrt (congrArg₂ (fun a b : EReal => a + b) ?_ rfl)
    refine Eq.trans (congrArg _ ?_) (var_at x0 x1 x2 x3 x4 x5 x6 x7 n)
    funext a; fin_cases a <;> rfl
  rw [val_main_v44_apply, val_main_v41_apply, val_main_v38_apply, hg, hb, hd, hr]
  rfl

end Cert.MergeReferenceIdeal.Mg
-- ==== Proof.Merge.Value.lean ====
module

public import proofs.«01_k».proof.Defs
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Merge.BodyM
public import proofs.«01_k».proof.Proof.Merge.RefM
public import Idealize.ShloMosaic.Lib.Pipeline.Value
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.MergeIdeal.Mg

open Cert.MergeIdeal Cert.MergeIdeal.Gen
open Idealize.ShloMosaic Idealize.ShloMosaic.TcCoe Idealize.SL.Sem
open Idealize.ShloMosaic.Pipeline (Dat Cfg Window)
open Cert.MergeSpec
open Cert.MergeReferenceIdeal.Read (val_main_v44)
open Cert.MergeReferenceIdeal.Mg (br gt yr out_at)

variable (m : (ℓ : Loc nD τ sig) → Buf (Elt Ideal) ℓ)

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)

/-- Row `p` of point `t`'s block among all rows. -/
def rowOf (t : Fin cfg0.N) (p : Fin 512) : Fin 16384 := ⟨512 * t.val + p.val, by have h : t.val < 32 := lt_of_lt_of_eq t.isLt N_0; have := p.isLt; omega⟩

/-! ## The blocks of rows -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx13 : ∀ t : Fin cfg0.N, win0_13.index t (0 : Fin 2) = t.val ∧ win0_13.index t (1 : Fin 2) = 0 := (by decide +kernel : ∀ t : Fin grid0.N, _)

theorem blk0 (c : Dev nD) (t : Fin cfg0.N) (p k : Fin 512) : (iblk m c 0 t (ix2 p k) : EReal) = a0 m c (ix2 (rowOf t p) k) := by
  obtain ⟨e0, e1⟩ := idx0 t
  refine Eq.trans (congrArg (V m c main_arg0) ?_) (congrFun (V_main_arg0 m c) _)
  funext a
  refine Fin.ext ?_
  fin_cases a
  · show win0_0.index t (0 : Fin 2) * 512 + 1 * p.val = 512 * t.val + p.val
    omega
  · show win0_0.index t (1 : Fin 2) * 512 + 1 * k.val = k.val
    omega

theorem blk1 (c : Dev nD) (t : Fin cfg0.N) (p k : Fin 512) : (iblk m c 1 t (ix2 p k) : EReal) = a1 m c (ix2 (rowOf t p) k) := by
  obtain ⟨e0, e1⟩ := idx1 t
  refine Eq.trans (congrArg (V m c main_arg1) ?_) (congrFun (V_main_arg1 m c) _)
  funext a
  refine Fin.ext ?_
  fin_cases a
  · show win0_1.index t (0 : Fin 2) * 512 + 1 * p.val = 512 * t.val + p.val
    omega
  · show win0_1.index t (1 : Fin 2) * 512 + 1 * k.val = k.val
    omega

theorem blk2 (c : Dev nD) (t : Fin cfg0.N) (p k : Fin 512) : (iblk m c 2 t (ix2 p k) : EReal) = a2 m c (ix2 (rowOf t p) k) := by
  obtain ⟨e0, e1⟩ := idx2 t
  refine Eq.trans (congrArg (V m c main_arg2) ?_) (congrFun (V_main_arg2 m c) _)
  funext a
  refine Fin.ext ?_
  fin_cases a
  · show win0_2.index t (0 : Fin 2) * 512 + 1 * p.val = 512 * t.val + p.val
    omega
  · show win0_2.index t (1 : Fin 2) * 512 + 1 * k.val = k.val
    omega

theorem blk3 (c : Dev nD) (t : Fin cfg0.N) (p k : Fin 512) : (iblk m c 3 t (ix2 p k) : EReal) = a3 m c (ix2 (rowOf t p) k) := by
  obtain ⟨e0, e1⟩ := idx3 t
  refine Eq.trans (congrArg (V m c main_arg3) ?_) (congrFun (V_main_arg3 m c) _)
  funext a
  refine Fin.ext ?_
  fin_cases a
  · show win0_3.index t (0 : Fin 2) * 512 + 1 * p.val = 512 * t.val + p.val
    omega
  · show win0_3.index t (1 : Fin 2) * 512 + 1 * k.val = k.val
    omega

theorem blk5 (c : Dev nD) (t : Fin cfg0.N) (p : Fin 512) (k : Fin 1024) : (iblk m c 5 t (ix2 p k) : EReal) = a5 m c (ix2 (rowOf t p) k) := by
  obtain ⟨e0, e1⟩ := idx5 t
  refine Eq.trans (congrArg (V m c main_arg5) ?_) (congrFun (V_main_arg5 m c) _)
  funext a
  refine Fin.ext ?_
  fin_cases a
  · show win0_5.index t (0 : Fin 2) * 512 + 1 * p.val = 512 * t.val + p.val
    omega
  · show win0_5.index t (1 : Fin 2) * 1024 + 1 * k.val = k.val
    omega

/-- The gates' block is the first columns of its rows. -/
theorem blk4 (c : Dev nD) (t : Fin cfg0.N) (p : Fin 512) (k : Fin 4096) :
    (X0_4 m c t (ix2 p k) : EReal) = a4 m c (ix2 (rowOf t p) ⟨k.val, by have := k.isLt; omega⟩) := by
  obtain ⟨e0, e1⟩ := idx4 t
  unfold X0_4 Pipeline.Window.fill
  rw [dif_pos (moved0_4 t _)]
  refine Eq.trans (congrArg (V m c main_arg4) ?_) (congrFun (V_main_arg4 m c) _)
  funext a
  refine Fin.ext ?_
  fin_cases a
  · show win0_4.index t (0 : Fin 2) * 512 + 1 * p.val = 512 * t.val + p.val
    omega
  · show win0_4.index t (1 : Fin 2) * 4096 + 1 * k.val = k.val
    omega

/-! ## The whole blocks -/

theorem idx6 : ∀ t : Fin cfg0.N, win0_6.index t (0 : Fin 3) = 0 ∧ win0_6.index t (1 : Fin 3) = 0 ∧ win0_6.index t (2 : Fin 3) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)

/-- The branch weights the region finds are the given ones. -/
theorem V_w (c : Dev nD) : V m c main_v3 = (truncf (F := Ideal) (φ := .f32) .bf16 (a6 m c) bitsLt_bf16_f32 : (⟨S4x512x1024, .bf16⟩ : BufTy).Contents (Elt Ideal)) := by
  show StableHlo.after _ _ _ = _
  simp only [hostOps0, hostOps0_1, hostOps0_2, List.flatten_cons, List.flatten_nil, List.append_nil, List.cons_append, List.nil_append]
  after_results
/-- The output weight the region finds is the given one. -/
theorem V_o (c : Dev nD) : V m c main_v4 = (truncf (F := Ideal) (φ := .f32) .bf16 (a7 m c) bitsLt_bf16_f32 : (⟨S1024x1024, .bf16⟩ : BufTy).Contents (Elt Ideal)) := by
  show StableHlo.after _ _ _ = _
  simp only [hostOps0, hostOps0_1, hostOps0_2, List.flatten_cons, List.flatten_nil, List.append_nil, List.cons_append, List.nil_append]
  after_results
/-- The scale the region finds is the given one as a row. -/
theorem V_g (c : Dev nD) : V m c main_v5 = (shapeCast S1x1024 (a8 m c) shapeCasts_S1024_S1x1024 : (⟨S1x1024, .f32⟩ : BufTy).Contents (Elt Ideal)) := by
  show StableHlo.after _ _ _ = _
  simp only [hostOps0, hostOps0_1, hostOps0_2, List.flatten_cons, List.flatten_nil, List.append_nil, List.cons_append, List.nil_append]
  after_results
  rfl
/-- The shift the region finds is the given one as a row. -/
theorem V_b (c : Dev nD) : V m c main_v6 = (shapeCast S1x1024 (a9 m c) shapeCasts_S1024_S1x1024 : (⟨S1x1024, .f32⟩ : BufTy).Contents (Elt Ideal)) := by
  show StableHlo.after _ _ _ = _
  simp only [hostOps0, hostOps0_1, hostOps0_2, List.flatten_cons, List.flatten_nil, List.append_nil, List.cons_append, List.nil_append]
  after_results
  rfl

theorem row_cast (x : (⟨S1024, .f32⟩ : BufTy).Contents (Elt Ideal)) (j : Fin 1024) :
    ((shapeCast S1x1024 x shapeCasts_S1024_S1x1024 : (⟨S1x1024, .f32⟩ : BufTy).Contents (Elt Ideal)) (ix2 0 j) : EReal) = x (ix1 j) := by
  pointwise []

theorem blk6 (c : Dev nD) (t : Fin cfg0.N) (r : Fin 4) (k : Fin 512) (d : Fin 1024) : (iblk m c 6 t (ix3 r k d) : EReal) = a6 m c (ix3 r k d) := by
  obtain ⟨e0, e1, e2⟩ := idx6 t
  refine Eq.trans (congrArg (V m c main_v3) ?_) (congrFun (V_w m c) (ix3 r k d))
  funext a
  refine Fin.ext ?_
  fin_cases a
  · show win0_6.index t (0 : Fin 3) * 4 + 1 * r.val = r.val
    omega
  · show win0_6.index t (1 : Fin 3) * 512 + 1 * k.val = k.val
    omega
  · show win0_6.index t (2 : Fin 3) * 1024 + 1 * d.val = d.val
    omega

theorem blk7 (c : Dev nD) (t : Fin cfg0.N) (d j : Fin 1024) : (iblk m c 7 t (ix2 d j) : EReal) = a7 m c (ix2 d j) := by
  obtain ⟨e0, e1⟩ := idx7 t
  refine Eq.trans (congrArg (V m c main_v4) ?_) (congrFun (V_o m c) (ix2 d j))
  funext a
  refine Fin.ext ?_
  fin_cases a
  · show win0_7.index t (0 : Fin 2) * 1024 + 1 * d.val = d.val
    omega
  · show win0_7.index t (1 : Fin 2) * 1024 + 1 * j.val = j.val
    omega

theorem blk8 (c : Dev nD) (t : Fin cfg0.N) (j : Fin 1024) : (iblk m c 8 t (ix2 0 j) : EReal) = a8 m c (ix1 j) := by
  obtain ⟨e0, e1⟩ := idx8 t
  refine Eq.trans (congrArg (V m c main_v5) ?_) ((congrFun (V_g m c) (ix2 0 j)).trans (row_cast _ j))
  funext a
  refine Fin.ext ?_
  fin_cases a
  · show win0_8.index t (0 : Fin 2) * 1 + 1 * 0 = 0
    omega
  · show win0_8.index t (1 : Fin 2) * 1024 + 1 * j.val = j.val
    omega

theorem blk9 (c : Dev nD) (t : Fin cfg0.N) (j : Fin 1024) : (iblk m c 9 t (ix2 0 j) : EReal) = a9 m c (ix1 j) := by
  obtain ⟨e0, e1⟩ := idx9 t
  refine Eq.trans (congrArg (V m c main_v6) ?_) ((congrFun (V_b m c) (ix2 0 j)).trans (row_cast _ j))
  funext a
  refine Fin.ext ?_
  fin_cases a
  · show win0_9.index t (0 : Fin 2) * 1 + 1 * 0 = 0
    omega
  · show win0_9.index t (1 : Fin 2) * 1024 + 1 * j.val = j.val
    omega

/-! ## The result -/

/-- The reference's result. -/
def G (c : Dev nD) : Vec Ideal S16384x1024 .f32 :=
  val_main_v44 (F := Ideal) (a0 m c) (a1 m c) (a2 m c) (a3 m c) (a4 m c) (a5 m c) (a6 m c) (a7 m c) (a8 m c) (a9 m c)

/-- What a point leaves is the reference's block of rows. -/
theorem point (c : Dev nD) (t : Fin cfg0.N) (p : Fin 512) (j : Fin 1024) :
    ((outsAt0 m c t.val t.isLt).1 (ix2 p j) : EReal) = G m c (ix2 (rowOf t p) j) := by
  rw [after13]
  refine (body_at _ _ _ _ _ _ _ _ _ _ p j).trans ?_
  unfold G
  refine Eq.trans ?_ (out_at (a0 m c) (a1 m c) (a2 m c) (a3 m c) (a4 m c) (a5 m c) (a6 m c) (a7 m c) (a8 m c) (a9 m c) (rowOf t p) j).symm
  unfold yr
  have hb : four (fun k => (iblk m c 0 t (ix2 p k) : EReal)) (fun k => iblk m c 1 t (ix2 p k)) (fun k => iblk m c 2 t (ix2 p k)) (fun k => iblk m c 3 t (ix2 p k))
      = br (a0 m c) (a1 m c) (a2 m c) (a3 m c) (rowOf t p) := by
    funext r k
    fin_cases r
    · exact blk0 m c t p k
    · exact blk1 m c t p k
    · exact blk2 m c t p k
    · exact blk3 m c t p k
  have hg : (fun (r : Fin 4) (d : Fin 1024) => (X0_4 m c t (ix2 p ⟨1024 * r.val + d.val, by have := r.isLt; have := d.isLt; omega⟩) : EReal))
      = gt (a4 m c) (rowOf t p) := by
    funext r d
    exact blk4 m c t p _
  have hw : (fun (r : Fin 4) (k : Fin 512) (d : Fin 1024) => (iblk m c 6 t (ix3 r k d) : EReal)) = fun r k d => a6 m c (ix3 r k d) := by
    funext r k d
    exact blk6 m c t r k d
  have ho : (fun (d j : Fin 1024) => (iblk m c 7 t (ix2 d j) : EReal)) = fun d j => a7 m c (ix2 d j) := by
    funext d j
    exact blk7 m c t d j
  have hh : (fun (j : Fin 1024) => (iblk m c 5 t (ix2 p j) : EReal)) = fun j => a5 m c (ix2 (rowOf t p) j) := by
    funext j
    exact blk5 m c t p j
  have h8 : (fun (j : Fin 1024) => (iblk m c 8 t (ix2 0 j) : EReal)) = fun k => a8 m c (ix1 k) := by
    funext j
    exact blk8 m c t j
  have h9 : (fun (j : Fin 1024) => (iblk m c 9 t (ix2 0 j) : EReal)) = fun k => a9 m c (ix1 k) := by
    funext j
    exact blk9 m c t j
  exact congrFun (congr (congrArg₂ norm (congr (congrArg₂ pre hh (congr (congrArg₂ mix hb hg) hw)) ho) h8) h9) j

theorem place13 (t : Fin cfg0.N) (y : S512x1024.Idx) : (((cfg0.win 13).blk t).view.emb y : S16384x1024.Idx) = ix2 (rowOf t (y 0)) (y 1) := by
  obtain ⟨e0, e1⟩ := idx13 t
  funext a
  refine Fin.ext ?_
  fin_cases a
  · show win0_13.index t (0 : Fin 2) * 512 + 1 * (y 0).val = 512 * t.val + (y 0).val
    omega
  · show win0_13.index t (1 : Fin 2) * 1024 + 1 * (y 1).val = (y 1).val
    omega

/-- An array whose blocks are what the points leave is what the region leaves, at any proof data. -/
theorem out_gen (c : Dev nD) (dat : Dat τ (Elt Ideal) Unit ℕ (Idealize.ShloMosaic.UR sig nD τ) ℕ cfg0 c)
    (Z : Vec Ideal S16384x1024 .f32) (O : Fin cfg0.N → Vec Ideal S512x1024 .f32) (ha : ∀ t : Fin cfg0.N, dat.after 13 t = O t)
    (h : ∀ (t : Fin cfg0.N) (p : Fin 512) (j : Fin 1024), O t (ix2 p j) = Z (ix2 (rowOf t p) j)) :
    dat.arrAt 13 cfg0.N = Z := by
  refine dat.arrAt_eq_of_covers 13 Z (by decide +kernel) (fun t hf y => ?_) (Memref.isWhole_whole _)
  rw [ha]
  have hy : ((cfg0.win 13).xinj (cfg0.grid.coords t) y : S512x1024.Idx) = ix2 (y (0 : Fin 2)) (y (1 : Fin 2)) := by
    funext a
    fin_cases a <;> rfl
  exact (congrArg (O t) hy).trans ((h t (y (0 : Fin 2)) (y (1 : Fin 2))).trans (congrArg Z (place13 t y).symm))

/-- The first output array ends holding the reference's result. -/
theorem out_eq (c : Dev nD) : (dats m 0 c).arrAt 13 cfg0.N = G m c :=
  out_gen c (dats m 0 c) (G m c) (fun t => (outsAt0 m c t.val t.isLt).1) (after0_13 m c) (point m c)

/-- The merge over the extended reals: the kernel's merged rows are the reference's, from equal arguments. -/
theorem algebraic : Cert.algebraic_MergeIdeal_MergeReferenceIdeal (hMergeIdeal := Cert.MergeIdeal.Gen.facts)
    (hMergeReferenceIdeal := Cert.MergeReferenceIdeal.Gen.facts) := by
  intro m g m' g' _ hag
  refine ⟨fun c => G m c, ?_, ?_⟩
  · refine (θ_run defs _ _).mono (fun r h c => ?_) (Cert.MergeIdeal.Value.run_blocks m g)
    obtain ⟨h0, -, -, -, ha⟩ := h c
    exact ⟨h0.trans (out_eq m c), ha⟩
  · refine (θ_run Cert.MergeReferenceIdeal.defs _ _).mono (fun r h c => ?_) (Cert.MergeReferenceIdeal.Value.run (F := Ideal) m' g')
    obtain ⟨h44, ha⟩ := h c
    obtain ⟨g0, g1, g2, g3, g4, g5, g6, g7, g8, g9, -, -⟩ := hag c
    refine ⟨h44.trans ((Cert.MergeReferenceIdeal.Read.val_main_v44_eq m' c).trans ?_), ha⟩
    rw [g0, g1, g2, g3, g4, g5, g6, g7, g8, g9]
    rfl

/-- The reference leaves its arguments and counters as they were. -/
theorem reference_frame : Cert.quiescent_MergeReferenceIdeal (hMergeReferenceIdeal := Cert.MergeReferenceIdeal.Gen.facts) := by
  intro m ρ _
  refine (θ_run Cert.MergeReferenceIdeal.defs _ _).mono (fun r h => ⟨fun c => (h c).2,
      Idealize.ShloMosaic.sem_eq_zero_of_no_sems (by decide) r.2⟩) (Cert.MergeReferenceIdeal.Value.run (F := Ideal) m ρ)

end Cert.MergeIdeal.Mg

end
-- ==== Proof.Memory.Spec.lean ====
module

public import Idealize.ShloMosaic.Adequacy
public import Idealize.ShloMosaic.PureOps.Ideal

@[expose] public section

noncomputable section

namespace Cert.MemorySpec

open Idealize.ShloMosaic

/-- A query's scaled product with key `m`. -/
def logit (q : Fin 128 → EReal) (k : Fin 256 → Fin 128 → EReal) (m : Fin 256) : EReal :=
  (∑ d : Fin 128, q d * k m d) * Ideal.ofBits .f32 0x3DB504F3#32

/-- The greatest of a row, from negative infinity. -/
def top (l : Fin 256 → EReal) : EReal := Finset.univ.fold max (Ideal.ofBits .f32 0xFF800000#32) l

/-- A row's exponentials, its greatest taken off. -/
def expo (l : Fin 256 → EReal) (m : Fin 256) : EReal := Ideal.exp (l m - top l)

/-- A row's softmax. -/
def soft (l : Fin 256 → EReal) (m : Fin 256) : EReal := Ideal.div (expo l m) (∑ n : Fin 256, expo l n)

/-- A query's attention to the memory at channel `j`. -/
def att (q : Fin 128 → EReal) (k v : Fin 256 → Fin 128 → EReal) (j : Fin 128) : EReal :=
  ∑ m : Fin 256, soft (logit q k) m * v m j

/-- The greatest is not below where it starts. -/
theorem max_top (l : Fin 256 → EReal) : max (Ideal.ofBits .f32 0xFF800000#32) (top l) = top l :=
  max_eq_right ((Finset.le_fold_max _).mpr (Or.inl le_rfl))

end Cert.MemorySpec
-- ==== Proof.Memory.MathI.lean ====
module

public import proofs.«01_k».proof.Proof.Memory.Spec
public import proofs.«01_k».proof.Proof.Gen.MemoryIdeal.Frame
public import Idealize.ShloMosaic.Lib.Pointwise
public import Idealize.ShloMosaic.Lib.Pipeline.Value
public import Idealize.ShloMosaic.Lib.Pipeline.ValueKit
public import Idealize.ShloMosaic.Lib.Pipeline.CanonAppend
public import Idealize.ShloMosaic.Lib.Pipeline.ReadBack
public import Idealize.ShloMosaic.Lib.IdealHost

@[expose] public section

set_option maxRecDepth 16384

noncomputable section

namespace Cert.MemoryIdeal.Mem

open Cert.MemoryIdeal Cert.MemoryIdeal.Gen
open Idealize.ShloMosaic Idealize.ShloMosaic.TcCoe
open Cert.MemorySpec

/-- The scaled products of a block of queries with the keys. -/
def lgs (q : FVec Ideal S512x128 .bf16) (k : FVec Ideal S256x128 .bf16) : FVec Ideal S512x256 .f32 :=
  mulf (matmul dot_S512x128_S256x128_S512x256_1_1_0_0_n_n none q k (constant S512x256 .f32 0x00000000#32 : FVec Ideal S512x256 .f32))
    (broadcast S512x256 (Scalar.ofBits .f32 0x3DB504F3#32 : Ideal .f32))

theorem lgs_apply (q : FVec Ideal S512x128 .bf16) (k : FVec Ideal S256x128 .bf16) (p : Fin 512) (m : Fin 256) :
    (lgs q k (ix2 p m) : EReal) = logit (fun d => q (ix2 p d)) (fun m d => k (ix2 m d)) m := by
  unfold logit
  pointwise [lgs]

/-- The column of row maxima. -/
def tops (l : FVec Ideal S512x256 .f32) : FVec Ideal S512x1 .f32 :=
  shapeCast S512x1 (multiReduction .maximumf [1] S512 l 0xFF800000#32 reduces_S512x256_S512 (.inl rfl) rfl : FVec Ideal S512 .f32) shapeCasts_S512_S512x1

theorem tops_apply (l : FVec Ideal S512x256 .f32) (p : Fin 512) : (tops l (ix2 p 0) : EReal) = top (fun m => l (ix2 p m)) := by
  unfold top
  pointwise [tops]

/-- The exponentials. -/
def exps (l : FVec Ideal S512x256 .f32) : FVec Ideal S512x256 .f32 :=
  exp (subf l (broadcastTo S512x256 (tops l) broadcasts_S512x1_S512x256))

theorem exps_apply (l : FVec Ideal S512x256 .f32) (p : Fin 512) (m : Fin 256) :
    (exps l (ix2 p m) : EReal) = expo (fun m => l (ix2 p m)) m := by
  unfold expo
  rw [← tops_apply]
  pointwise [exps]

/-- The rows divided by their sums. -/
def softs (e : FVec Ideal S512x256 .f32) : FVec Ideal S512x256 .f32 :=
  divf e (broadcastTo S512x256 (shapeCast S512x1 (multiReduction .add [1] S512 e 0x00000000#32 reduces_S512x256_S512 (.inl rfl) rfl : FVec Ideal S512 .f32) shapeCasts_S512_S512x1 : FVec Ideal S512x1 .f32) broadcasts_S512x1_S512x256)

theorem softs_apply (e : FVec Ideal S512x256 .f32) (p : Fin 512) (m : Fin 256) :
    (softs e (ix2 p m) : EReal) = Ideal.div (e (ix2 p m)) (∑ n : Fin 256, e (ix2 p n)) := by
  pointwise [softs]

/-- One head's attention. -/
def head (q : FVec Ideal S512x128 .bf16) (k v : FVec Ideal S256x128 .bf16) : FVec Ideal S512x128 .f32 :=
  matmul dot_S512x256_S256x128_S512x128_1_0_0_1_n_n none (truncf .bf16 (softs (exps (lgs q k))) bitsLt_bf16_f32 : FVec Ideal S512x256 .bf16) v
    (constant S512x128 .f32 0x00000000#32 : FVec Ideal S512x128 .f32)

theorem head_apply (q : FVec Ideal S512x128 .bf16) (k v : FVec Ideal S256x128 .bf16) (p : Fin 512) (j : Fin 128) :
    (head q k v (ix2 p j) : EReal) = att (fun d => q (ix2 p d)) (fun m d => k (ix2 m d)) (fun m d => v (ix2 m d)) j := by
  have h : (head q k v (ix2 p j) : EReal) = ∑ m : Fin 256, (softs (exps (lgs q k)) (ix2 p m) : EReal) * v (ix2 m j) := by
    pointwise [head]
  rw [h]
  unfold att soft
  simp only [softs_apply, exps_apply, lgs_apply]

/-- The body's result at a place: the attention of the head that holds the channel. -/
def bodyAt (x0 : Vec Ideal S512x512 .f32) (x1 : Vec Ideal S256x1024 .f32) (y : S512x512.Idx) : EReal :=
  att (fun d => x0 (ix2 (y 0) ⟨128 * ((y 1).val / 128) + d.val, by have := d.isLt; have h : (y 1).val < 512 := (y 1).isLt; omega⟩))
    (fun m d => x1 (ix2 m ⟨128 * ((y 1).val / 128) + d.val, by have := d.isLt; have h : (y 1).val < 512 := (y 1).isLt; omega⟩))
    (fun m d => x1 (ix2 m ⟨512 + (128 * ((y 1).val / 128) + d.val), by have := d.isLt; have h : (y 1).val < 512 := (y 1).isLt; omega⟩))
    ⟨(y 1).val % 128, Nat.mod_lt _ (by decide)⟩

theorem pay5_eq (x0 : Vec Ideal S512x512 .f32) (x1 : Vec Ideal S256x1024 .f32) : k0_pay5 x0 x1
    = head (extractStridedSlice S512x128 ![0, 0] (k0_pay3 x0) slices_S512x512_o0_0_S512x128) (extractStridedSlice S256x128 ![0, 0] (k0_pay4 x1) slices_S256x1024_o0_0_S256x128)
      (extractStridedSlice S256x128 ![0, 512] (k0_pay4 x1) slices_S256x1024_o0_512_S256x128) := rfl
theorem pay6_eq (x0 : Vec Ideal S512x512 .f32) (x1 : Vec Ideal S256x1024 .f32) : k0_pay6 x0 x1
    = head (extractStridedSlice S512x128 ![0, 128] (k0_pay3 x0) slices_S512x512_o0_128_S512x128) (extractStridedSlice S256x128 ![0, 128] (k0_pay4 x1) slices_S256x1024_o0_128_S256x128)
      (extractStridedSlice S256x128 ![0, 640] (k0_pay4 x1) slices_S256x1024_o0_640_S256x128) := rfl
theorem pay1_eq (x0 : FVec Ideal S512x512 .bf16) (x1 : FVec Ideal S256x1024 .bf16) : k0_pay1 x0 x1
    = head (extractStridedSlice S512x128 ![0, 256] x0 slices_S512x512_o0_256_S512x128) (extractStridedSlice S256x128 ![0, 256] x1 slices_S256x1024_o0_256_S256x128)
      (extractStridedSlice S256x128 ![0, 768] x1 slices_S256x1024_o0_768_S256x128) := rfl
theorem pay2_eq (x0 : FVec Ideal S512x512 .bf16) (x1 : FVec Ideal S256x1024 .bf16) : k0_pay2 x0 x1
    = head (extractStridedSlice S512x128 ![0, 384] x0 slices_S512x512_o0_384_S512x128) (extractStridedSlice S256x128 ![0, 384] x1 slices_S256x1024_o0_384_S256x128)
      (extractStridedSlice S256x128 ![0, 896] x1 slices_S256x1024_o0_896_S256x128) := rfl

/-- The place of a head's channel. -/
theorem bodyAt_head (x0 : Vec Ideal S512x512 .f32) (x1 : Vec Ideal S256x1024 .f32) (y : S512x512.Idx) (p : Fin 512) (n : Nat) (hn : n < 4) (j : Fin 128)
    (e0 : (y 0).val = p.val) (e1 : (y 1).val = 128 * n + j.val) :
    bodyAt x0 x1 y = att (fun d => x0 (ix2 p ⟨128 * n + d.val, by have := d.isLt; omega⟩))
      (fun m d => x1 (ix2 m ⟨128 * n + d.val, by have := d.isLt; omega⟩))
      (fun m d => x1 (ix2 m ⟨512 + (128 * n + d.val), by have := d.isLt; omega⟩)) j := by
  have hj := j.isLt
  have hb : 128 * n + j.val < 512 := by omega
  have ey : y = ix2 p ⟨128 * n + j.val, hb⟩ := by
    funext a
    fin_cases a
    · exact Fin.ext e0
    · exact Fin.ext e1
  subst ey
  have h1 : (128 * n + j.val) / 128 = n := by omega
  have h2 : (128 * n + j.val) % 128 = j.val := by omega
  unfold bodyAt
  have e : ∀ (n' : Nat) (j' : Nat) (hn' : n' = n) (hj' : j' = j.val) (b1 : ∀ d : Fin 128, 128 * n' + d.val < 512) (b2 : ∀ d : Fin 128, 128 * n' + d.val < 1024)
      (b3 : ∀ d : Fin 128, 512 + (128 * n' + d.val) < 1024) (b4 : j' < 128),
      att (fun d => x0 (ix2 p ⟨128 * n' + d.val, b1 d⟩)) (fun m d => x1 (ix2 m ⟨128 * n' + d.val, b2 d⟩))
        (fun m d => x1 (ix2 m ⟨512 + (128 * n' + d.val), b3 d⟩)) ⟨j', b4⟩
      = att (fun d => x0 (ix2 p ⟨128 * n + d.val, by have := d.isLt; omega⟩))
      (fun m d => x1 (ix2 m ⟨128 * n + d.val, by have := d.isLt; omega⟩))
      (fun m d => x1 (ix2 m ⟨512 + (128 * n + d.val), by have := d.isLt; omega⟩)) j := by
    intro n' j' hn' hj' b1 b2 b3 b4
    subst hn'
    subst hj'
    rfl
  exact e _ _ h1 h2 (fun d => by have := d.isLt; omega) (fun d => by have := d.isLt; omega) (fun d => by have := d.isLt; omega) (by omega)

theorem whole0 (x0 : Vec Ideal S512x512 .f32) : View.ld x0 r0_0 = x0 := View.ld_unit_lit _ x0 (by decide)
theorem whole1 (x1 : Vec Ideal S256x1024 .f32) : View.ld x1 r0_1 = x1 := View.ld_unit_lit _ x1 (by decide)

theorem q_at (x0 : Vec Ideal S512x512 .f32) (p : Fin 512) (d : Fin 512) : (k0_pay3 x0 (ix2 p d) : EReal) = x0 (ix2 p d) := by
  pointwise [k0_pay3]
theorem kv_at (x1 : Vec Ideal S256x1024 .f32) (m : Fin 256) (d : Fin 1024) : (k0_pay4 x1 (ix2 m d) : EReal) = x1 (ix2 m d) := by
  pointwise [k0_pay4]

/-- A head's rows, from the columns its slices begin at. -/
theorem head_at (x0 : Vec Ideal S512x512 .f32) (x1 : Vec Ideal S256x1024 .f32) (n : Nat) (hn : n < 4)
    (hq : S512x512.Slices ![0, 128 * n] S512x128) (hk : S256x1024.Slices ![0, 128 * n] S256x128) (hv : S256x1024.Slices ![0, 512 + 128 * n] S256x128)
    (x : S512x128.Idx) (y : S512x512.Idx) (e0 : (y 0).val = 0 + 1 * (x 0).val) (e1 : (y 1).val = 128 * n + 1 * (x 1).val) :
    (head (extractStridedSlice S512x128 ![0, 128 * n] (k0_pay3 x0) hq) (extractStridedSlice S256x128 ![0, 128 * n] (k0_pay4 x1) hk)
      (extractStridedSlice S256x128 ![0, 512 + 128 * n] (k0_pay4 x1) hv) x : EReal) = bodyAt x0 x1 y := by
  obtain ⟨p, j, rfl⟩ : ∃ (p : Fin 512) (j : Fin 128), x = ix2 p j := ⟨x 0, x 1, by funext a; fin_cases a <;> rfl⟩
  have f0 : (y 0).val = p.val := by
    have e : (y 0).val = 0 + 1 * p.val := e0
    omega
  have f1 : (y 1).val = 128 * n + j.val := by
    have e : (y 1).val = 128 * n + 1 * j.val := e1
    omega
  rw [bodyAt_head x0 x1 y p n hn j f0 f1]
  refine (head_apply _ _ _ p j).trans ?_
  have a : (fun d : Fin 128 => (extractStridedSlice S512x128 ![0, 128 * n] (k0_pay3 x0) hq (ix2 p d) : EReal))
      = fun d => x0 (ix2 p ⟨128 * n + d.val, by have := d.isLt; omega⟩) := by
    funext d
    refine Eq.trans (congrArg (k0_pay3 x0) ?_) (q_at x0 p _)
    funext a
    refine Fin.ext ?_
    fin_cases a
    · exact Nat.zero_add _
    · rfl
  have b : (fun (m : Fin 256) (d : Fin 128) => (extractStridedSlice S256x128 ![0, 128 * n] (k0_pay4 x1) hk (ix2 m d) : EReal))
      = fun m d => x1 (ix2 m ⟨128 * n + d.val, by have := d.isLt; omega⟩) := by
    funext m d
    refine Eq.trans (congrArg (k0_pay4 x1) ?_) (kv_at x1 m _)
    funext a
    refine Fin.ext ?_
    fin_cases a
    · exact Nat.zero_add _
    · rfl
  have c : (fun (m : Fin 256) (d : Fin 128) => (extractStridedSlice S256x128 ![0, 512 + 128 * n] (k0_pay4 x1) hv (ix2 m d) : EReal))
      = fun m d => x1 (ix2 m ⟨512 + (128 * n + d.val), by have := d.isLt; omega⟩) := by
    funext m d
    refine Eq.trans (congrArg (k0_pay4 x1) ?_) (kv_at x1 m _)
    funext a
    refine Fin.ext ?_
    fin_cases a
    · exact Nat.zero_add _
    · exact Nat.add_assoc _ _ _
  rw [a, b, c]

/-- What the body leaves, place by place. -/
theorem out_apply (x0 : Vec Ideal S512x512 .f32) (x1 : Vec Ideal S256x1024 .f32) (y : S512x512.Idx) :
    (out0_2 x0 x1 y : EReal) = bodyAt x0 x1 y := by
  unfold_out out0_2
  rw [whole0, whole1, pay1_eq, pay2_eq, pay5_eq, pay6_eq]
  refine View.canon_append_of_piecesOf (Val := Elt Ideal) (s := S512x512) (e := .f32) (bodyAt x0 x1) [] _ ?_ y (cover0_2 _ _ _ _ y)
  refine ⟨fun x => ?_, fun x => ?_, fun x => ?_, fun x => ?_, trivial⟩
  · exact head_at x0 x1 3 (by decide) slices_S512x512_o0_384_S512x128 slices_S256x1024_o0_384_S256x128 slices_S256x1024_o0_896_S256x128 x _ rfl rfl
  · exact head_at x0 x1 2 (by decide) slices_S512x512_o0_256_S512x128 slices_S256x1024_o0_256_S256x128 slices_S256x1024_o0_768_S256x128 x _ rfl rfl
  · exact head_at x0 x1 1 (by decide) slices_S512x512_o0_128_S512x128 slices_S256x1024_o0_128_S256x128 slices_S256x1024_o0_640_S256x128 x _ rfl rfl
  · exact head_at x0 x1 0 (by decide) slices_S512x512_o0_0_S512x128 slices_S256x1024_o0_0_S256x128 slices_S256x1024_o0_512_S256x128 x _ rfl rfl

end Cert.MemoryIdeal.Mem

end
-- ==== Proof.Memory.RefA.lean ====
module

public import proofs.«01_k».proof.Proof.Memory.Spec
public import proofs.«01_k».proof.Proof.Gen.MemoryReferenceIdeal.Read
public import Idealize.ShloMosaic.Lib.Pointwise
public import Idealize.ShloMosaic.Lib.IdealHost

@[expose] public section

set_option maxRecDepth 16384

noncomputable section

namespace Cert.MemoryReferenceIdeal.Mem

open Idealize.ShloMosaic Idealize.ShloMosaic.TcCoe
open Cert.MemoryReferenceIdeal Cert.MemoryReferenceIdeal.Gen Cert.MemoryReferenceIdeal.Read
open Cert.MemorySpec

variable (x0 : (⟨S16384x7680, .f32⟩ : BufTy).Contents (Elt Ideal)) (x1 : (⟨S512x1024, .f32⟩ : BufTy).Contents (Elt Ideal))

/-- The query of batch `b`, head `h` at position `t`. -/
def qr (b : Fin 2) (h : Fin 4) (t : Fin 8192) (d : Fin 128) : EReal :=
  x0 (ix2 ⟨8192 * b.val + t.val, by have := b.isLt; have := t.isLt; omega⟩ ⟨6656 + (128 * h.val + d.val), by have := h.isLt; have := d.isLt; omega⟩)

/-- The keys of batch `b`, head `h`. -/
def ky (b : Fin 2) (h : Fin 4) (m : Fin 256) (d : Fin 128) : EReal :=
  x1 (ix2 ⟨256 * b.val + m.val, by have := b.isLt; have := m.isLt; omega⟩ ⟨128 * h.val + d.val, by have := h.isLt; have := d.isLt; omega⟩)

/-- The values of batch `b`, head `h`. -/
def vl (b : Fin 2) (h : Fin 4) (m : Fin 256) (d : Fin 128) : EReal :=
  x1 (ix2 ⟨256 * b.val + m.val, by have := b.isLt; have := m.isLt; omega⟩ ⟨512 + (128 * h.val + d.val), by have := h.isLt; have := d.isLt; omega⟩)

theorem q_at (b : Fin 2) (t : Fin 8192) (h : Fin 4) (d : Fin 128) : val_main_v1 (F := Ideal) x0 (ix4 b t h d) = qr x0 b h t d := by
  have hb := b.isLt
  have ht := t.isLt
  have hh := h.isLt
  have hd := d.isLt
  rw [val_main_v1_apply, val_main_v0_apply]
  refine congrArg x0 ?_
  funext a
  refine Fin.ext ?_
  fin_cases a
  · show (((b.val * 8192 + t.val) * 4 + h.val) * 128 + d.val) / 512 = 8192 * b.val + t.val
    omega
  · show 6656 + (((b.val * 8192 + t.val) * 4 + h.val) * 128 + d.val) % 512 = 6656 + (128 * h.val + d.val)
    omega

theorem k_at (b : Fin 2) (m : Fin 256) (h : Fin 4) (d : Fin 128) : val_main_v4 (F := Ideal) x1 (ix4 b m h d) = ky x1 b h m d := by
  have hb := b.isLt
  have ht := m.isLt
  have hh := h.isLt
  have hd := d.isLt
  have e : idx_main_v4 (ix4 b m h d) = ix5 b m 0 h d := by
    funext a
    refine Fin.ext ?_
    fin_cases a
    · show (((b.val * 256 + m.val) * 4 + h.val) * 128 + d.val) / 131072 = b.val
      omega
    · show (((b.val * 256 + m.val) * 4 + h.val) * 128 + d.val) / 512 % 256 = m.val
      omega
    · rfl
    · show (((b.val * 256 + m.val) * 4 + h.val) * 128 + d.val) / 128 % 4 = h.val
      omega
    · show (((b.val * 256 + m.val) * 4 + h.val) * 128 + d.val) % 128 = d.val
      omega
  rw [val_main_v4_apply, e, val_main_v3_apply, val_main_v2_apply]
  refine congrArg x1 ?_
  funext a
  refine Fin.ext ?_
  fin_cases a
  · show ((((b.val * 256 + m.val) * 2 + 0) * 4 + h.val) * 128 + d.val) / 1024 = 256 * b.val + m.val
    omega
  · show ((((b.val * 256 + m.val) * 2 + 0) * 4 + h.val) * 128 + d.val) % 1024 = 128 * h.val + d.val
    omega

theorem v_at (b : Fin 2) (m : Fin 256) (h : Fin 4) (d : Fin 128) : val_main_v6 (F := Ideal) x1 (ix4 b m h d) = vl x1 b h m d := by
  have hb := b.isLt
  have ht := m.isLt
  have hh := h.isLt
  have hd := d.isLt
  have e : idx_main_v6 (ix4 b m h d) = ix5 b m 0 h d := by
    funext a
    refine Fin.ext ?_
    fin_cases a
    · show (((b.val * 256 + m.val) * 4 + h.val) * 128 + d.val) / 131072 = b.val
      omega
    · show (((b.val * 256 + m.val) * 4 + h.val) * 128 + d.val) / 512 % 256 = m.val
      omega
    · rfl
    · show (((b.val * 256 + m.val) * 4 + h.val) * 128 + d.val) / 128 % 4 = h.val
      omega
    · show (((b.val * 256 + m.val) * 4 + h.val) * 128 + d.val) % 128 = d.val
      omega
  rw [val_main_v6_apply, e, val_main_v5_apply, val_main_v2_apply]
  refine congrArg x1 ?_
  funext a
  refine Fin.ext ?_
  fin_cases a
  · show ((((b.val * 256 + m.val) * 2 + (1 + 0)) * 4 + h.val) * 128 + d.val) / 1024 = 256 * b.val + m.val
    omega
  · show ((((b.val * 256 + m.val) * 2 + (1 + 0)) * 4 + h.val) * 128 + d.val) % 1024 = 512 + (128 * h.val + d.val)
    omega

/-- The scaled product of a query and a key. -/
theorem logit_at (b : Fin 2) (h : Fin 4) (t : Fin 8192) (m : Fin 256) :
    val_main_v9 (F := Ideal) x0 x1 (ix4 b h t m) = logit (qr x0 b h t) (ky x1 b h) m := by
  rw [val_main_v9_apply, val_main_v7_apply]
  unfold logit
  refine congrArg₂ (fun a b : EReal => a * b) (Finset.sum_congr (M := EReal) rfl fun d _ => congrArg₂ (fun a b : EReal => a * b)
    (Eq.trans (congrArg _ ?_) (q_at x0 b t h d)) (Eq.trans (congrArg _ ?_) (k_at x1 b m h d))) rfl
  all_goals (funext a; fin_cases a <;> rfl)

/-- The greatest of a row. -/
theorem top_at (b : Fin 2) (h : Fin 4) (t : Fin 8192) :
    val_main_v10 (F := Ideal) x0 x1 (ix3 b h t) = top (logit (qr x0 b h t) (ky x1 b h)) := by
  have e : (val_main_v10 (F := Ideal) x0 x1 (ix3 b h t) : EReal) = top (fun m => val_main_v9 (F := Ideal) x0 x1 (ix4 b h t m)) := by
    unfold val_main_v10
    generalize val_main_v9 (F := Ideal) x0 x1 = y
    unfold top
    pointwise [val_main_cst_0]
  rw [e]
  exact congrArg top (funext fun m => logit_at x0 x1 b h t m)

theorem max_at (b : Fin 2) (h : Fin 4) (t : Fin 8192) (m : Fin 256) :
    val_main_v14 (F := Ideal) x0 x1 (ix4 b h t m) = top (logit (qr x0 b h t) (ky x1 b h)) := by
  rw [val_main_v14_apply, val_main_v13_apply, val_main_v12_apply, val_main_v11_apply]
  refine Eq.trans (congrArg (fun z : EReal => max (Ideal.ofBits .f32 0xFF800000#32) z) (Eq.trans (congrArg _ ?_) (top_at x0 x1 b h t))) (max_top _)
  funext a; fin_cases a <;> rfl

theorem expo_at (b : Fin 2) (h : Fin 4) (t : Fin 8192) (m : Fin 256) :
    val_main_v16 (F := Ideal) x0 x1 (ix4 b h t m) = expo (logit (qr x0 b h t) (ky x1 b h)) m := by
  rw [val_main_v16_apply, val_main_v15_apply, logit_at, max_at]
  rfl

theorem sum_at (b : Fin 2) (h : Fin 4) (t : Fin 8192) (m : Fin 256) :
    val_main_v19 (F := Ideal) x0 x1 (ix4 b h t m) = ∑ n : Fin 256, expo (logit (qr x0 b h t) (ky x1 b h)) n := by
  rw [val_main_v19_apply, val_main_v18_apply, val_main_v17_apply]
  refine (congrArg₂ (fun a b : EReal => a + b) Ideal.ofBits_zero_f32 (Finset.sum_congr (M := EReal) rfl fun n _ => ?_)).trans (zero_add (M := EReal) _)
  refine Eq.trans (congrArg _ ?_) (expo_at x0 x1 b h t n)
  funext a; fin_cases a <;> rfl

theorem soft_at (b : Fin 2) (h : Fin 4) (t : Fin 8192) (m : Fin 256) :
    val_main_v20 (F := Ideal) x0 x1 (ix4 b h t m) = soft (logit (qr x0 b h t) (ky x1 b h)) m := by
  rw [val_main_v20_apply, expo_at, sum_at]
  rfl

/-- The reference at a place: the query's attention to the memory. -/
theorem out_at (n : Fin 16384) (c : Fin 512) :
    val_main_v23 (F := Ideal) x0 x1 (ix2 n c)
      = att (fun d => x0 (ix2 n ⟨6656 + (128 * (c.val / 128) + d.val), by have := c.isLt; have := d.isLt; omega⟩))
          (fun m d => x1 (ix2 ⟨256 * (n.val / 8192) + m.val, by have := n.isLt; have := m.isLt; omega⟩ ⟨128 * (c.val / 128) + d.val, by have := c.isLt; have := d.isLt; omega⟩))
          (fun m d => x1 (ix2 ⟨256 * (n.val / 8192) + m.val, by have := n.isLt; have := m.isLt; omega⟩ ⟨512 + (128 * (c.val / 128) + d.val), by have := c.isLt; have := d.isLt; omega⟩))
          ⟨c.val % 128, Nat.mod_lt _ (by decide)⟩ := by
  have hn := n.isLt
  have hc := c.isLt
  have hb : n.val / 8192 < 2 := by omega
  have hh : c.val / 128 < 4 := by omega
  have ht : n.val % 8192 < 8192 := by omega
  have hj : c.val % 128 < 128 := by omega
  have e : idx_main_v22 (idx_main_v23 (ix2 n c)) = (ix4 (⟨n.val / 8192, hb⟩ : Fin 2) (⟨c.val / 128, hh⟩ : Fin 4) (⟨c.val % 128, hj⟩ : Fin 128) (⟨n.val % 8192, ht⟩ : Fin 8192) : S2x4x128x8192.Idx) := by
    funext a
    refine Fin.ext ?_
    fin_cases a
    · show (n.val * 512 + c.val) / 4194304 = n.val / 8192
      omega
    · show (n.val * 512 + c.val) / 128 % 4 = c.val / 128
      omega
    · show (n.val * 512 + c.val) % 128 = c.val % 128
      omega
    · show (n.val * 512 + c.val) / 512 % 8192 = n.val % 8192
      omega
  rw [val_main_v23_apply, val_main_v22_apply, e, val_main_v21_apply]
  have q : qr x0 ⟨n.val / 8192, hb⟩ ⟨c.val / 128, hh⟩ ⟨n.val % 8192, ht⟩
      = fun d => x0 (ix2 n ⟨6656 + (128 * (c.val / 128) + d.val), by have := d.isLt; omega⟩) := by
    funext d
    unfold qr
    refine congrArg x0 (congrArg (fun z => ix2 z _) (Fin.ext ?_))
    show 8192 * (n.val / 8192) + n.val % 8192 = n.val
    omega
  rw [← q]
  unfold att
  refine Finset.sum_congr (M := EReal) rfl fun m _ => (mul_comm (G := EReal) _ _).trans (congrArg₂ (fun a b : EReal => a * b)
    (Eq.trans (congrArg _ ?_) (soft_at x0 x1 ⟨n.val / 8192, hb⟩ ⟨c.val / 128, hh⟩ ⟨n.val % 8192, ht⟩ m)) (Eq.trans (congrArg _ ?_) (v_at x1 ⟨n.val / 8192, hb⟩ m ⟨c.val / 128, hh⟩ ⟨c.val % 128, hj⟩)))
  all_goals (funext a; fin_cases a <;> rfl)

end Cert.MemoryReferenceIdeal.Mem

end
-- ==== Proof.Memory.Value.lean ====
module

public import proofs.«01_k».proof.Defs
public import proofs.«01_k».proof.Proof.Gen.Memory.Frame
public import proofs.«01_k».proof.Proof.Gen.MemoryIdeal.Frame
public import proofs.«01_k».proof.Proof.Gen.MemoryIdeal.Value
public import proofs.«01_k».proof.Proof.Gen.MemoryReferenceIdeal.Run
public import proofs.«01_k».proof.Proof.Gen.MemoryReferenceIdeal.Read
public import proofs.«01_k».proof.Proof.Memory.MathI
public import proofs.«01_k».proof.Proof.Memory.RefA
public import Idealize.ShloMosaic.Lib.Pipeline.Value
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.MemoryIdeal.Mem

open Cert.MemoryIdeal Cert.MemoryIdeal.Gen
open Idealize.ShloMosaic Idealize.ShloMosaic.TcCoe Idealize.SL.Sem
open Idealize.ShloMosaic.Pipeline (Dat Cfg Window)
open Cert.MemorySpec
open Cert.MemoryReferenceIdeal.Read (val_main_v23)
open Cert.MemoryReferenceIdeal.Mem (out_at)

variable (m : (ℓ : Loc nD τ sig) → Buf (Elt Ideal) ℓ)

abbrev a0 (c : Dev nD) := m ((c : Thread nD τ).loc main_arg0)
abbrev a1 (c : Dev nD) := m ((c : Thread nD τ).loc main_arg1)

/-- Row `p` of point `t`'s block among all rows. -/
def rowOf (t : Fin cfg0.N) (p : Fin 512) : Fin 16384 := ⟨512 * t.val + p.val, by have h : t.val < 32 := lt_of_lt_of_eq t.isLt N_0; have := p.isLt; omega⟩

theorem idx0 : ∀ t : Fin cfg0.N, win0_0.index t (0 : Fin 2) = t.val ∧ win0_0.index t (1 : Fin 2) = 13 := (by decide +kernel : ∀ t : Fin grid0.N, _)
theorem idx1 : ∀ t : Fin cfg0.N, win0_1.index t (0 : Fin 2) = t.val / 16 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

/-- The queries' block. -/
theorem blk0 (c : Dev nD) (t : Fin cfg0.N) (p k : Fin 512) :
    (iblk m c 0 t (ix2 p k) : EReal) = a0 m c (ix2 (rowOf t p) ⟨6656 + k.val, by have := k.isLt; omega⟩) := by
  obtain ⟨e0, e1⟩ := idx0 t
  refine Eq.trans (congrArg (V m c main_arg0) ?_) (congrFun (V_main_arg0 m c) _)
  funext a
  refine Fin.ext ?_
  fin_cases a
  · show win0_0.index t (0 : Fin 2) * 512 + 1 * p.val = 512 * t.val + p.val
    omega
  · show win0_0.index t (1 : Fin 2) * 512 + 1 * k.val = 6656 + k.val
    omega

/-- The block of the batch's keys and values. -/
theorem blk1 (c : Dev nD) (t : Fin cfg0.N) (p : Fin 512) (k : Fin 256) (d : Fin 1024) :
    (iblk m c 1 t (ix2 k d) : EReal) = a1 m c (ix2 ⟨256 * ((rowOf t p).val / 8192) + k.val, by have := (rowOf t p).isLt; have := k.isLt; omega⟩ d) := by
  obtain ⟨e0, e1⟩ := idx1 t
  have hp := p.isLt
  refine Eq.trans (congrArg (V m c main_arg1) ?_) (congrFun (V_main_arg1 m c) _)
  funext a
  refine Fin.ext ?_
  fin_cases a
  · show win0_1.index t (0 : Fin 2) * 256 + 1 * k.val = 256 * ((512 * t.val + p.val) / 8192) + k.val
    omega
  · show win0_1.index t (1 : Fin 2) * 1024 + 1 * d.val = d.val
    omega

/-- The reference's result. -/
def G (c : Dev nD) : Vec Ideal S16384x512 .f32 := val_main_v23 (F := Ideal) (a0 m c) (a1 m c)

/-- What a point leaves is the reference's block of rows. -/
theorem point (c : Dev nD) (t : Fin cfg0.N) (p : Fin 512) (j : Fin 512) :
    (out0_2 (iblk m c 0 t) (iblk m c 1 t) (ix2 p j) : EReal) = G m c (ix2 (rowOf t p) j) := by
  refine (out_apply _ _ _).trans ?_
  unfold G
  refine Eq.trans ?_ (out_at (a0 m c) (a1 m c) (rowOf t p) j).symm
  unfold bodyAt
  refine congrFun (congr (congrArg₂ att ?_ ?_) ?_) _
  · funext d
    exact blk0 m c t p _
  · funext k d
    exact blk1 m c t p k _
  · funext k d
    exact blk1 m c t p k _

theorem place2 (t : Fin cfg0.N) (y : S512x512.Idx) : (((cfg0.win 2).blk t).view.emb y : S16384x512.Idx) = ix2 (rowOf t (y 0)) (y 1) := by
  obtain ⟨e0, e1⟩ := idx2 t
  funext a
  refine Fin.ext ?_
  fin_cases a
  · show win0_2.index t (0 : Fin 2) * 512 + 1 * (y 0).val = 512 * t.val + (y 0).val
    omega
  · show win0_2.index t (1 : Fin 2) * 512 + 1 * (y 1).val = (y 1).val
    omega

/-- An array whose blocks are what the points leave is what the region leaves, at any proof data. -/
theorem out_gen (c : Dev nD) (dat : Dat τ (Elt Ideal) Unit ℕ (Idealize.ShloMosaic.UR sig nD τ) ℕ cfg0 c)
    (Z : Vec Ideal S16384x512 .f32) (O : Fin cfg0.N → Vec Ideal S512x512 .f32) (ha : ∀ t : Fin cfg0.N, dat.after 2 t = O t)
    (h : ∀ (t : Fin cfg0.N) (p : Fin 512) (j : Fin 512), O t (ix2 p j) = Z (ix2 (rowOf t p) j)) :
    dat.arrAt 2 cfg0.N = Z := by
  refine dat.arrAt_eq_of_covers 2 Z (by decide +kernel) (fun t hf y => ?_) (Memref.isWhole_whole _)
  rw [ha]
  have hy : ((cfg0.win 2).xinj (cfg0.grid.coords t) y : S512x512.Idx) = ix2 (y (0 : Fin 2)) (y (1 : Fin 2)) := by
    funext a
    fin_cases a <;> rfl
  exact (congrArg (O t) hy).trans ((h t (y (0 : Fin 2)) (y (1 : Fin 2))).trans (congrArg Z (place2 t y).symm))

/-- The output array ends holding the reference's result. -/
theorem out_eq (c : Dev nD) : (dats m 0 c).arrAt 2 cfg0.N = G m c :=
  out_gen c (dats m 0 c) (G m c) (fun t => out0_2 (iblk m c 0 t) (iblk m c 1 t)) (after0_2 m c) (point m c)

/-- The attention to the memory over the extended reals: the kernel's rows are the reference's, from equal arguments. -/
theorem algebraic : Cert.algebraic_MemoryIdeal_MemoryReferenceIdeal (hMemoryIdeal := Cert.MemoryIdeal.Gen.facts)
    (hMemoryReferenceIdeal := Cert.MemoryReferenceIdeal.Gen.facts) := by
  intro m g m' g' _ hag
  refine ⟨fun c => G m c, ?_, ?_⟩
  · refine (θ_run defs _ _).mono (fun r h c => ?_) (Cert.MemoryIdeal.Value.run_blocks m g)
    obtain ⟨h0, ha⟩ := h c
    exact ⟨h0.trans (out_eq m c), ha⟩
  · refine (θ_run Cert.MemoryReferenceIdeal.defs _ _).mono (fun r h c => ?_) (Cert.MemoryReferenceIdeal.Value.run (F := Ideal) m' g')
    obtain ⟨h23, ha⟩ := h c
    obtain ⟨g0, g1⟩ := hag c
    refine ⟨h23.trans ((Cert.MemoryReferenceIdeal.Read.val_main_v23_eq _ _).trans ?_), ha⟩
    rw [g0, g1]
    rfl

/-- The reference leaves its arguments and counters as they were. -/
theorem reference_frame : Cert.quiescent_MemoryReferenceIdeal (hMemoryReferenceIdeal := Cert.MemoryReferenceIdeal.Gen.facts) := by
  intro m ρ _
  refine (θ_run Cert.MemoryReferenceIdeal.defs _ _).mono (fun r h => ⟨fun c => (h c).2,
      Idealize.ShloMosaic.sem_eq_zero_of_no_sems (by decide) r.2⟩) (Cert.MemoryReferenceIdeal.Value.run (F := Ideal) m ρ)

end Cert.MemoryIdeal.Mem

end
-- ==== Proof.MemKv.Value.lean ====
module

public import proofs.«01_k».proof.Defs
public import proofs.«01_k».proof.Proof.Gen.MemKv.Frame
public import proofs.«01_k».proof.Proof.Gen.MemKvIdeal.Frame
public import proofs.«01_k».proof.Proof.Gen.MemKvIdeal.Value
public import proofs.«01_k».proof.Proof.Gen.MemKvReferenceIdeal.Run
public import proofs.«01_k».proof.Proof.Gen.MemKvReferenceIdeal.Read
public import Idealize.ShloMosaic.Lib.Pipeline.Value
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.MemKvIdeal.Kv

open Idealize.ShloMosaic Idealize.ShloMosaic.TcCoe Idealize.SL.Sem
open Cert.MemKvIdeal Cert.MemKvIdeal.Gen
open Idealize.ShloMosaic.Pipeline (Dat Cfg Window)
open Cert.MemKvReferenceIdeal.Read

variable (m : (ℓ : Loc nD τ sig) → Buf (Elt Ideal) ℓ)

abbrev a0 (c : Dev nD) := m ((c : Thread nD τ).loc main_arg0)
abbrev a1 (c : Dev nD) := m ((c : Thread nD τ).loc main_arg1)

/-- The product of the rows with layer 0 of the weight. -/
def G (x : (⟨S512x1024, .f32⟩ : BufTy).Contents (Elt Ideal)) (w : (⟨S4x1024x1024, .bf16⟩ : BufTy).Contents (Elt Ideal)) :
    (⟨S512x1024, .f32⟩ : BufTy).Contents (Elt Ideal) :=
  fun i => ∑ k : Fin 1024, x (ix2 (i 0) k) * w (ix3 0 k (i 1))

/-- The rows the region finds are the memory's, flattened. -/
theorem V_x (c : Dev nD) : V m c main_v0 = (shapeCast S512x1024 (a0 m c) shapeCasts_S2x256x1024_S512x1024 : (⟨S512x1024, .f32⟩ : BufTy).Contents (Elt Ideal)) := by
  show StableHlo.after _ _ _ = _
  simp only [hostOps0, List.flatten_cons, List.flatten_nil, List.append_nil, List.cons_append, List.nil_append]
  after_results
  rfl

/-- The weight the region finds is the given one. -/
theorem V_w (c : Dev nD) : V m c main_v1 = (truncf (F := Ideal) (φ := .f32) .bf16 (a1 m c) bitsLt_bf16_f32 : (⟨S4x1024x1024, .bf16⟩ : BufTy).Contents (Elt Ideal)) := by
  show StableHlo.after _ _ _ = _
  simp only [hostOps0, List.flatten_cons, List.flatten_nil, List.append_nil, List.cons_append, List.nil_append]
  after_results

/-- What the body stores, read at a row and a column. -/
theorem pay_apply (x0 : Vec Ideal S256x1024 .f32) (x1 : Vec Ideal S1x1024x1024 .bf16) (r : Fin 256) (q : Fin 1024) :
    k0_pay1 x0 x1 (ix2 r q) = ∑ k : Fin 1024, (x0 (ix2 r k) : EReal) * x1 (ix3 0 k q) := by
  pointwise [k0_pay1]

/-- The region leaves the whole product in its output array. -/
theorem out_eq (c : Dev nD) : (dats m 0 c).arrAt 2 (cfgs 0).N = G (V m c main_v0) (V m c main_v1) := by
  refine (dats m 0 c).arrAt_eq_of_covers 2 _ (by decide +kernel) fun t hf y => ?_
  blk_simp
  rw [after0_2]
  frame_out
  idx_vars y
  have e0 : ∀ t : Fin cfg0.N, win0_0.index t = ![(grid0.coords t 0).val, 0] := (by decide +kernel : ∀ t : Fin grid0.N, _)
  have e1 : ∀ t : Fin cfg0.N, win0_1.index t = ![0, 0, 0] := (by decide +kernel : ∀ t : Fin grid0.N, _)
  have e2 : ∀ t : Fin cfg0.N, win0_2.index t = ![(grid0.coords t 0).val, 0] := (by decide +kernel : ∀ t : Fin grid0.N, _)
  refine (pay_apply _ _ y0 y1).trans ?_
  refine Finset.sum_congr (M := EReal) rfl fun k _ => congrArg₂ (fun a b : EReal => a * b) ?_ ?_
  · blk_ext [iblk, V, e0 t, e2 t]
  · blk_ext [iblk, V, e1 t, e2 t]

/-- The product is the reference's. -/
theorem ref_eq (x : (⟨S2x256x1024, .f32⟩ : BufTy).Contents (Elt Ideal)) (w : (⟨S4x1024x1024, .f32⟩ : BufTy).Contents (Elt Ideal)) :
    G (shapeCast S512x1024 x shapeCasts_S2x256x1024_S512x1024) (truncf (F := Ideal) (φ := .f32) .bf16 w bitsLt_bf16_f32)
      = val_main_v3 (F := Ideal) x w := by
  funext i
  obtain ⟨p, j, rfl⟩ : ∃ (p : Fin 512) (j : Fin 1024), i = ix2 p j := ⟨i 0, i 1, by funext a; fin_cases a <;> rfl⟩
  have hp := p.isLt
  have hj := j.isLt
  rw [val_main_v3_apply, val_main_v2_apply]
  refine Finset.sum_congr (M := EReal) rfl fun k _ => ?_
  have hk := k.isLt
  rw [val_main_v1_apply, val_main_v0_apply]
  refine congrArg₂ (fun a b : EReal => a * b) ?_ ?_
  · refine shapeCast_apply x shapeCasts_S2x256x1024_S512x1024 (ix2 p k) _ ?_
    rewrite [Shape.rowMajor_val_two, Shape.rowMajor_val_three]
    show ((p.val * 1024 + j.val) / 262144 * 256 + (p.val * 1024 + j.val) / 1024 % 256) * 1024 + k.val = p.val * 1024 + k.val
    omega
  · show w (ix3 0 k j) = _
    refine congrArg w ?_
    funext a
    refine Fin.ext ?_
    fin_cases a
    · rfl
    · show k.val = (k.val * 1024 + (p.val * 1024 + j.val) % 1024) / 1024 % 1024
      omega
    · show j.val = (k.val * 1024 + (p.val * 1024 + j.val) % 1024) % 1024
      omega

/-- The memory's keys and values over the extended reals: the kernel's are the reference's, from equal arguments. -/
theorem algebraic : Cert.algebraic_MemKvIdeal_MemKvReferenceIdeal (hMemKvIdeal := Cert.MemKvIdeal.Gen.facts)
    (hMemKvReferenceIdeal := Cert.MemKvReferenceIdeal.Gen.facts) := by
  intro m g m' g' _ hag
  refine ⟨fun c => val_main_v3 (F := Ideal) (a0 m c) (a1 m c), ?_, ?_⟩
  · refine (θ_run defs _ _).mono (fun r h c => ?_) (Cert.MemKvIdeal.Value.run_blocks m g)
    obtain ⟨h0, ha⟩ := h c
    refine ⟨h0.trans ((out_eq m c).trans ?_), ha⟩
    rw [V_x, V_w]
    exact ref_eq _ _
  · refine (θ_run Cert.MemKvReferenceIdeal.defs _ _).mono (fun r h c => ?_) (Cert.MemKvReferenceIdeal.Value.run (F := Ideal) m' g')
    obtain ⟨h3, ha⟩ := h c
    obtain ⟨g0, g1⟩ := hag c
    refine ⟨h3.trans ((Cert.MemKvReferenceIdeal.Read.val_main_v3_eq _ _).trans ?_), ha⟩
    rw [g0, g1]

/-- The reference leaves its arguments and counters as they were. -/
theorem reference_frame : Cert.quiescent_MemKvReferenceIdeal (hMemKvReferenceIdeal := Cert.MemKvReferenceIdeal.Gen.facts) := by
  intro m ρ _
  refine (θ_run Cert.MemKvReferenceIdeal.defs _ _).mono (fun r h => ⟨fun c => (h c).2,
      Idealize.ShloMosaic.sem_eq_zero_of_no_sems (by decide) r.2⟩) (Cert.MemKvReferenceIdeal.Value.run (F := Ideal) m ρ)

end Cert.MemKvIdeal.Kv

end
-- ==== Proof.Conv.MathI.lean ====
module

public import proofs.«01_k».proof.Proof.Gen.ConvIdeal.Frame
public import Idealize.ShloMosaic.Lib.Pointwise
public import Idealize.ShloMosaic.Lib.Pipeline.Value
public import Idealize.ShloMosaic.Lib.Pipeline.ValueKit
public import Idealize.ShloMosaic.Lib.KernelVsHost
public import Idealize.ShloMosaic.Lib.IdealHost

@[expose] public section

set_option maxRecDepth 16384

noncomputable section

namespace Cert.ConvIdeal.Cv

open Cert.ConvIdeal Cert.ConvIdeal.Gen
open Idealize.ShloMosaic Idealize.ShloMosaic.TcCoe

/-- A point's rows with the eight before them. -/
def full (i : grid0.Coords) (x0 x2 : Vec Ideal S512x512 .f32) (x3 x4 : Vec Ideal S8x512 .f32) : FVec Ideal S520x512 .f32 :=
  concatenate S520x512 0 [⟨S8x512, (Scalar.select (Scalar.cmpi .sgt (BitVec.ofNat 32 (i 1).val) 0#32) (mulf x4 x3 : FVec Ideal S8x512 .f32)
    (broadcast S8x512 (Scalar.ofBits .f32 0x00000000#32 : Ideal .f32)) : FVec Ideal S8x512 .f32)⟩, ⟨S512x512, (mulf x2 x0 : FVec Ideal S512x512 .f32)⟩] concatenates_S8x512_S512x512_S520x512_d0

theorem full_hi (i : grid0.Coords) (x0 x2 : Vec Ideal S512x512 .f32) (x3 x4 : Vec Ideal S8x512 .f32) (q : Fin 512) (c : Fin 512) :
    (full i x0 x2 x3 x4 (ix2 ⟨8 + q.val, by have := q.isLt; omega⟩ c) : EReal) = x2 (ix2 q c) * x0 (ix2 q c) := by
  have hq := q.isLt
  pointwise [full]

theorem cmp_pos : ∀ n : Nat, n < 16 → Scalar.cmpi .sgt (BitVec.ofNat 32 n) 0#32 = if 0 < n then 1#1 else 0#1 := by
  decide +kernel

theorem full_lo (i : grid0.Coords) (x0 x2 : Vec Ideal S512x512 .f32) (x3 x4 : Vec Ideal S8x512 .f32) (r : Fin 8) (c : Fin 512) :
    (full i x0 x2 x3 x4 (ix2 ⟨r.val, by have := r.isLt; omega⟩ c) : EReal) = if 0 < (i 1).val then (x4 (ix2 r c) : EReal) * x3 (ix2 r c) else 0 := by
  have hr := r.isLt
  have hi : (i 1).val < 16 := (i 1).isLt
  have hc : Scalar.cmpi .sgt (BitVec.ofNat 32 (i 1).val) 0#32 = if 0 < (i 1).val then 1#1 else 0#1 :=
    cmp_pos _ hi
  pointwise [full]
  rw [hc]
  by_cases h : 0 < (i 1).val
  · rw [if_pos h, if_pos h]
    rfl
  · rw [if_neg h, if_neg h]
    rfl

/-- The rows one step back. -/
def back1 (f : FVec Ideal S520x512 .f32) : FVec Ideal S512x512 .f32 :=
  extractStridedSlice S512x512 ![8, 0] (dynamicRotate 0 1#32 none f rotates_S520x512_d0 : FVec Ideal S520x512 .f32) slices_S520x512_o8_0_S512x512
/-- The rows two steps back. -/
def back2 (f : FVec Ideal S520x512 .f32) : FVec Ideal S512x512 .f32 :=
  extractStridedSlice S512x512 ![8, 0] (dynamicRotate 0 2#32 none f rotates_S520x512_d0 : FVec Ideal S520x512 .f32) slices_S520x512_o8_0_S512x512

theorem back1_apply (f : FVec Ideal S520x512 .f32) (p c : Fin 512) :
    back1 f (ix2 p c) = f (ix2 ⟨7 + p.val, by have := p.isLt; omega⟩ c) := by
  have hp := p.isLt
  refine dynamicRotate_apply (s := S520x512) (0 : Fin 2) 1#32 f rotates_S520x512_d0 _ _ fun b => ?_
  fin_cases b
  · show 7 + p.val = (8 + p.val + 520 - 1) % 520
    omega
  · show c.val = 0 + c.val
    omega
theorem back2_apply (f : FVec Ideal S520x512 .f32) (p c : Fin 512) :
    back2 f (ix2 p c) = f (ix2 ⟨6 + p.val, by have := p.isLt; omega⟩ c) := by
  have hp := p.isLt
  refine dynamicRotate_apply (s := S520x512) (0 : Fin 2) 2#32 f rotates_S520x512_d0 _ _ fun b => ?_
  fin_cases b
  · show 6 + p.val = (8 + p.val + 520 - 2) % 520
    omega
  · show c.val = 0 + c.val
    omega

/-- The gated sum of three rows. -/
def mixed (v v1 v2 : FVec Ideal S512x512 .f32) (w : Vec Ideal S8x512 .f32) (g : Vec Ideal S512x512 .f32) (b : Vec Ideal S1x512 .f32) : FVec Ideal S512x512 .f32 :=
  mulf g (addf (addf (addf (mulf (broadcastTo S512x512 (extractStridedSlice S1x512 ![0, 0] (shapeCast S8x512 w shapeCasts_S8x512_S8x512) slices_S8x512_o0_0_S1x512) broadcasts_S1x512_S512x512) v2)
    (mulf (broadcastTo S512x512 (extractStridedSlice S1x512 ![1, 0] (shapeCast S8x512 w shapeCasts_S8x512_S8x512) slices_S8x512_o1_0_S1x512) broadcasts_S1x512_S512x512) v1))
    (mulf (broadcastTo S512x512 (extractStridedSlice S1x512 ![2, 0] (shapeCast S8x512 w shapeCasts_S8x512_S8x512) slices_S8x512_o2_0_S1x512) broadcasts_S1x512_S512x512) v))
    (broadcastTo S512x512 (shapeCast S1x512 b shapeCasts_S1x512_S1x512) broadcasts_S1x512_S512x512))

theorem mixed_apply (v v1 v2 : FVec Ideal S512x512 .f32) (w : Vec Ideal S8x512 .f32) (g : Vec Ideal S512x512 .f32) (b : Vec Ideal S1x512 .f32) (p c : Fin 512) :
    (mixed v v1 v2 w g b (ix2 p c) : EReal) = (g (ix2 p c) : EReal) * ((((w (ix2 0 c) : EReal) * v2 (ix2 p c) + (w (ix2 1 c) : EReal) * v1 (ix2 p c))
      + (w (ix2 2 c) : EReal) * v (ix2 p c)) + b (ix2 0 c)) := by
  pointwise [mixed]

theorem pay_eq (i : grid0.Coords) (x0 x1 x2 : Vec Ideal S512x512 .f32) (x3 x4 x5 : Vec Ideal S8x512 .f32) (x6 : Vec Ideal S1x512 .f32) :
    k0_pay1 i x2 x0 x4 x3 x5 x1 x6 = mixed (mulf x2 x0) (back1 (full i x0 x2 x3 x4)) (back2 (full i x0 x2 x3 x4)) x5 x1 x6 := rfl

theorem whole0 (x : Vec Ideal S512x512 .f32) : View.ld x r0_0 = x := View.ld_unit_lit _ x (by decide)
theorem whole1 (x : Vec Ideal S8x512 .f32) : View.ld x r0_1 = x := View.ld_unit_lit _ x (by decide)
theorem whole2 (x : Vec Ideal S1x512 .f32) : View.ld x r0_2 = x := View.ld_unit_lit _ x (by decide)

/-- What the body leaves. -/
theorem out_apply (i : grid0.Coords) (x0 x1 x2 : Vec Ideal S512x512 .f32) (x3 x4 x5 : Vec Ideal S8x512 .f32) (x6 : Vec Ideal S1x512 .f32) (p c : Fin 512) :
    (out0_7 i x0 x1 x2 x3 x4 x5 x6 (ix2 p c) : EReal) = (x1 (ix2 p c) : EReal) * ((((x5 (ix2 0 c) : EReal) * full i x0 x2 x3 x4 (ix2 ⟨6 + p.val, by have := p.isLt; omega⟩ c)
      + (x5 (ix2 1 c) : EReal) * full i x0 x2 x3 x4 (ix2 ⟨7 + p.val, by have := p.isLt; omega⟩ c))
      + (x5 (ix2 2 c) : EReal) * ((x2 (ix2 p c) : EReal) * x0 (ix2 p c))) + x6 (ix2 0 c)) := by
  have e : out0_7 i x0 x1 x2 x3 x4 x5 x6 = k0_pay1 i x2 x0 x4 x3 x5 x1 x6 := by
    unfold out0_7
    rw [whole0, whole0, whole0, whole1, whole1, whole1, whole2]
    exact View.canon_unit_zero (by decide) _ _
  rw [e, pay_eq, mixed_apply, back1_apply, back2_apply]
  rfl

end Cert.ConvIdeal.Cv

end
-- ==== Proof.Conv.Spec.lean ====
module

public import Idealize.ShloMosaic.Adequacy
public import Idealize.ShloMosaic.PureOps.Ideal
public import Idealize.ShloMosaic.Lib.ValueIdx

@[expose] public section

noncomputable section

namespace Cert.ConvSpec

open Idealize.ShloMosaic

/-- The gated input at a row and a channel. -/
def inp (x : Fin 16384 → Fin 7680 → EReal) (n : Fin 16384) (c : Fin 512) : EReal :=
  x n ⟨5632 + c.val, by have := c.isLt; omega⟩ * x n ⟨4608 + c.val, by have := c.isLt; omega⟩

/-- The gated input `k` rows before, zero before the sequence's start. -/
def prev (x : Fin 16384 → Fin 7680 → EReal) (k : Nat) (n : Fin 16384) (c : Fin 512) : EReal :=
  if k ≤ n.val % 8192 then inp x ⟨n.val - k, by have := n.isLt; omega⟩ c else 0

/-- The short convolution at a row and a channel. -/
def conv (x : Fin 16384 → Fin 7680 → EReal) (w : Fin 3 → Fin 512 → EReal) (b : Fin 512 → EReal) (n : Fin 16384) (c : Fin 512) : EReal :=
  x n ⟨5120 + c.val, by have := c.isLt; omega⟩ * (((w 0 c * prev x 2 n c + w 1 c * prev x 1 n c) + w 2 c * inp x n c) + b c)

end Cert.ConvSpec

end
-- ==== Proof.Conv.RefA.lean ====
module

public import proofs.«01_k».proof.Proof.Conv.Spec
public import proofs.«01_k».proof.Proof.Gen.ConvReferenceIdeal.Read
public import Idealize.ShloMosaic.Lib.Pointwise
public import Idealize.ShloMosaic.Lib.KernelVsHost
public import Idealize.ShloMosaic.Lib.IdealHost

@[expose] public section

set_option maxRecDepth 16384

noncomputable section

namespace Cert.ConvReferenceIdeal.Cv

open Idealize.ShloMosaic Idealize.ShloMosaic.TcCoe
open Cert.ConvReferenceIdeal Cert.ConvReferenceIdeal.Gen Cert.ConvReferenceIdeal.Read
open Cert.ConvSpec

variable (x0 : (⟨S16384x7680, .f32⟩ : BufTy).Contents (Elt Ideal)) (x1 : (⟨S4x3x512, .f32⟩ : BufTy).Contents (Elt Ideal))
  (x2 : (⟨S4x512, .f32⟩ : BufTy).Contents (Elt Ideal))

/-- The projected rows by row and column. -/
abbrev xs : Fin 16384 → Fin 7680 → EReal := fun n d => x0 (ix2 n d)

theorem w0_at (c : Fin 512) : val_main_v9 (F := Ideal) x1 (ix1 c) = x1 (ix3 0 0 c) := by
  have hc := c.isLt
  rw [val_main_v9_apply, val_main_v8_apply, val_main_v7_apply, val_main_v6_apply]
  refine congrArg x1 ?_
  funext a
  refine Fin.ext ?_
  fin_cases a
  · rfl
  · show (0 * 512 + c.val % 512) / 512 % 3 = 0
    omega
  · show (0 * 512 + c.val % 512) % 512 = c.val
    omega
theorem w1_at (c : Fin 512) : val_main_v15 (F := Ideal) x1 (ix1 c) = x1 (ix3 0 1 c) := by
  have hc := c.isLt
  rw [val_main_v15_apply, val_main_v14_apply, val_main_v7_apply, val_main_v6_apply]
  refine congrArg x1 ?_
  funext a
  refine Fin.ext ?_
  fin_cases a
  · rfl
  · show ((1 + 0) * 512 + c.val % 512) / 512 % 3 = 1
    omega
  · show ((1 + 0) * 512 + c.val % 512) % 512 = c.val
    omega
theorem w2_at (c : Fin 512) : val_main_v22 (F := Ideal) x1 (ix1 c) = x1 (ix3 0 2 c) := by
  have hc := c.isLt
  rw [val_main_v22_apply, val_main_v21_apply, val_main_v7_apply, val_main_v6_apply]
  refine congrArg x1 ?_
  funext a
  refine Fin.ext ?_
  fin_cases a
  · rfl
  · show ((2 + 0) * 512 + c.val % 512) / 512 % 3 = 2
    omega
  · show ((2 + 0) * 512 + c.val % 512) % 512 = c.val
    omega

/-- The gated input. -/
theorem v_at (b : Fin 2) (t : Fin 8192) (c : Fin 512) : (val_main_v4 (F := Ideal) x0 (ix3 b t c) : EReal)
    = inp (xs x0) ⟨8192 * b.val + t.val, by have := b.isLt; have := t.isLt; omega⟩ c := by
  have hb := b.isLt
  have ht := t.isLt
  have hc := c.isLt
  rw [val_main_v4_apply, val_main_v1_apply, val_main_v0_apply, val_main_v3_apply, val_main_v2_apply]
  refine congrArg₂ (fun a b : EReal => a * b) (congrArg x0 ?_) (congrArg x0 ?_)
  · funext a
    refine Fin.ext ?_
    fin_cases a
    · show ((b.val * 8192 + t.val) * 512 + c.val) / 512 = 8192 * b.val + t.val
      omega
    · show 5632 + ((b.val * 8192 + t.val) * 512 + c.val) % 512 = 5632 + c.val
      omega
  · funext a
    refine Fin.ext ?_
    fin_cases a
    · show ((b.val * 8192 + t.val) * 512 + c.val) / 512 = 8192 * b.val + t.val
      omega
    · show 4608 + ((b.val * 8192 + t.val) * 512 + c.val) % 512 = 4608 + c.val
      omega

theorem zero_at (i : S_.Idx) : (val_main_call0_v0 (F := Ideal) i : EReal) = 0 := by
  show (((0#32 : BitVec 32).toInt : ℝ) : EReal) = 0
  simp

/-- The padded input inside. -/
theorem pad_in (b : Fin 2) (s : Fin 8194) (t : Fin 8192) (c : Fin 512) (h : s.val = 2 + t.val) :
    val_main_v5 (F := Ideal) x0 (ix3 b s c) = val_main_v4 (F := Ideal) x0 (ix3 b t c) := by
  unfold val_main_v5
  refine pad_apply_of_inside _ _ _ _ _ _ _ _ _ fun a => ?_
  fin_cases a
  · show b.val = 0 + b.val * 1
    omega
  · show s.val = 2 + t.val * 1
    omega
  · show c.val = 0 + c.val * 1
    omega

/-- The padded input before the start. -/
theorem pad_out (b : Fin 2) (s : Fin 8194) (c : Fin 512) (h : s.val < 2) :
    (val_main_v5 (F := Ideal) x0 (ix3 b s c) : EReal) = 0 := by
  unfold val_main_v5
  refine (pad_apply_of_not_inside _ _ _ _ _ _ _ _ (1 : Fin 3) fun hh => ?_).trans (zero_at _)
  have h2 : 2 ≤ s.val := hh.1
  omega

/-- The padded input `k` rows back. -/
theorem back_at (b : Fin 2) (t : Fin 8192) (c : Fin 512) (k : Nat) (hk : k ≤ 2) (s : Fin 8194) (hs : s.val + k = 2 + t.val) :
    (val_main_v5 (F := Ideal) x0 (ix3 b s c) : EReal) = prev (xs x0) k ⟨8192 * b.val + t.val, by have := b.isLt; have := t.isLt; omega⟩ c := by
  have hb := b.isLt
  have ht := t.isLt
  unfold prev
  by_cases h : k ≤ t.val
  · rw [if_pos (by show k ≤ (8192 * b.val + t.val) % 8192; omega), pad_in x0 b s ⟨t.val - k, by omega⟩ c (by show s.val = 2 + (t.val - k); omega), v_at]
    refine congrArg (fun n => inp (xs x0) n c) (Fin.ext ?_)
    show 8192 * b.val + (t.val - k) = 8192 * b.val + t.val - k
    omega
  · rw [if_neg (by show ¬ k ≤ (8192 * b.val + t.val) % 8192; omega)]
    exact pad_out x0 b s c (by omega)

theorem sum_at (b : Fin 2) (t : Fin 8192) (c : Fin 512) : (val_main_v34 (F := Ideal) x0 x1 x2 (ix3 b t c) : EReal)
    = conv (xs x0) (fun r d => x1 (ix3 0 r d)) (fun d => x2 (ix2 0 d)) ⟨8192 * b.val + t.val, by have := b.isLt; have := t.isLt; omega⟩ c := by
  have hb := b.isLt
  have ht := t.isLt
  have hc := c.isLt
  rw [val_main_v34_apply, val_main_v33_apply, val_main_v26_apply, val_main_v20_apply, val_main_v13_apply, val_main_v19_apply, val_main_v25_apply]
  unfold conv
  refine congrArg₂ (fun a b : EReal => a * b) ?_ (congrArg₂ (fun a b : EReal => a + b) (congrArg₂ (fun a b : EReal => a + b)
    (congrArg₂ (fun a b : EReal => a + b) (congrArg₂ (fun a b : EReal => a * b) ?_ ?_) (congrArg₂ (fun a b : EReal => a * b) ?_ ?_))
    (congrArg₂ (fun a b : EReal => a * b) ?_ ?_)) ?_)
  · rw [val_main_v28_apply, val_main_v27_apply]
    refine congrArg x0 ?_
    funext a
    refine Fin.ext ?_
    fin_cases a
    · show ((b.val * 8192 + t.val) * 512 + c.val) / 512 = 8192 * b.val + t.val
      omega
    · show 5120 + ((b.val * 8192 + t.val) * 512 + c.val) % 512 = 5120 + c.val
      omega
  · rw [val_main_v12_apply, val_main_v11_apply]
    refine Eq.trans (congrArg (val_main_v9 (F := Ideal) x1) ?_) (w0_at x1 c)
    funext a
    fin_cases a
    rfl
  · rw [val_main_v10_apply]
    refine Eq.trans (congrArg (val_main_v5 (F := Ideal) x0) ?_) (back_at x0 b t c 2 (by omega) ⟨t.val, by omega⟩ (by show t.val + 2 = 2 + t.val; omega))
    funext a
    fin_cases a <;> rfl
  · rw [val_main_v18_apply, val_main_v17_apply]
    refine Eq.trans (congrArg (val_main_v15 (F := Ideal) x1) ?_) (w1_at x1 c)
    funext a
    fin_cases a
    rfl
  · rw [val_main_v16_apply]
    refine Eq.trans (congrArg (val_main_v5 (F := Ideal) x0) ?_) (back_at x0 b t c 1 (by omega) ⟨1 + t.val, by omega⟩ (by show 1 + t.val + 1 = 2 + t.val; omega))
    funext a
    fin_cases a <;> rfl
  · rw [val_main_v24_apply, val_main_v23_apply]
    refine Eq.trans (congrArg (val_main_v22 (F := Ideal) x1) ?_) (w2_at x1 c)
    funext a
    fin_cases a
    rfl
  · exact v_at x0 b t c
  · rw [val_main_v32_apply, val_main_v31_apply, val_main_v30_apply, val_main_v29_apply]
    refine congrArg x2 ?_
    funext a
    refine Fin.ext ?_
    fin_cases a
    · rfl
    · show c.val % 512 = c.val
      omega

/-- The reference's result at a row and a channel. -/
theorem out_at (n : Fin 16384) (c : Fin 512) : (val_main_v35 (F := Ideal) x0 x1 x2 (ix2 n c) : EReal)
    = conv (xs x0) (fun r d => x1 (ix3 0 r d)) (fun d => x2 (ix2 0 d)) n c := by
  have hn := n.isLt
  have hc := c.isLt
  rw [val_main_v35_apply]
  have e : idx_main_v35 (ix2 n c) = ix3 ⟨n.val / 8192, by omega⟩ ⟨n.val % 8192, by omega⟩ c := by
    funext a
    refine Fin.ext ?_
    fin_cases a
    · show (n.val * 512 + c.val) / 4194304 = n.val / 8192
      omega
    · show (n.val * 512 + c.val) / 512 % 8192 = n.val % 8192
      omega
    · show (n.val * 512 + c.val) % 512 = c.val
      omega
  rw [e, sum_at]
  refine congrArg (fun n => conv (xs x0) (fun r d => x1 (ix3 0 r d)) (fun d => x2 (ix2 0 d)) n c) (Fin.ext ?_)
  show 8192 * (n.val / 8192) + n.val % 8192 = n.val
  omega

end Cert.ConvReferenceIdeal.Cv

end
-- ==== Proof.Conv.Value.lean ====
module

public import proofs.«01_k».proof.Defs
public import proofs.«01_k».proof.Proof.Gen.Conv.Frame
public import proofs.«01_k».proof.Proof.Gen.ConvIdeal.Frame
public import proofs.«01_k».proof.Proof.Gen.ConvIdeal.Value
public import proofs.«01_k».proof.Proof.Gen.ConvReferenceIdeal.Run
public import proofs.«01_k».proof.Proof.Gen.ConvReferenceIdeal.Read
public import proofs.«01_k».proof.Proof.Conv.MathI
public import proofs.«01_k».proof.Proof.Conv.RefA
public import Idealize.ShloMosaic.Lib.Pipeline.Value
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.ConvIdeal.Cv

open Cert.ConvIdeal Cert.ConvIdeal.Gen
open Idealize.ShloMosaic Idealize.ShloMosaic.TcCoe Idealize.SL.Sem
open Idealize.ShloMosaic.Pipeline (Dat Cfg Window)
open Cert.ConvSpec
open Cert.ConvReferenceIdeal.Read (val_main_v35)
open Cert.ConvReferenceIdeal.Cv (out_at xs)

variable (m : (ℓ : Loc nD τ sig) → Buf (Elt Ideal) ℓ)

abbrev a0 (c : Dev nD) := m ((c : Thread nD τ).loc main_arg0)
abbrev a1 (c : Dev nD) := m ((c : Thread nD τ).loc main_arg1)
abbrev a2 (c : Dev nD) := m ((c : Thread nD τ).loc main_arg2)

/-- Row `p` of point `t`'s block among all rows. -/
def rowOf (t : Fin cfg0.N) (p : Fin 512) : Fin 16384 := ⟨512 * t.val + p.val, by have h : t.val < 32 := lt_of_lt_of_eq t.isLt N_0; have := p.isLt; omega⟩

theorem pos1 : ∀ t : Fin cfg0.N, ((grid0.coords t) 1).val = t.val % 16 := (by decide +kernel : ∀ t : Fin grid0.N, _)
theorem idx0 : ∀ t : Fin cfg0.N, win0_0.index t (0 : Fin 2) = t.val ∧ win0_0.index t (1 : Fin 2) = 9 := (by decide +kernel : ∀ t : Fin grid0.N, _)
theorem idx1 : ∀ t : Fin cfg0.N, win0_1.index t (0 : Fin 2) = t.val ∧ win0_1.index t (1 : Fin 2) = 10 := (by decide +kernel : ∀ t : Fin grid0.N, _)
theorem idx2 : ∀ t : Fin cfg0.N, win0_2.index t (0 : Fin 2) = t.val ∧ win0_2.index t (1 : Fin 2) = 11 := (by decide +kernel : ∀ t : Fin grid0.N, _)
theorem idx3 : ∀ t : Fin cfg0.N, win0_3.index t (0 : Fin 2) = 64 * t.val - 1 ∧ win0_3.index t (1 : Fin 2) = 9 := (by decide +kernel : ∀ t : Fin grid0.N, _)
theorem idx4 : ∀ t : Fin cfg0.N, win0_4.index t (0 : Fin 2) = 64 * t.val - 1 ∧ win0_4.index t (1 : Fin 2) = 11 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)

theorem blk0 (c : Dev nD) (t : Fin cfg0.N) (p k : Fin 512) :
    (iblk m c 0 t (ix2 p k) : EReal) = a0 m c (ix2 (rowOf t p) ⟨4608 + k.val, by have := k.isLt; omega⟩) := by
  obtain ⟨e0, e1⟩ := idx0 t
  refine Eq.trans (congrArg (V m c main_arg0) ?_) (congrFun (V_main_arg0 m c) _)
  funext a
  refine Fin.ext ?_
  fin_cases a
  · show win0_0.index t (0 : Fin 2) * 512 + 1 * p.val = 512 * t.val + p.val
    omega
  · show win0_0.index t (1 : Fin 2) * 512 + 1 * k.val = 4608 + k.val
    omega
theorem blk1 (c : Dev nD) (t : Fin cfg0.N) (p k : Fin 512) :
    (iblk m c 1 t (ix2 p k) : EReal) = a0 m c (ix2 (rowOf t p) ⟨5120 + k.val, by have := k.isLt; omega⟩) := by
  obtain ⟨e0, e1⟩ := idx1 t
  refine Eq.trans (congrArg (V m c main_arg0) ?_) (congrFun (V_main_arg0 m c) _)
  funext a
  refine Fin.ext ?_
  fin_cases a
  · show win0_1.index t (0 : Fin 2) * 512 + 1 * p.val = 512 * t.val + p.val
    omega
  · show win0_1.index t (1 : Fin 2) * 512 + 1 * k.val = 5120 + k.val
    omega
theorem blk2 (c : Dev nD) (t : Fin cfg0.N) (p k : Fin 512) :
    (iblk m c 2 t (ix2 p k) : EReal) = a0 m c (ix2 (rowOf t p) ⟨5632 + k.val, by have := k.isLt; omega⟩) := by
  obtain ⟨e0, e1⟩ := idx2 t
  refine Eq.trans (congrArg (V m c main_arg0) ?_) (congrFun (V_main_arg0 m c) _)
  funext a
  refine Fin.ext ?_
  fin_cases a
  · show win0_2.index t (0 : Fin 2) * 512 + 1 * p.val = 512 * t.val + p.val
    omega
  · show win0_2.index t (1 : Fin 2) * 512 + 1 * k.val = 5632 + k.val
    omega
/-- The eight rows before the block, at a point past the first. -/
theorem blk3 (c : Dev nD) (t : Fin cfg0.N) (h : 0 < t.val) (r : Fin 8) (k : Fin 512) (n : Fin 16384) (hn : n.val + 8 = 512 * t.val + r.val) :
    (iblk m c 3 t (ix2 r k) : EReal) = a0 m c (ix2 n ⟨4608 + k.val, by have := k.isLt; omega⟩) := by
  obtain ⟨e0, e1⟩ := idx3 t
  refine Eq.trans (congrArg (V m c main_arg0) ?_) (congrFun (V_main_arg0 m c) _)
  funext a
  refine Fin.ext ?_
  fin_cases a
  · show win0_3.index t (0 : Fin 2) * 8 + 1 * r.val = n.val
    omega
  · show win0_3.index t (1 : Fin 2) * 512 + 1 * k.val = 4608 + k.val
    omega
theorem blk4 (c : Dev nD) (t : Fin cfg0.N) (h : 0 < t.val) (r : Fin 8) (k : Fin 512) (n : Fin 16384) (hn : n.val + 8 = 512 * t.val + r.val) :
    (iblk m c 4 t (ix2 r k) : EReal) = a0 m c (ix2 n ⟨5632 + k.val, by have := k.isLt; omega⟩) := by
  obtain ⟨e0, e1⟩ := idx4 t
  refine Eq.trans (congrArg (V m c main_arg0) ?_) (congrFun (V_main_arg0 m c) _)
  funext a
  refine Fin.ext ?_
  fin_cases a
  · show win0_4.index t (0 : Fin 2) * 8 + 1 * r.val = n.val
    omega
  · show win0_4.index t (1 : Fin 2) * 512 + 1 * k.val = 5632 + k.val
    omega

/-- Layer 0 of the weight. -/
def w3 (x : (⟨S4x3x512, .f32⟩ : BufTy).Contents (Elt Ideal)) : (⟨S3x512, .f32⟩ : BufTy).Contents (Elt Ideal) :=
  shapeCast S3x512 (extractStridedSlice S1x3x512 ![0, 0, 0] x slices_S4x3x512_S1x3x512_0_0_0 : (⟨S1x3x512, .f32⟩ : BufTy).Contents (Elt Ideal)) shapeCasts_S1x3x512_S3x512
/-- Layer 0 of the bias as a row. -/
def b1 (x : (⟨S4x512, .f32⟩ : BufTy).Contents (Elt Ideal)) : (⟨S1x512, .f32⟩ : BufTy).Contents (Elt Ideal) :=
  shapeCast S1x512 (shapeCast S512 (extractStridedSlice S1x512 ![0, 0] x slices_S4x512_S1x512_0_0 : (⟨S1x512, .f32⟩ : BufTy).Contents (Elt Ideal)) shapeCasts_S1x512_S512
    : (⟨S512, .f32⟩ : BufTy).Contents (Elt Ideal)) shapeCasts_S512_S1x512

theorem w3_apply (x : (⟨S4x3x512, .f32⟩ : BufTy).Contents (Elt Ideal)) (r : Fin 3) (k : Fin 512) : (w3 x (ix2 r k) : EReal) = x (ix3 0 r k) := by
  pointwise [w3]
theorem b1_apply (x : (⟨S4x512, .f32⟩ : BufTy).Contents (Elt Ideal)) (k : Fin 512) : (b1 x (ix2 0 k) : EReal) = x (ix2 0 k) := by
  pointwise [b1]

/-- The weight the region finds, in its first three rows. -/
theorem V_w (c : Dev nD) : ∃ z : (⟨S_, .f32⟩ : BufTy).Contents (Elt Ideal),
    V m c main_v4 = (pad S8x512 ![0, 0] ![5, 0] ![0, 0] (w3 (a1 m c)) z pads_S3x512_S8x512_050_000 h_S_ : (⟨S8x512, .f32⟩ : BufTy).Contents (Elt Ideal)) := by
  refine ⟨sitofp (F := Ideal) .f32 (constantI S_ 32 0#32 : (⟨S_, .i32⟩ : BufTy).Contents (Elt Ideal)), ?_⟩
  show StableHlo.after _ _ _ = _
  simp only [hostOps0, hostOps0_1, hostOps0_2, List.flatten_cons, List.flatten_nil, List.append_nil, List.cons_append, List.nil_append]
  after_results
  rfl
/-- The bias the region finds. -/
theorem V_b (c : Dev nD) : V m c main_v5 = b1 (a2 m c) := by
  show StableHlo.after _ _ _ = _
  simp only [hostOps0, hostOps0_1, hostOps0_2, List.flatten_cons, List.flatten_nil, List.append_nil, List.cons_append, List.nil_append]
  after_results
  rfl

theorem blk5 (c : Dev nD) (t : Fin cfg0.N) (r : Fin 8) (s : Fin 3) (h : r.val = s.val) (k : Fin 512) :
    (iblk m c 5 t (ix2 r k) : EReal) = a1 m c (ix3 0 s k) := by
  obtain ⟨e0, e1⟩ := idx5 t
  obtain ⟨z, hz⟩ := V_w m c
  refine Eq.trans (congrArg (V m c main_v4) ?_) ((congrFun hz (ix2 r k)).trans ((pad_apply_of_inside _ _ _ _ _ _ _ _ (ix2 s k) fun a => ?_).trans (w3_apply _ s k)))
  · funext a
    refine Fin.ext ?_
    fin_cases a
    · show win0_5.index t (0 : Fin 2) * 8 + 1 * r.val = r.val
      omega
    · show win0_5.index t (1 : Fin 2) * 512 + 1 * k.val = k.val
      omega
  · fin_cases a
    · show r.val = 0 + s.val * 1
      omega
    · show k.val = 0 + k.val * 1
      omega
theorem blk6 (c : Dev nD) (t : Fin cfg0.N) (k : Fin 512) : (iblk m c 6 t (ix2 0 k) : EReal) = a2 m c (ix2 0 k) := by
  obtain ⟨e0, e1⟩ := idx6 t
  refine Eq.trans (congrArg (V m c main_v5) ?_) ((congrFun (V_b m c) (ix2 0 k)).trans (b1_apply _ k))
  funext a
  refine Fin.ext ?_
  fin_cases a
  · show win0_6.index t (0 : Fin 2) * 1 + 1 * 0 = 0
    omega
  · show win0_6.index t (1 : Fin 2) * 512 + 1 * k.val = k.val
    omega

/-- The rows with the eight before them, read `k` rows back. -/
theorem full_at (c : Dev nD) (t : Fin cfg0.N) (p j : Fin 512) (k : Nat) (hk : k ≤ 8) (hk1 : 0 < k) (s : Fin 520) (hs : s.val + k = 8 + p.val) :
    (full (grid0.coords t) (iblk m c 0 t) (iblk m c 2 t) (iblk m c 3 t) (iblk m c 4 t) (ix2 s j) : EReal) = prev (xs (a0 m c)) k (rowOf t p) j := by
  have hp := p.isLt
  have ht : t.val < 32 := lt_of_lt_of_eq t.isLt N_0
  have hpos := pos1 t
  unfold prev
  by_cases h : k ≤ p.val
  · have es : s = ⟨8 + (⟨p.val - k, by omega⟩ : Fin 512).val, by show 8 + (p.val - k) < 520; omega⟩ := Fin.ext (by show s.val = 8 + (p.val - k); omega)
    have en : rowOf t ⟨p.val - k, by omega⟩ = ⟨(rowOf t p).val - k, by have := (rowOf t p).isLt; omega⟩ :=
      Fin.ext (by show 512 * t.val + (p.val - k) = 512 * t.val + p.val - k; omega)
    rw [if_pos (by show k ≤ (512 * t.val + p.val) % 8192; omega), es, full_hi, blk0, blk2, en]
    rfl
  · have es : s = ⟨(⟨s.val, by omega⟩ : Fin 8).val, by show s.val < 520; omega⟩ := rfl
    rw [es, full_lo, hpos]
    by_cases h0 : 0 < t.val % 16
    · rw [if_pos h0, if_pos (by show k ≤ (512 * t.val + p.val) % 8192; omega)]
      have hn : (⟨(rowOf t p).val - k, by have := (rowOf t p).isLt; omega⟩ : Fin 16384).val + 8 = 512 * t.val + (⟨s.val, by omega⟩ : Fin 8).val := by
        show 512 * t.val + p.val - k + 8 = 512 * t.val + s.val
        omega
      rw [blk3 m c t (by omega) _ _ _ hn, blk4 m c t (by omega) _ _ _ hn]
      rfl
    · rw [if_neg h0, if_neg (by show ¬ k ≤ (512 * t.val + p.val) % 8192; omega)]

/-- The reference's result. -/
def G (c : Dev nD) : Vec Ideal S16384x512 .f32 := val_main_v35 (F := Ideal) (a0 m c) (a1 m c) (a2 m c)

/-- What a point leaves. -/
abbrev O (c : Dev nD) (t : Fin cfg0.N) : Vec Ideal S512x512 .f32 :=
  out0_7 (grid0.coords t) (iblk m c 0 t) (iblk m c 1 t) (iblk m c 2 t) (iblk m c 3 t) (iblk m c 4 t) (iblk m c 5 t) (iblk m c 6 t)

/-- What a point leaves is the reference's block of rows. -/
theorem point (c : Dev nD) (t : Fin cfg0.N) (p : Fin 512) (j : Fin 512) :
    (O m c t (ix2 p j) : EReal) = G m c (ix2 (rowOf t p) j) := by
  have hp := p.isLt
  refine (out_apply _ _ _ _ _ _ _ _ _ _).trans ?_
  unfold G
  refine Eq.trans ?_ (out_at (a0 m c) (a1 m c) (a2 m c) (rowOf t p) j).symm
  rw [full_at m c t p j 2 (by omega) (by omega) _ (by show 6 + p.val + 2 = 8 + p.val; omega),
    full_at m c t p j 1 (by omega) (by omega) _ (by show 7 + p.val + 1 = 8 + p.val; omega),
    blk5 m c t 0 0 rfl, blk5 m c t 1 1 rfl, blk5 m c t 2 2 rfl, blk6, blk0, blk1, blk2]
  rfl

theorem place7 (t : Fin cfg0.N) (y : S512x512.Idx) : (((cfg0.win 7).blk t).view.emb y : S16384x512.Idx) = ix2 (rowOf t (y 0)) (y 1) := by
  obtain ⟨e0, e1⟩ := idx7 t
  funext a
  refine Fin.ext ?_
  fin_cases a
  · show win0_7.index t (0 : Fin 2) * 512 + 1 * (y 0).val = 512 * t.val + (y 0).val
    omega
  · show win0_7.index t (1 : Fin 2) * 512 + 1 * (y 1).val = (y 1).val
    omega

/-- An array whose blocks are what the points leave is what the region leaves, at any proof data. -/
theorem out_gen (c : Dev nD) (dat : Dat τ (Elt Ideal) Unit ℕ (Idealize.ShloMosaic.UR sig nD τ) ℕ cfg0 c)
    (Z : Vec Ideal S16384x512 .f32) (O : Fin cfg0.N → Vec Ideal S512x512 .f32) (ha : ∀ t : Fin cfg0.N, dat.after 7 t = O t)
    (h : ∀ (t : Fin cfg0.N) (p : Fin 512) (j : Fin 512), O t (ix2 p j) = Z (ix2 (rowOf t p) j)) :
    dat.arrAt 7 cfg0.N = Z := by
  refine dat.arrAt_eq_of_covers 7 Z (by decide +kernel) (fun t hf y => ?_) (Memref.isWhole_whole _)
  rw [ha]
  have hy : ((cfg0.win 7).xinj (cfg0.grid.coords t) y : S512x512.Idx) = ix2 (y (0 : Fin 2)) (y (1 : Fin 2)) := by
    funext a
    fin_cases a <;> rfl
  exact (congrArg (O t) hy).trans ((h t (y (0 : Fin 2)) (y (1 : Fin 2))).trans (congrArg Z (place7 t y).symm))

/-- The output array ends holding the reference's result. -/
theorem out_eq (c : Dev nD) : (dats m 0 c).arrAt 7 cfg0.N = G m c :=
  out_gen c (dats m 0 c) (G m c) (O m c) (after0_7 m c) (point m c)

/-- The short convolution over the extended reals: the kernel's rows are the reference's, from equal arguments. -/
theorem algebraic : Cert.algebraic_ConvIdeal_ConvReferenceIdeal (hConvIdeal := Cert.ConvIdeal.Gen.facts)
    (hConvReferenceIdeal := Cert.ConvReferenceIdeal.Gen.facts) := by
  intro m g m' g' _ hag
  refine ⟨fun c => G m c, ?_, ?_⟩
  · refine (θ_run defs _ _).mono (fun r h c => ?_) (Cert.ConvIdeal.Value.run_blocks m g)
    obtain ⟨h0, ha⟩ := h c
    exact ⟨h0.trans (out_eq m c), ha⟩
  · refine (θ_run Cert.ConvReferenceIdeal.defs _ _).mono (fun r h c => ?_) (Cert.ConvReferenceIdeal.Value.run (F := Ideal) m' g')
    obtain ⟨h35, ha⟩ := h c
    obtain ⟨g0, g1, g2⟩ := hag c
    refine ⟨h35.trans ((Cert.ConvReferenceIdeal.Read.val_main_v35_eq _ _ _).trans ?_), ha⟩
    rw [g0, g1, g2]
    rfl

/-- The reference leaves its arguments and counters as they were. -/
theorem reference_frame : Cert.quiescent_ConvReferenceIdeal (hConvReferenceIdeal := Cert.ConvReferenceIdeal.Gen.facts) := by
  intro m ρ _
  refine (θ_run Cert.ConvReferenceIdeal.defs _ _).mono (fun r h => ⟨fun c => (h c).2,
      Idealize.ShloMosaic.sem_eq_zero_of_no_sems (by decide) r.2⟩) (Cert.ConvReferenceIdeal.Value.run (F := Ideal) m ρ)

end Cert.ConvIdeal.Cv

end
-- ==== Proof.LnIn.MathI.lean ====
module

public import proofs.«01_k».proof.Proof.Merge.Spec
public import proofs.«01_k».proof.Proof.Gen.LnInIdeal.Frame
public import Idealize.ShloMosaic.Lib.Pointwise
public import Idealize.ShloMosaic.Lib.Pipeline.Value
public import Idealize.ShloMosaic.Lib.Pipeline.ValueKit
public import Idealize.ShloMosaic.Lib.IdealHost

@[expose] public section

set_option maxRecDepth 16384

noncomputable section

namespace Cert.LnInIdeal.Ln

open Cert.LnInIdeal Cert.LnInIdeal.Gen
open Idealize.ShloMosaic Idealize.ShloMosaic.TcCoe
open Cert.MergeSpec

/-- The column of row means. -/
def means (y : FVec Ideal S512x1024 .f32) : FVec Ideal S512x1 .f32 :=
  divf (shapeCast S512x1 (multiReduction .add [1] S512 y 0x00000000#32 reduces_S512x1024_S512 (.inl rfl) rfl : FVec Ideal S512 .f32) shapeCasts_S512_S512x1)
    (broadcast S512x1 (Scalar.ofBits .f32 0x44800000#32 : Ideal .f32))

theorem means_apply (y : FVec Ideal S512x1024 .f32) (p : Fin 512) : (means y (ix2 p 0) : EReal) = mean (fun j => y (ix2 p j)) := by
  unfold mean
  pointwise [means]

/-- The rows less their means. -/
def devs (y : FVec Ideal S512x1024 .f32) : FVec Ideal S512x1024 .f32 :=
  subf y (broadcastTo S512x1024 (means y) broadcasts_S512x1_S512x1024)

theorem devs_apply (y : FVec Ideal S512x1024 .f32) (p : Fin 512) (j : Fin 1024) :
    (devs y (ix2 p j) : EReal) = y (ix2 p j) - mean (fun j => y (ix2 p j)) := by
  rw [← means_apply]
  pointwise [devs]

/-- The normed rows before scale and shift. -/
def normed (d : FVec Ideal S512x1024 .f32) : FVec Ideal S512x1024 .f32 :=
  mulf d (broadcastTo S512x1024 (rsqrt (addf (means (mulf d d)) (broadcast S512x1 (Scalar.ofBits .f32 0x3727C5AC#32 : Ideal .f32))) : FVec Ideal S512x1 .f32) broadcasts_S512x1_S512x1024)

theorem normed_apply (d : FVec Ideal S512x1024 .f32) (p : Fin 512) (j : Fin 1024) :
    (normed d (ix2 p j) : EReal) = d (ix2 p j) * Ideal.rsqrt (mean (fun k => (d (ix2 p k) : EReal) * d (ix2 p k)) + Ideal.ofBits .f32 0x3727C5AC#32) := by
  have h := means_apply (mulf d d) p
  have h' : (fun j => ((mulf d d : FVec Ideal S512x1024 .f32) (ix2 p j) : EReal)) = fun k => (d (ix2 p k) : EReal) * d (ix2 p k) := by
    funext k; rfl
  rw [h'] at h
  rw [← h]
  pointwise [normed]

/-- The normed rows scaled and shifted. -/
def scaled (z : FVec Ideal S512x1024 .f32) (g b : Vec Ideal S1x1024 .f32) : FVec Ideal S512x1024 .f32 :=
  addf (mulf z (broadcastTo S512x1024 (shapeCast S1x1024 g shapeCasts_S1x1024_S1x1024 : FVec Ideal S1x1024 .f32) broadcasts_S1x1024_S512x1024))
    (broadcastTo S512x1024 (shapeCast S1x1024 b shapeCasts_S1x1024_S1x1024 : FVec Ideal S1x1024 .f32) broadcasts_S1x1024_S512x1024)

theorem scaled_apply (z : FVec Ideal S512x1024 .f32) (g b : Vec Ideal S1x1024 .f32) (p : Fin 512) (j : Fin 1024) :
    (scaled z g b (ix2 p j) : EReal) = z (ix2 p j) * g (ix2 0 j) + b (ix2 0 j) := by
  pointwise [scaled]

theorem pay_eq (x : Vec Ideal S512x1024 .f32) (g b : Vec Ideal S1x1024 .f32) :
    k0_pay1 x g b = scaled (normed (devs (shapeCast S512x1024 x shapeCasts_S512x1024_S512x1024 : FVec Ideal S512x1024 .f32))) g b := rfl

theorem same (x : Vec Ideal S512x1024 .f32) (p : Fin 512) (j : Fin 1024) :
    ((shapeCast S512x1024 x shapeCasts_S512x1024_S512x1024 : FVec Ideal S512x1024 .f32) (ix2 p j) : EReal) = x (ix2 p j) := by
  pointwise []

theorem whole0 (x : Vec Ideal S512x1024 .f32) : View.ld x r0_0 = x := View.ld_unit_lit _ x (by decide)
theorem whole1 (x : Vec Ideal S1x1024 .f32) : View.ld x r0_1 = x := View.ld_unit_lit _ x (by decide)

/-- What the body leaves: the layer norm of each row. -/
theorem out_apply (x : Vec Ideal S512x1024 .f32) (g b : Vec Ideal S1x1024 .f32) (p : Fin 512) (j : Fin 1024) :
    (out0_3 x g b (ix2 p j) : EReal) = norm (fun k => x (ix2 p k)) (fun k => g (ix2 0 k)) (fun k => b (ix2 0 k)) j := by
  have e : out0_3 x g b = k0_pay1 x g b := by
    unfold out0_3
    rw [whole0, whole1, whole1]
    exact View.canon_unit_zero (by decide) _ _
  rw [e, pay_eq, scaled_apply, normed_apply]
  simp only [devs_apply, same]
  rfl

end Cert.LnInIdeal.Ln

end
-- ==== Proof.LnIn.RefA.lean ====
module

public import proofs.«01_k».proof.Proof.Merge.Spec
public import proofs.«01_k».proof.Proof.Gen.LnInReferenceIdeal.Read
public import Idealize.ShloMosaic.Lib.Pointwise
public import Idealize.ShloMosaic.Lib.IdealHost

@[expose] public section

set_option maxRecDepth 16384

noncomputable section

namespace Cert.LnInReferenceIdeal.Ln

open Idealize.ShloMosaic Idealize.ShloMosaic.TcCoe
open Cert.LnInReferenceIdeal Cert.LnInReferenceIdeal.Gen Cert.LnInReferenceIdeal.Read
open Cert.MergeSpec

variable (x0 : (⟨S2x8192x1024, .f32⟩ : BufTy).Contents (Elt Ideal)) (x1 x2 : (⟨S1024, .f32⟩ : BufTy).Contents (Elt Ideal))

/-- The row of batch `b` at position `t`. -/
def yr (b : Fin 2) (t : Fin 8192) : Fin 1024 → EReal := fun j => x0 (ix3 b t j)

theorem mean_at (b : Fin 2) (t : Fin 8192) : val_main_v3 (F := Ideal) x0 (ix3 b t 0) = mean (yr x0 b t) := by
  rw [val_main_v3_apply, val_main_v1_apply, val_main_v0_apply]
  refine congrArg₂ (fun a b : EReal => Ideal.div a b) ?_ rfl
  refine (congrArg₂ (fun a b : EReal => a + b) Ideal.ofBits_zero_f32 (Finset.sum_congr (M := EReal) rfl fun k _ => ?_)).trans (zero_add (M := EReal) _)
  refine congrArg x0 ?_
  funext a; fin_cases a <;> rfl

theorem dev_at (b : Fin 2) (t : Fin 8192) (j : Fin 1024) : val_main_v5 (F := Ideal) x0 (ix3 b t j) = yr x0 b t j - mean (yr x0 b t) := by
  rw [val_main_v5_apply, val_main_v4_apply]
  refine congrArg₂ (fun a b : EReal => a - b) rfl (Eq.trans (congrArg _ ?_) (mean_at x0 b t))
  funext a; fin_cases a <;> rfl

theorem var_at (b : Fin 2) (t : Fin 8192) : val_main_v10 (F := Ideal) x0 (ix3 b t 0)
    = mean (fun k => (yr x0 b t k - mean (yr x0 b t)) * (yr x0 b t k - mean (yr x0 b t))) := by
  rw [val_main_v10_apply, val_main_v8_apply, val_main_v7_apply]
  refine congrArg₂ (fun a b : EReal => Ideal.div a b) ?_ rfl
  refine (congrArg₂ (fun a b : EReal => a + b) Ideal.ofBits_zero_f32 (Finset.sum_congr (M := EReal) rfl fun k _ => ?_)).trans (zero_add (M := EReal) _)
  have e := dev_at x0 b t k
  refine Eq.trans (congrArg (val_main_v6 (F := Ideal) x0) (show _ = (ix3 b t k : S2x8192x1024.Idx) from ?_)) ?_
  · funext a; fin_cases a <;> rfl
  · rw [val_main_v6_apply]
    exact congrArg₂ (fun a b : EReal => a * b) e e

theorem norm_at (b : Fin 2) (t : Fin 8192) (j : Fin 1024) :
    val_main_v23 (F := Ideal) x0 x1 x2 (ix3 b t j) = norm (yr x0 b t) (fun k => x1 (ix1 k)) (fun k => x2 (ix1 k)) j := by
  have hg : val_main_v19 (F := Ideal) x1 (ix3 b t j) = x1 (ix1 j) := by
    rw [val_main_v19_apply, val_main_v18_apply]
    refine congrArg x1 ?_
    funext a; fin_cases a; rfl
  have hb : val_main_v22 (F := Ideal) x2 (ix3 b t j) = x2 (ix1 j) := by
    rw [val_main_v22_apply, val_main_v21_apply]
    refine congrArg x2 ?_
    funext a; fin_cases a; rfl
  have hd : val_main_v12 (F := Ideal) x0 (ix3 b t j) = yr x0 b t j - mean (yr x0 b t) := by
    rw [val_main_v12_apply, val_main_v11_apply]
    refine congrArg₂ (fun a b : EReal => a - b) rfl (Eq.trans (congrArg _ ?_) (mean_at x0 b t))
    funext a; fin_cases a <;> rfl
  have hr : val_main_v16 (F := Ideal) x0 (ix3 b t j)
      = Ideal.rsqrt (mean (fun k => (yr x0 b t k - mean (yr x0 b t)) * (yr x0 b t k - mean (yr x0 b t))) + Ideal.ofBits .f32 0x3727C5AC#32) := by
    rw [val_main_v16_apply, val_main_v15_apply, val_main_v14_apply]
    refine congrArg Ideal.rsqrt (congrArg₂ (fun a b : EReal => a + b) ?_ rfl)
    refine Eq.trans (congrArg _ ?_) (var_at x0 b t)
    funext a; fin_cases a <;> rfl
  rw [val_main_v23_apply, val_main_v20_apply, val_main_v17_apply, hg, hb, hd, hr]
  rfl

/-- The reference at a row and a channel: the layer norm of the row. -/
theorem out_at (n : Fin 16384) (j : Fin 1024) : val_main_v24 (F := Ideal) x0 x1 x2 (ix2 n j)
    = norm (yr x0 ⟨n.val / 8192, by have := n.isLt; omega⟩ ⟨n.val % 8192, by omega⟩) (fun k => x1 (ix1 k)) (fun k => x2 (ix1 k)) j := by
  have hn := n.isLt
  have hj := j.isLt
  rw [val_main_v24_apply]
  have e : idx_main_v24 (ix2 n j) = ix3 ⟨n.val / 8192, by omega⟩ ⟨n.val % 8192, by omega⟩ j := by
    funext a
    refine Fin.ext ?_
    fin_cases a
    · show (n.val * 1024 + j.val) / 8388608 = n.val / 8192
      omega
    · show (n.val * 1024 + j.val) / 1024 % 8192 = n.val % 8192
      omega
    · show (n.val * 1024 + j.val) % 1024 = j.val
      omega
  rw [e, norm_at]

end Cert.LnInReferenceIdeal.Ln

end
-- ==== Proof.LnIn.Value.lean ====
module

public import proofs.«01_k».proof.Defs
public import proofs.«01_k».proof.Proof.Gen.LnIn.Frame
public import proofs.«01_k».proof.Proof.Gen.LnInIdeal.Frame
public import proofs.«01_k».proof.Proof.Gen.LnInIdeal.Value
public import proofs.«01_k».proof.Proof.Gen.LnInReferenceIdeal.Run
public import proofs.«01_k».proof.Proof.Gen.LnInReferenceIdeal.Read
public import proofs.«01_k».proof.Proof.LnIn.MathI
public import proofs.«01_k».proof.Proof.LnIn.RefA
public import Idealize.ShloMosaic.Lib.Pipeline.Value
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.LnInIdeal.Ln

open Cert.LnInIdeal Cert.LnInIdeal.Gen
open Idealize.ShloMosaic Idealize.ShloMosaic.TcCoe Idealize.SL.Sem
open Idealize.ShloMosaic.Pipeline (Dat Cfg Window)
open Cert.MergeSpec
open Cert.LnInReferenceIdeal.Read (val_main_v24)
open Cert.LnInReferenceIdeal.Ln (out_at yr)

variable (m : (ℓ : Loc nD τ sig) → Buf (Elt Ideal) ℓ)

abbrev a0 (c : Dev nD) := m ((c : Thread nD τ).loc main_arg0)
abbrev a1 (c : Dev nD) := m ((c : Thread nD τ).loc main_arg1)
abbrev a2 (c : Dev nD) := m ((c : Thread nD τ).loc main_arg2)

/-- Row `p` of point `t`'s block among all rows. -/
def rowOf (t : Fin cfg0.N) (p : Fin 512) : Fin 16384 := ⟨512 * t.val + p.val, by have h : t.val < 32 := lt_of_lt_of_eq t.isLt N_0; have := p.isLt; omega⟩

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

/-- The rows the region finds are the given ones, flattened. -/
theorem V_x (c : Dev nD) : V m c main_v0 = (shapeCast S16384x1024 (a0 m c) shapeCasts_S2x8192x1024_S16384x1024 : (⟨S16384x1024, .f32⟩ : BufTy).Contents (Elt Ideal)) := by
  show StableHlo.after _ _ _ = _
  simp only [hostOps0, List.flatten_cons, List.flatten_nil, List.append_nil, List.cons_append, List.nil_append]
  after_results
  rfl
/-- The scale the region finds is the given one as a row. -/
theorem V_g (c : Dev nD) : V m c main_v1 = (shapeCast S1x1024 (a1 m c) shapeCasts_S1024_S1x1024 : (⟨S1x1024, .f32⟩ : BufTy).Contents (Elt Ideal)) := by
  show StableHlo.after _ _ _ = _
  simp only [hostOps0, List.flatten_cons, List.flatten_nil, List.append_nil, List.cons_append, List.nil_append]
  after_results
  rfl
/-- The shift the region finds is the given one as a row. -/
theorem V_b (c : Dev nD) : V m c main_v2 = (shapeCast S1x1024 (a2 m c) shapeCasts_S1024_S1x1024 : (⟨S1x1024, .f32⟩ : BufTy).Contents (Elt Ideal)) := by
  show StableHlo.after _ _ _ = _
  simp only [hostOps0, List.flatten_cons, List.flatten_nil, List.append_nil, List.cons_append, List.nil_append]
  after_results
  rfl

theorem row_cast (x : (⟨S1024, .f32⟩ : BufTy).Contents (Elt Ideal)) (j : Fin 1024) :
    ((shapeCast S1x1024 x shapeCasts_S1024_S1x1024 : (⟨S1x1024, .f32⟩ : BufTy).Contents (Elt Ideal)) (ix2 0 j) : EReal) = x (ix1 j) := by
  pointwise []

theorem rows_cast (x : (⟨S2x8192x1024, .f32⟩ : BufTy).Contents (Elt Ideal)) (n : Fin 16384) (j : Fin 1024) :
    ((shapeCast S16384x1024 x shapeCasts_S2x8192x1024_S16384x1024 : (⟨S16384x1024, .f32⟩ : BufTy).Contents (Elt Ideal)) (ix2 n j) : EReal)
      = yr x ⟨n.val / 8192, by have := n.isLt; omega⟩ ⟨n.val % 8192, by omega⟩ j := by
  have hn := n.isLt
  unfold yr
  refine shapeCast_apply x shapeCasts_S2x8192x1024_S16384x1024 (ix2 n j) _ ?_
  rewrite [Shape.rowMajor_val_two, Shape.rowMajor_val_three]
  show (n.val / 8192 * 8192 + n.val % 8192) * 1024 + j.val = n.val * 1024 + j.val
  omega

theorem blk0 (c : Dev nD) (t : Fin cfg0.N) (p : Fin 512) (k : Fin 1024) :
    (iblk m c 0 t (ix2 p k) : EReal) = yr (a0 m c) ⟨(rowOf t p).val / 8192, by have := (rowOf t p).isLt; omega⟩ ⟨(rowOf t p).val % 8192, by omega⟩ k := by
  obtain ⟨e0, e1⟩ := idx0 t
  refine Eq.trans (congrArg (V m c main_v0) ?_) ((congrFun (V_x m c) (ix2 (rowOf t p) k)).trans (rows_cast _ _ k))
  funext a
  refine Fin.ext ?_
  fin_cases a
  · show win0_0.index t (0 : Fin 2) * 512 + 1 * p.val = 512 * t.val + p.val
    omega
  · show win0_0.index t (1 : Fin 2) * 1024 + 1 * k.val = k.val
    omega
theorem blk1 (c : Dev nD) (t : Fin cfg0.N) (j : Fin 1024) : (iblk m c 1 t (ix2 0 j) : EReal) = a1 m c (ix1 j) := by
  obtain ⟨e0, e1⟩ := idx1 t
  refine Eq.trans (congrArg (V m c main_v1) ?_) ((congrFun (V_g m c) (ix2 0 j)).trans (row_cast _ j))
  funext a
  refine Fin.ext ?_
  fin_cases a
  · show win0_1.index t (0 : Fin 2) * 1 + 1 * 0 = 0
    omega
  · show win0_1.index t (1 : Fin 2) * 1024 + 1 * j.val = j.val
    omega
theorem blk2 (c : Dev nD) (t : Fin cfg0.N) (j : Fin 1024) : (iblk m c 2 t (ix2 0 j) : EReal) = a2 m c (ix1 j) := by
  obtain ⟨e0, e1⟩ := idx2 t
  refine Eq.trans (congrArg (V m c main_v2) ?_) ((congrFun (V_b m c) (ix2 0 j)).trans (row_cast _ j))
  funext a
  refine Fin.ext ?_
  fin_cases a
  · show win0_2.index t (0 : Fin 2) * 1 + 1 * 0 = 0
    omega
  · show win0_2.index t (1 : Fin 2) * 1024 + 1 * j.val = j.val
    omega

/-- The reference's result. -/
def G (c : Dev nD) : Vec Ideal S16384x1024 .f32 := val_main_v24 (F := Ideal) (a0 m c) (a1 m c) (a2 m c)

/-- What a point leaves is the reference's block of rows. -/
theorem point (c : Dev nD) (t : Fin cfg0.N) (p : Fin 512) (j : Fin 1024) :
    (out0_3 (iblk m c 0 t) (iblk m c 1 t) (iblk m c 2 t) (ix2 p j) : EReal) = G m c (ix2 (rowOf t p) j) := by
  refine (out_apply _ _ _ _ _).trans ?_
  unfold G
  refine Eq.trans ?_ (out_at (a0 m c) (a1 m c) (a2 m c) (rowOf t p) j).symm
  refine congrFun (congr (congrArg₂ norm ?_ ?_) ?_) _
  · funext k
    exact blk0 m c t p k
  · funext k
    exact blk1 m c t k
  · funext k
    exact blk2 m c t k

theorem place3 (t : Fin cfg0.N) (y : S512x1024.Idx) : (((cfg0.win 3).blk t).view.emb y : S16384x1024.Idx) = ix2 (rowOf t (y 0)) (y 1) := by
  obtain ⟨e0, e1⟩ := idx3 t
  funext a
  refine Fin.ext ?_
  fin_cases a
  · show win0_3.index t (0 : Fin 2) * 512 + 1 * (y 0).val = 512 * t.val + (y 0).val
    omega
  · show win0_3.index t (1 : Fin 2) * 1024 + 1 * (y 1).val = (y 1).val
    omega

/-- An array whose blocks are what the points leave is what the region leaves, at any proof data. -/
theorem out_gen (c : Dev nD) (dat : Dat τ (Elt Ideal) Unit ℕ (Idealize.ShloMosaic.UR sig nD τ) ℕ cfg0 c)
    (Z : Vec Ideal S16384x1024 .f32) (O : Fin cfg0.N → Vec Ideal S512x1024 .f32) (ha : ∀ t : Fin cfg0.N, dat.after 3 t = O t)
    (h : ∀ (t : Fin cfg0.N) (p : Fin 512) (j : Fin 1024), O t (ix2 p j) = Z (ix2 (rowOf t p) j)) :
    dat.arrAt 3 cfg0.N = Z := by
  refine dat.arrAt_eq_of_covers 3 Z (by decide +kernel) (fun t hf y => ?_) (Memref.isWhole_whole _)
  rw [ha]
  have hy : ((cfg0.win 3).xinj (cfg0.grid.coords t) y : S512x1024.Idx) = ix2 (y (0 : Fin 2)) (y (1 : Fin 2)) := by
    funext a
    fin_cases a <;> rfl
  exact (congrArg (O t) hy).trans ((h t (y (0 : Fin 2)) (y (1 : Fin 2))).trans (congrArg Z (place3 t y).symm))

/-- The output array ends holding the reference's result. -/
theorem out_eq (c : Dev nD) : (dats m 0 c).arrAt 3 cfg0.N = G m c :=
  out_gen c (dats m 0 c) (G m c) (fun t => out0_3 (iblk m c 0 t) (iblk m c 1 t) (iblk m c 2 t)) (after0_3 m c) (point m c)

/-- The input's norm over the extended reals: the kernel's rows are the reference's, from equal arguments. -/
theorem algebraic : Cert.algebraic_LnInIdeal_LnInReferenceIdeal (hLnInIdeal := Cert.LnInIdeal.Gen.facts)
    (hLnInReferenceIdeal := Cert.LnInReferenceIdeal.Gen.facts) := by
  intro m g m' g' _ hag
  refine ⟨fun c => G m c, ?_, ?_⟩
  · refine (θ_run defs _ _).mono (fun r h c => ?_) (Cert.LnInIdeal.Value.run_blocks m g)
    obtain ⟨h0, ha⟩ := h c
    exact ⟨h0.trans (out_eq m c), ha⟩
  · refine (θ_run Cert.LnInReferenceIdeal.defs _ _).mono (fun r h c => ?_) (Cert.LnInReferenceIdeal.Value.run (F := Ideal) m' g')
    obtain ⟨h24, ha⟩ := h c
    obtain ⟨g0, g1, g2⟩ := hag c
    refine ⟨h24.trans ((Cert.LnInReferenceIdeal.Read.val_main_v24_eq _ _ _).trans ?_), ha⟩
    rw [g0, g1, g2]
    rfl

/-- The reference leaves its arguments and counters as they were. -/
theorem reference_frame : Cert.quiescent_LnInReferenceIdeal (hLnInReferenceIdeal := Cert.LnInReferenceIdeal.Gen.facts) := by
  intro m ρ _
  refine (θ_run Cert.LnInReferenceIdeal.defs _ _).mono (fun r h => ⟨fun c => (h c).2,
      Idealize.ShloMosaic.sem_eq_zero_of_no_sems (by decide) r.2⟩) (Cert.LnInReferenceIdeal.Value.run (F := Ideal) m ρ)

end Cert.LnInIdeal.Ln

end
-- ==== Proof.Prep.Spec.lean ====
module

public import Idealize.ShloMosaic.Adequacy
public import Idealize.ShloMosaic.PureOps.Ideal

@[expose] public section

noncomputable section

namespace Cert.PrepSpec

open Idealize.ShloMosaic

/-- The root-mean-square norm of a row at channel `j`, with scale `g`. -/
def rms (y g : Fin 128 → EReal) (j : Fin 128) : EReal :=
  y j * Ideal.rsqrt (Ideal.div (∑ k : Fin 128, y k * y k) (Ideal.ofBits .f32 0x43000000#32) + Ideal.ofBits .f32 0x3727C5AC#32) * g j

end Cert.PrepSpec

end
-- ==== Proof.Prep.MathI.lean ====
module

public import proofs.«01_k».proof.Proof.Prep.Spec
public import proofs.«01_k».proof.Proof.Gen.PrepIdeal.Frame
public import Idealize.ShloMosaic.Lib.Pointwise
public import Idealize.ShloMosaic.Lib.Pipeline.Value
public import Idealize.ShloMosaic.Lib.Pipeline.ValueKit
public import Idealize.ShloMosaic.Lib.IdealHost

@[expose] public section

set_option maxRecDepth 16384

noncomputable section

namespace Cert.PrepIdeal.Pr

open Cert.PrepIdeal Cert.PrepIdeal.Gen
open Idealize.ShloMosaic Idealize.ShloMosaic.TcCoe
open Cert.PrepSpec

theorem norm_apply (x : Vec Ideal S512x128 .f32) (g : Vec Ideal S1x128 .f32) (p : Fin 512) (j : Fin 128) :
    (k0_pay1 (k0_pay6 x) (k0_pay7 g) (ix2 p j) : EReal) = rms (fun k => x (ix2 p k)) (fun k => g (ix2 0 k)) j := by
  unfold rms
  pointwise [k0_pay1, k0_pay6, k0_pay7]

theorem rows_apply (v w : FVec Ideal S512x128 .f32) (p : Fin 512) (j : Fin 128) :
    (k0_pay2 v w (ix2 p j) : EReal) = k0_pay1 v w (ix2 p j) := rfl

theorem cols_apply (v w : FVec Ideal S512x128 .f32) (p : Fin 512) (j : Fin 128) :
    (k0_pay3 v w (ix3 0 j p) : EReal) = k0_pay1 v w (ix2 p j) := by
  unfold k0_pay3
  generalize k0_pay1 v w = y
  pointwise []

theorem whole2 (x : Vec Ideal S512x128 .f32) : View.ld x r0_2 = x := View.ld_unit_lit _ x (by decide)
theorem whole4 (x : Vec Ideal S1x128 .f32) : View.ld x r0_4 = x := View.ld_unit_lit _ x (by decide)

theorem pay8_eq (x0 : Vec Ideal S512x256 .f32) (x1 x2 : Vec Ideal S512x128 .f32) (x3 : Vec Ideal S1x128 .f32) (x4 : Vec Ideal S512x1024 .bf16)
    (x5 : Vec Ideal S256x128 .bf16) : k0_pay8 x0 x1 x2 x3 x4 x5 = k0_pay6 x1 := by
  show k0_pay6 (View.ld x1 r0_2) = _
  rw [whole2]
theorem pay9_eq (x0 : Vec Ideal S512x256 .f32) (x1 x2 : Vec Ideal S512x128 .f32) (x3 : Vec Ideal S1x128 .f32) (x4 : Vec Ideal S512x1024 .bf16)
    (x5 : Vec Ideal S256x128 .bf16) : k0_pay9 x0 x1 x2 x3 x4 x5 = k0_pay7 x3 := by
  show k0_pay7 (View.ld x3 r0_4) = _
  rw [whole4]

/-- The body's third result at a row and a channel. -/
theorem out8_apply (x0 : Vec Ideal S512x256 .f32) (x1 x2 : Vec Ideal S512x128 .f32) (x3 : Vec Ideal S1x128 .f32) (x4 : Vec Ideal S512x1024 .bf16)
    (x5 : Vec Ideal S256x128 .bf16) (p : Fin 512) (j : Fin 128) :
    (out0_8 x0 x1 x2 x3 x4 x5 (ix2 p j) : EReal) = rms (fun k => x1 (ix2 p k)) (fun k => x3 (ix2 0 k)) j := by
  have e : out0_8 x0 x1 x2 x3 x4 x5 = k0_pay2 (k0_pay6 x1) (k0_pay7 x3) := by
    unfold out0_8
    rw [pay8_eq, pay9_eq]
    exact View.canon_unit_zero (by decide) _ _
  rw [e, rows_apply, norm_apply]

/-- The body's fourth result at a channel and a row. -/
theorem out9_apply (x0 : Vec Ideal S512x256 .f32) (x1 x2 : Vec Ideal S512x128 .f32) (x3 : Vec Ideal S1x128 .f32) (x4 : Vec Ideal S512x1024 .bf16)
    (x5 : Vec Ideal S256x128 .bf16) (p : Fin 512) (j : Fin 128) :
    (out0_9 x0 x1 x2 x3 x4 x5 (ix3 0 j p) : EReal) = rms (fun k => x1 (ix2 p k)) (fun k => x3 (ix2 0 k)) j := by
  have e : out0_9 x0 x1 x2 x3 x4 x5 = k0_pay3 (k0_pay6 x1) (k0_pay7 x3) := by
    unfold out0_9
    rw [pay8_eq, pay9_eq]
    exact View.canon_unit_zero (by decide) _ _
  rw [e, cols_apply, norm_apply]

end Cert.PrepIdeal.Pr

end
-- ==== Proof.Prep.RefA.lean ====
module

public import proofs.«01_k».proof.Proof.Prep.Spec
public import proofs.«01_k».proof.Proof.Gen.PrepReferenceIdeal.Read
public import Idealize.ShloMosaic.Lib.Pointwise
public import Idealize.ShloMosaic.Lib.IdealHost

@[expose] public section

set_option maxRecDepth 16384

noncomputable section

namespace Cert.PrepReferenceIdeal.Pr

open Idealize.ShloMosaic Idealize.ShloMosaic.TcCoe
open Cert.PrepReferenceIdeal Cert.PrepReferenceIdeal.Gen Cert.PrepReferenceIdeal.Read
open Cert.PrepSpec

variable (x0 : (⟨S16384x7680, .f32⟩ : BufTy).Contents (Elt Ideal)) (x1 : (⟨S4x128, .f32⟩ : BufTy).Contents (Elt Ideal))

/-- The latent of row `n`. -/
def yr (n : Fin 16384) : Fin 128 → EReal := fun k => x0 (ix2 n ⟨7424 + k.val, by have := k.isLt; omega⟩)

/-- Position `t` of batch `b` among all rows. -/
def row (b : Fin 2) (t : Fin 8192) : Fin 16384 := ⟨8192 * b.val + t.val, by have := b.isLt; have := t.isLt; omega⟩

theorem c_at (b : Fin 2) (t : Fin 8192) (k : Fin 128) : val_main_v1 (F := Ideal) x0 (ix3 b t k) = yr x0 (row b t) k := by
  have hb := b.isLt
  have ht := t.isLt
  have hk := k.isLt
  rw [val_main_v1_apply, val_main_v0_apply]
  refine congrArg x0 ?_
  funext a
  refine Fin.ext ?_
  fin_cases a
  · show ((b.val * 8192 + t.val) * 128 + k.val) / 128 = 8192 * b.val + t.val
    omega
  · show 7424 + ((b.val * 8192 + t.val) * 128 + k.val) % 128 = 7424 + k.val
    omega

theorem ms_at (b : Fin 2) (t : Fin 8192) : val_main_v6 (F := Ideal) x0 (ix3 b t 0)
    = Ideal.div (∑ k : Fin 128, yr x0 (row b t) k * yr x0 (row b t) k) (Ideal.ofBits .f32 0x43000000#32) := by
  rw [val_main_v6_apply, val_main_v4_apply, val_main_v3_apply]
  refine congrArg₂ (fun a b : EReal => Ideal.div a b) ?_ rfl
  refine (congrArg₂ (fun a b : EReal => a + b) Ideal.ofBits_zero_f32 (Finset.sum_congr (M := EReal) rfl fun k _ => ?_)).trans (zero_add (M := EReal) _)
  have e := c_at x0 b t k
  refine Eq.trans (congrArg (val_main_v2 (F := Ideal) x0) (show _ = (ix3 b t k : S2x8192x128.Idx) from ?_)) ?_
  · funext a; fin_cases a <;> rfl
  · rw [val_main_v2_apply]
    exact congrArg₂ (fun a b : EReal => a * b) e e

theorem norm_at (b : Fin 2) (t : Fin 8192) (j : Fin 128) :
    val_main_v16 (F := Ideal) x0 x1 (ix3 b t j) = rms (yr x0 (row b t)) (fun k => x1 (ix2 0 k)) j := by
  have hj := j.isLt
  have hg : val_main_v15 (F := Ideal) x1 (ix3 b t j) = x1 (ix2 0 j) := by
    rw [val_main_v15_apply, val_main_v14_apply, val_main_v13_apply, val_main_v12_apply]
    refine congrArg x1 ?_
    funext a
    refine Fin.ext ?_
    fin_cases a
    · rfl
    · show j.val % 128 = j.val
      omega
  have hr : val_main_v10 (F := Ideal) x0 (ix3 b t j)
      = Ideal.rsqrt (Ideal.div (∑ k : Fin 128, yr x0 (row b t) k * yr x0 (row b t) k) (Ideal.ofBits .f32 0x43000000#32) + Ideal.ofBits .f32 0x3727C5AC#32) := by
    rw [val_main_v10_apply, val_main_v9_apply, val_main_v8_apply]
    refine congrArg Ideal.rsqrt (congrArg₂ (fun a b : EReal => a + b) ?_ rfl)
    refine Eq.trans (congrArg _ ?_) (ms_at x0 b t)
    funext a; fin_cases a <;> rfl
  rw [val_main_v16_apply, val_main_v11_apply, hg, hr, c_at]
  rfl

/-- The reference's rows at a place. -/
theorem rows_at (n : Fin 16384) (j : Fin 128) : (val_main_v18 (F := Ideal) x0 x1 (ix2 n j) : EReal) = rms (yr x0 n) (fun k => x1 (ix2 0 k)) j := by
  have hn := n.isLt
  have hj := j.isLt
  rw [val_main_v18_apply, val_main_v17_apply]
  have e : idx_main_v17 (ix2 n j) = ix3 ⟨n.val / 8192, by omega⟩ ⟨n.val % 8192, by omega⟩ j := by
    funext a
    refine Fin.ext ?_
    fin_cases a
    · show (n.val * 128 + j.val) / 1048576 = n.val / 8192
      omega
    · show (n.val * 128 + j.val) / 128 % 8192 = n.val % 8192
      omega
    · show (n.val * 128 + j.val) % 128 = j.val
      omega
  have er : row ⟨n.val / 8192, by omega⟩ ⟨n.val % 8192, by omega⟩ = n := Fin.ext (by show 8192 * (n.val / 8192) + n.val % 8192 = n.val; omega)
  rw [e, norm_at, er]
  rfl

/-- The reference's columns at a place. -/
theorem cols_at (b : Fin 2) (j : Fin 128) (t : Fin 8192) : (val_main_v20 (F := Ideal) x0 x1 (ix3 b j t) : EReal)
    = rms (yr x0 (row b t)) (fun k => x1 (ix2 0 k)) j := by
  rw [val_main_v20_apply, val_main_v19_apply]
  refine Eq.trans (congrArg (val_main_v16 (F := Ideal) x0 x1) ?_) (norm_at x0 x1 b t j)
  funext a; fin_cases a <;> rfl

end Cert.PrepReferenceIdeal.Pr

end
-- ==== Proof.Prep.Value.lean ====
module

public import proofs.«01_k».proof.Defs
public import proofs.«01_k».proof.Proof.Gen.Prep.Frame
public import proofs.«01_k».proof.Proof.Gen.PrepIdeal.Frame
public import proofs.«01_k».proof.Proof.Gen.PrepIdeal.Value
public import proofs.«01_k».proof.Proof.Gen.PrepReferenceIdeal.Run
public import proofs.«01_k».proof.Proof.Gen.PrepReferenceIdeal.Read
public import proofs.«01_k».proof.Proof.Prep.MathI
public import proofs.«01_k».proof.Proof.Prep.RefA
public import Idealize.ShloMosaic.Lib.Pipeline.Value
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.PrepIdeal.Pr

open Cert.PrepIdeal Cert.PrepIdeal.Gen
open Idealize.ShloMosaic Idealize.ShloMosaic.TcCoe Idealize.SL.Sem
open Idealize.ShloMosaic.Pipeline (Dat Cfg Window)
open Cert.PrepSpec
open Cert.PrepReferenceIdeal.Read (val_main_v18 val_main_v20)
open Cert.PrepReferenceIdeal.Pr (yr row rows_at cols_at)

variable (m : (ℓ : Loc nD τ sig) → Buf (Elt Ideal) ℓ)

abbrev a0 (c : Dev nD) := m ((c : Thread nD τ).loc main_arg0)
abbrev a1 (c : Dev nD) := m ((c : Thread nD τ).loc main_arg1)

/-- Row `p` of point `t`'s block among all rows. -/
def rowOf (t : Fin cfg0.N) (p : Fin 512) : Fin 16384 := ⟨512 * t.val + p.val, by have h : t.val < 32 := lt_of_lt_of_eq t.isLt N_0; have := p.isLt; omega⟩

/-- The batch of a point's block. -/
def batOf (t : Fin cfg0.N) : Fin 2 := ⟨t.val / 16, by have h : t.val < 32 := lt_of_lt_of_eq t.isLt N_0; omega⟩
/-- Row `p` of point `t`'s block in its batch. -/
def posOf (t : Fin cfg0.N) (p : Fin 512) : Fin 8192 := ⟨512 * (t.val % 16) + p.val, by have := p.isLt; omega⟩

theorem row_eq (t : Fin cfg0.N) (p : Fin 512) : row (batOf t) (posOf t p) = rowOf t p :=
  Fin.ext (by show 8192 * (t.val / 16) + (512 * (t.val % 16) + p.val) = 512 * t.val + p.val; omega)

theorem idx1 : ∀ t : Fin cfg0.N, win0_1.index t (0 : Fin 2) = t.val ∧ win0_1.index t (1 : Fin 2) = 58 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx9 : ∀ t : Fin cfg0.N, win0_9.index t (0 : Fin 3) = t.val / 16 ∧ win0_9.index t (1 : Fin 3) = 0 ∧ win0_9.index t (2 : Fin 3) = t.val % 16 :=
  (by decide +kernel : ∀ t : Fin grid0.N, _)

/-- Layer 0 of the scale as a row. -/
def g1 (x : (⟨S4x128, .f32⟩ : BufTy).Contents (Elt Ideal)) : (⟨S1x128, .f32⟩ : BufTy).Contents (Elt Ideal) :=
  shapeCast S1x128 (shapeCast S128 (extractStridedSlice S1x128 ![0, 0] x slices_S4x128_S1x128_0_0 : (⟨S1x128, .f32⟩ : BufTy).Contents (Elt Ideal)) shapeCasts_S1x128_S128
    : (⟨S128, .f32⟩ : BufTy).Contents (Elt Ideal)) shapeCasts_S128_S1x128

theorem g1_apply (x : (⟨S4x128, .f32⟩ : BufTy).Contents (Elt Ideal)) (k : Fin 128) : (g1 x (ix2 0 k) : EReal) = x (ix2 0 k) := by
  pointwise [g1]

/-- The scale the region finds. -/
theorem V_g (c : Dev nD) : V m c main_v26 = g1 (a1 m c) := by
  show StableHlo.after _ _ _ = _
  simp only [hostOps0, List.flatten_cons, List.flatten_nil, List.append_nil, List.cons_append, List.nil_append]
  after_results
  rfl

theorem blk1 (c : Dev nD) (t : Fin cfg0.N) (p : Fin 512) (k : Fin 128) : (iblk m c 1 t (ix2 p k) : EReal) = yr (a0 m c) (rowOf t p) k := by
  obtain ⟨e0, e1⟩ := idx1 t
  refine Eq.trans (congrArg (V m c main_arg0) ?_) (congrFun (V_main_arg0 m c) _)
  funext a
  refine Fin.ext ?_
  fin_cases a
  · show win0_1.index t (0 : Fin 2) * 512 + 1 * p.val = 512 * t.val + p.val
    omega
  · show win0_1.index t (1 : Fin 2) * 128 + 1 * k.val = 7424 + k.val
    omega
theorem blk3 (c : Dev nD) (t : Fin cfg0.N) (k : Fin 128) : (iblk m c 3 t (ix2 0 k) : EReal) = a1 m c (ix2 0 k) := by
  obtain ⟨e0, e1⟩ := idx3 t
  refine Eq.trans (congrArg (V m c main_v26) ?_) ((congrFun (V_g m c) (ix2 0 k)).trans (g1_apply _ k))
  funext a
  refine Fin.ext ?_
  fin_cases a
  · show win0_3.index t (0 : Fin 2) * 1 + 1 * 0 = 0
    omega
  · show win0_3.index t (1 : Fin 2) * 128 + 1 * k.val = k.val
    omega

/-- The reference's rows. -/
def G8 (c : Dev nD) : Vec Ideal S16384x128 .bf16 := val_main_v18 (F := Ideal) (a0 m c) (a1 m c)
/-- The reference's columns. -/
def G9 (c : Dev nD) : Vec Ideal S2x128x8192 .bf16 := val_main_v20 (F := Ideal) (a0 m c) (a1 m c)

/-- What a point leaves in the third output. -/
abbrev O8 (c : Dev nD) (t : Fin cfg0.N) : Vec Ideal S512x128 .bf16 :=
  out0_8 (iblk m c 0 t) (iblk m c 1 t) (iblk m c 2 t) (iblk m c 3 t) (iblk m c 4 t) (iblk m c 5 t)
/-- What a point leaves in the fourth output. -/
abbrev O9 (c : Dev nD) (t : Fin cfg0.N) : Vec Ideal S1x128x512 .bf16 :=
  out0_9 (iblk m c 0 t) (iblk m c 1 t) (iblk m c 2 t) (iblk m c 3 t) (iblk m c 4 t) (iblk m c 5 t)

theorem same (c : Dev nD) (t : Fin cfg0.N) (p : Fin 512) (j : Fin 128) :
    rms (fun k => iblk m c 1 t (ix2 p k)) (fun k => iblk m c 3 t (ix2 0 k)) j = rms (yr (a0 m c) (rowOf t p)) (fun k => a1 m c (ix2 0 k)) j := by
  refine congrFun (congrArg₂ rms ?_ ?_) _
  · funext k
    exact blk1 m c t p k
  · funext k
    exact blk3 m c t k

theorem point8 (c : Dev nD) (t : Fin cfg0.N) (p : Fin 512) (j : Fin 128) : (O8 m c t (ix2 p j) : EReal) = G8 m c (ix2 (rowOf t p) j) := by
  refine (out8_apply _ _ _ _ _ _ p j).trans ((same m c t p j).trans ?_)
  exact (rows_at (a0 m c) (a1 m c) (rowOf t p) j).symm

theorem point9 (c : Dev nD) (t : Fin cfg0.N) (p : Fin 512) (j : Fin 128) : (O9 m c t (ix3 0 j p) : EReal) = G9 m c (ix3 (batOf t) j (posOf t p)) := by
  refine (out9_apply _ _ _ _ _ _ p j).trans ((same m c t p j).trans ?_)
  rw [← row_eq]
  exact (cols_at (a0 m c) (a1 m c) (batOf t) j (posOf t p)).symm

theorem place8 (t : Fin cfg0.N) (y : S512x128.Idx) : (((cfg0.win 8).blk t).view.emb y : S16384x128.Idx) = ix2 (rowOf t (y 0)) (y 1) := by
  obtain ⟨e0, e1⟩ := idx8 t
  funext a
  refine Fin.ext ?_
  fin_cases a
  · show win0_8.index t (0 : Fin 2) * 512 + 1 * (y 0).val = 512 * t.val + (y 0).val
    omega
  · show win0_8.index t (1 : Fin 2) * 128 + 1 * (y 1).val = (y 1).val
    omega

theorem place9 (t : Fin cfg0.N) (y : S1x128x512.Idx) : (((cfg0.win 9).blk t).view.emb y : S2x128x8192.Idx) = ix3 (batOf t) (y 1) (posOf t (y 2)) := by
  obtain ⟨e0, e1, e2⟩ := idx9 t
  have h0 : (y 0).val < 1 := (y 0).isLt
  funext a
  refine Fin.ext ?_
  fin_cases a
  · show win0_9.index t (0 : Fin 3) * 1 + 1 * (y 0).val = t.val / 16
    omega
  · show win0_9.index t (1 : Fin 3) * 128 + 1 * (y 1).val = (y 1).val
    omega
  · show win0_9.index t (2 : Fin 3) * 512 + 1 * (y 2).val = 512 * (t.val % 16) + (y 2).val
    omega

/-- An array whose blocks are what the points leave in the third output is what the region leaves, at any proof data. -/
theorem out_gen8 (c : Dev nD) (dat : Dat τ (Elt Ideal) Unit ℕ (Idealize.ShloMosaic.UR sig nD τ) ℕ cfg0 c)
    (Z : Vec Ideal S16384x128 .bf16) (O : Fin cfg0.N → Vec Ideal S512x128 .bf16) (ha : ∀ t : Fin cfg0.N, dat.after 8 t = O t)
    (h : ∀ (t : Fin cfg0.N) (p : Fin 512) (j : Fin 128), O t (ix2 p j) = Z (ix2 (rowOf t p) j)) :
    dat.arrAt 8 cfg0.N = Z := by
  refine dat.arrAt_eq_of_covers 8 Z (by decide +kernel) (fun t hf y => ?_) (Memref.isWhole_whole _)
  rw [ha]
  have hy : ((cfg0.win 8).xinj (cfg0.grid.coords t) y : S512x128.Idx) = ix2 (y (0 : Fin 2)) (y (1 : Fin 2)) := by
    funext a
    fin_cases a <;> rfl
  exact (congrArg (O t) hy).trans ((h t (y (0 : Fin 2)) (y (1 : Fin 2))).trans (congrArg Z (place8 t y).symm))

/-- The same for the fourth output. -/
theorem out_gen9 (c : Dev nD) (dat : Dat τ (Elt Ideal) Unit ℕ (Idealize.ShloMosaic.UR sig nD τ) ℕ cfg0 c)
    (Z : Vec Ideal S2x128x8192 .bf16) (O : Fin cfg0.N → Vec Ideal S1x128x512 .bf16) (ha : ∀ t : Fin cfg0.N, dat.after 9 t = O t)
    (h : ∀ (t : Fin cfg0.N) (p : Fin 512) (j : Fin 128), O t (ix3 0 j p) = Z (ix3 (batOf t) j (posOf t p))) :
    dat.arrAt 9 cfg0.N = Z := by
  refine dat.arrAt_eq_of_covers 9 Z (by decide +kernel) (fun t hf y => ?_) (Memref.isWhole_whole _)
  rw [ha]
  have hy : ((cfg0.win 9).xinj (cfg0.grid.coords t) y : S1x128x512.Idx) = ix3 0 (y (1 : Fin 3)) (y (2 : Fin 3)) := by
    have h0 : (y (0 : Fin 3)).val < 1 := (y (0 : Fin 3)).isLt
    funext a
    refine Fin.ext ?_
    fin_cases a
    · show (y (0 : Fin 3)).val = 0
      omega
    · rfl
    · rfl
  exact (congrArg (O t) hy).trans ((h t (y (2 : Fin 3)) (y (1 : Fin 3))).trans (congrArg Z (place9 t y).symm))

/-- The third output array ends holding the reference's rows. -/
theorem out_eq8 (c : Dev nD) : (dats m 0 c).arrAt 8 cfg0.N = G8 m c :=
  out_gen8 c (dats m 0 c) (G8 m c) (O8 m c) (after0_8 m c) (point8 m c)
/-- The fourth output array ends holding the reference's columns. -/
theorem out_eq9 (c : Dev nD) : (dats m 0 c).arrAt 9 cfg0.N = G9 m c :=
  out_gen9 c (dats m 0 c) (G9 m c) (O9 m c) (after0_9 m c) (point9 m c)

/-- The normed latents over the extended reals: the kernel's are the reference's, from equal arguments. -/
theorem algebraic : Cert.algebraic_PrepIdeal_PrepReferenceIdeal (hPrepIdeal := Cert.PrepIdeal.Gen.facts)
    (hPrepReferenceIdeal := Cert.PrepReferenceIdeal.Gen.facts) := by
  intro m g m' g' _ hag
  refine ⟨fun c => G8 m c, fun c => G9 m c, ?_, ?_⟩
  · refine (θ_run defs _ _).mono (fun r h c => ?_) (Cert.PrepIdeal.Value.run_blocks m g)
    obtain ⟨_, _, h8, h9, ha⟩ := h c
    exact ⟨h8.trans (out_eq8 m c), h9.trans (out_eq9 m c), ha⟩
  · refine (θ_run Cert.PrepReferenceIdeal.defs _ _).mono (fun r h c => ?_) (Cert.PrepReferenceIdeal.Value.run (F := Ideal) m' g')
    obtain ⟨h18, h20, ha⟩ := h c
    obtain ⟨e0, e1⟩ := hag c
    refine ⟨h18.trans ((Cert.PrepReferenceIdeal.Read.val_main_v18_eq _ _).trans ?_), h20.trans ((Cert.PrepReferenceIdeal.Read.val_main_v20_eq _ _).trans ?_), ha⟩
    · rw [e0, e1]
      rfl
    · rw [e0, e1]
      rfl

/-- The reference leaves its arguments and counters as they were. -/
theorem reference_frame : Cert.quiescent_PrepReferenceIdeal (hPrepReferenceIdeal := Cert.PrepReferenceIdeal.Gen.facts) := by
  intro m ρ _
  refine (θ_run Cert.PrepReferenceIdeal.defs _ _).mono (fun r h => ⟨fun c => (h c).2.2,
      Idealize.ShloMosaic.sem_eq_zero_of_no_sems (by decide) r.2⟩) (Cert.PrepReferenceIdeal.Value.run (F := Ideal) m ρ)

end Cert.PrepIdeal.Pr

end
-- ==== Proof.Experts.RunI.lean ====
module

public import proofs.«01_k».proof.Proof.Gen.KernelIdeal.Skeleton
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prefetched table, as the body is handed it: its whole buffer. -/
abbrev tbM : Memref sig .tc .smem S289 .i32 := Memref.whole main_v19
abbrev htbM : tbM.IsWhole := Memref.isWhole_whole _

/-- The table's contents on core `c`, and half its ownership: the body only reads it. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of the table at an offset. -/
abbrev word (c : Dev nD) (xt : TbBuf (F := F) c tbM) (o : Fin 1 → Nat) (h : ∀ a, o a + S1.size a ≤ S289.size a) : BitVec 32 :=
  tbM.view.readAt (Elt F) (Rect.unit (s := S289) o S1.size h).toLoadRect xt (Shape.Idx.first (numel1_S1.symm ▸ Nat.one_pos))
/-- The number of blocks in use, the block's expert, and the expert of the block before. -/
abbrev wUsed (c : Dev nD) (xt : TbBuf (F := F) c tbM) : BitVec 32 := word c xt ![0] inb_S289_S1_0
abbrev wHere (c : Dev nD) (xt : TbBuf (F := F) c tbM) (i : grid0.Coords) : BitVec 32 := word c xt (k0_off1 i) (k0_off1_inb i)
abbrev wPrev (c : Dev nD) (xt : TbBuf (F := F) c tbM) (i : grid0.Coords) : BitVec 32 := word c xt (k0_off2 i) (k0_off2_inb i)

/-- The condition under which a point refills the scratch copies of the weights. -/
abbrev fill (i : grid0.Coords) (v0 v5 v8 : BitVec 32) : BitVec 1 :=
  Scalar.cmpi .ne (Scalar.extui (Scalar.andi (Scalar.cmpi .slt (BitVec.ofNat 32 (i 0).val) v0) (Scalar.ori (Scalar.cmpi .eq (BitVec.ofNat 32 (i 0).val) 0#32) (Scalar.cmpi .ne v5 v8)))) 0#32

set_option maxHeartbeats 2000000 in
noncomputable def runA (c : Dev nD) (i : grid0.Coords) (arg2 : Memref sig .tc .vmem S256x1024 .f32) (harg2 : arg2.IsWhole) (arg3 : Memref sig .tc .vmem S1x1x1024x2048 .f32) (harg3 : arg3.IsWhole) (arg4 : Memref sig .tc .vmem S1x1x1x2048 .f32) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S256x256 .bf16) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (x5 : Vec F S256x256 .bf16) (xt : TbBuf (F := F) c tbM) (hf : fill i (wUsed c xt) (wHere c xt i) (wPrev c xt i) = 1#1) (h2 : k0_cond2 i (wUsed c xt) = 1#1) (h3 : ¬ k0_cond3 i (wUsed c xt) = 1#1) :
    Σ' (L6 : List (View.Piece (Elt F) S256x1024 .f32)) (LS0 : List (View.Piece (Elt F) S1024x2048 .bf16)), { LS1 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ tbPt c tbM xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ tbPt c tbM xt) -∗ K ⟨⟩))
          ⊢ wp frame (wpE (defs₀ (F := F)) Variants.none c none) E (cc0_moe_experts i tbM htbM arg2 harg2 arg3 harg3 arg4 harg4 arg5 harg5 arg6 harg6 arg7 harg7 arg8 harg8 arg9 harg9 arg10 harg10) K } := by
  refine ⟨?_, ?_, ?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, HT, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hf | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexact HT

set_option maxHeartbeats 2000000 in
noncomputable def runB (c : Dev nD) (i : grid0.Coords) (arg2 : Memref sig .tc .vmem S256x1024 .f32) (harg2 : arg2.IsWhole) (arg3 : Memref sig .tc .vmem S1x1x1024x2048 .f32) (harg3 : arg3.IsWhole) (arg4 : Memref sig .tc .vmem S1x1x1x2048 .f32) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S256x256 .bf16) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (x5 : Vec F S256x256 .bf16) (s0 : Vec F S1024x2048 .bf16) (s1 : Vec F S1024x1024 .bf16) (xt : TbBuf (F := F) c tbM) (hf : ¬ fill i (wUsed c xt) (wHere c xt i) (wPrev c xt i) = 1#1) (h2 : k0_cond2 i (wUsed c xt) = 1#1) (h3 : ¬ k0_cond3 i (wUsed c xt) = 1#1) :
    { L6 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1 ∗ tbPt c tbM xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare s0 ∗ owns (c : Thread nD τ) arg10 fullShare s1 ∗ tbPt c tbM xt) -∗ K ⟨⟩))
          ⊢ wp frame (wpE (defs₀ (F := F)) Variants.none c none) E (cc0_moe_experts i tbM htbM arg2 harg2 arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hs0; obtain rfl := harg10.eq_unread hs1
    sl_exec (disch := first | sl_exact hf | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    iexact HT

set_option maxHeartbeats 2000000 in
noncomputable def runC (c : Dev nD) (i : grid0.Coords) (arg2 : Memref sig .tc .vmem S256x1024 .f32) (harg2 : arg2.IsWhole) (arg3 : Memref sig .tc .vmem S1x1x1024x2048 .f32) (harg3 : arg3.IsWhole) (arg4 : Memref sig .tc .vmem S1x1x1x2048 .f32) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S256x256 .bf16) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (x5 : Vec F S256x256 .bf16) (s0 : Vec F S1024x2048 .bf16) (s1 : Vec F S1024x1024 .bf16) (xt : TbBuf (F := F) c tbM) (hf : ¬ fill i (wUsed c xt) (wHere c xt i) (wPrev c xt i) = 1#1) (h2 : ¬ k0_cond2 i (wUsed c xt) = 1#1) (h3 : k0_cond3 i (wUsed c xt) = 1#1) :
    { L6 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1 ∗ tbPt c tbM xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare s0 ∗ owns (c : Thread nD τ) arg10 fullShare s1 ∗ tbPt c tbM xt) -∗ K ⟨⟩))
          ⊢ wp frame (wpE (defs₀ (F := F)) Variants.none c none) E (cc0_moe_experts i tbM htbM arg2 harg2 arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hs0; obtain rfl := harg10.eq_unread hs1
    sl_exec (disch := first | sl_exact hf | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    iexact HT

end Cert.KernelIdeal.Exp
-- ==== Proof.Experts.BodyI.lean ====
module

public import proofs.«01_k».proof.Proof.Gen.KernelIdeal.Skeleton
public import proofs.«01_k».proof.Proof.Experts.RunI
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes, from what its buffers hold -/

/-- The stored copy of the first weights, chunk by chunk of 256 columns, last chunk first: each chunk times the
    selection matrix. -/
def upPieces (x5 : Vec F S256x256 .bf16) (x1 : Vec F S1x1x1024x2048 .f32) : List (View.Piece (Elt F) S1024x2048 .bf16) :=
  [⟨Rect.unit ![0, 1792] S1024x256.size inb_S1024x2048_S1024x256_0_1792, k0_pay1 x5 (View.ld x1 (Rect.unit ![0, 0, 0, 1792] S1x1x1024x256.size inb_S1x1x1024x2048_S1x1x1024x256_0_0_0_1792))⟩,
    ⟨Rect.unit ![0, 1536] S1024x256.size inb_S1024x2048_S1024x256_0_1536, k0_pay12 x5 (View.ld x1 (Rect.unit ![0, 0, 0, 1536] S1x1x1024x256.size inb_S1x1x1024x2048_S1x1x1024x256_0_0_0_1536))⟩,
    ⟨Rect.unit ![0, 1280] S1024x256.size inb_S1024x2048_S1024x256_0_1280, k0_pay11 x5 (View.ld x1 (Rect.unit ![0, 0, 0, 1280] S1x1x1024x256.size inb_S1x1x1024x2048_S1x1x1024x256_0_0_0_1280))⟩,
    ⟨Rect.unit ![0, 1024] S1024x256.size inb_S1024x2048_S1024x256_0_1024, k0_pay10 x5 (View.ld x1 (Rect.unit ![0, 0, 0, 1024] S1x1x1024x256.size inb_S1x1x1024x2048_S1x1x1024x256_0_0_0_1024))⟩,
    ⟨Rect.unit ![0, 768] S1024x256.size inb_S1024x2048_S1024x256_0_768, k0_pay9 (k0_pay8 x5 (View.ld x1 (Rect.unit ![0, 0, 0, 768] S1x1x1024x256.size inb_S1x1x1024x2048_S1x1x1024x256_0_0_0_768)))⟩,
    ⟨Rect.unit ![0, 512] S1024x256.size inb_S1024x2048_S1024x256_0_512, k0_pay7 x5 (View.ld x1 (Rect.unit ![0, 0, 0, 512] S1x1x1024x256.size inb_S1x1x1024x2048_S1x1x1024x256_0_0_0_512))⟩,
    ⟨Rect.unit ![0, 256] S1024x256.size inb_S1024x2048_S1024x256_0_256, k0_pay6 x5 (View.ld x1 (Rect.unit ![0, 0, 0, 256] S1x1x1024x256.size inb_S1x1x1024x2048_S1x1x1024x256_0_0_0_256))⟩,
    ⟨Rect.unit ![0, 0] S1024x256.size inb_S1024x2048_S1024x256_0_0, k0_pay5 x5 (View.ld x1 (Rect.unit ![0, 0, 0, 0] S1x1x1024x256.size inb_S1x1x1024x2048_S1x1x1024x256_0_0_0_0))⟩]
/-- The stored copy of the first weights. -/
def WU (x5 : Vec F S256x256 .bf16) (x1 : Vec F S1x1x1024x2048 .f32) : Vec F S1024x2048 .bf16 := View.canon (upPieces x5 x1)
/-- The stored copy of the second weights. -/
def WD (x3 : Vec F S1x1x1024x1024 .f32) : Vec F S1024x1024 .bf16 := k0_pay2 x3

/-- The rows a point writes: the expert's two layers of the rows `x`, the stored weights `wu` and `wd`, the biases
    `bu` and `bd`. -/
def OUT (x : Vec F S256x1024 .f32) (wu : Vec F S1024x2048 .bf16) (bu : Vec F S1x1x1x2048 .f32) (wd : Vec F S1024x1024 .bf16)
    (bd : Vec F S1x1x1x1024 .f32) : Vec F S256x1024 .f32 :=
  k0_pay3 (k0_pay14 x wu bu) (k0_pay15 x wu bu) (k0_pay17 (k0_pay13 x wu bu) (k0_pay16 x wu bu)) (k0_pay18 (k0_pay13 x wu bu))
    (k0_pay21 (k0_pay19 (k0_pay13 x wu bu)) (k0_pay20 (k0_pay13 x wu bu))) (k0_pay22 (k0_pay13 x wu bu))
    (k0_pay23 (k0_pay13 x wu bu)) (k0_pay24 (k0_pay13 x wu bu)) (k0_pay25 (k0_pay13 x wu bu)) wd bd

/-- A load of a whole buffer known by what it reads. -/
theorem load_whole {s : Shape} {e : EltTy} {m : Memref sig .tc .vmem s e} (h : m.IsWhole) (X : s.Idx → Elt F e)
    {off : Fin s.rank → Nat} (hoff : ∀ a, off a = 0) (inb : ∀ a, off a + s.size a ≤ s.size a) :
    View.readAt (Elt F) m.view (Rect.unit off s.size inb).toLoadRect (h.unread X) = X := by
  rw [View.readAt_eq_ld, h.read_unread]; exact View.ld_unit_lit inb X hoff

/-- A load of a part of a buffer known by what it reads. -/
theorem load_part {s : Shape} {e : EltTy} {m : Memref sig .tc .vmem s e} (h : m.IsWhole) (X : s.Idx → Elt F e) (r : Rect s) :
    View.readAt (Elt F) m.view r.toLoadRect (h.unread X) = View.ld X r := by
  rw [View.readAt_eq_ld, h.read_unread]

/-- A load of a whole buffer after stores. -/
theorem load_stored {s : Shape} {e : EltTy} (v : View sig .tc .vmem s e) (L : List (View.Piece (Elt F) s e))
    {off : Fin s.rank → Nat} (hoff : ∀ a, off a = 0) (inb : ∀ a, off a + s.size a ≤ s.size a) :
    v.readCov L (Rect.unit off s.size inb).toLoadRect = View.canon L := by
  rw [View.readCov_eq_canon']; exact View.ld_unit_lit inb (View.canon L) hoff

/-- What one store of a whole buffer leaves. -/
theorem store_whole {s : Shape} {e : EltTy} (v : View sig .tc .vmem s e) (f : v.ty.Contents (Elt F))
    {off : Fin s.rank → Nat} (hoff : ∀ a, off a = 0) (inb : ∀ a, off a + s.size a ≤ s.size a) (w : s.Idx → Elt F e) :
    v.read (Elt F) (v.writes (Elt F) f [⟨Rect.unit off s.size inb, w⟩]) = w :=
  (View.read_writes_eq_canon v f _ (fun y => ⟨_, List.mem_singleton_self _, View.mem_set_unit_zero (funext hoff) inb y⟩)).trans
    (View.canon_cons_unit_lit inb w [] hoff)

/-- What a point that keeps the stored weights leaves in its output block. -/
theorem runB_out (c : Dev nD) (i : grid0.Coords) (arg2 : Memref sig .tc .vmem S256x1024 .f32) (harg2 : arg2.IsWhole) (arg3 : Memref sig .tc .vmem S1x1x1024x2048 .f32) (harg3 : arg3.IsWhole) (arg4 : Memref sig .tc .vmem S1x1x1x2048 .f32) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S256x256 .bf16) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (x5 : Vec F S256x256 .bf16) (s0 : Vec F S1024x2048 .bf16) (s1 : Vec F S1024x1024 .bf16) (xt : TbBuf (F := F) c tbM) (hf : ¬ fill i (wUsed c xt) (wHere c xt i) (wPrev c xt i) = 1#1) (h2 : k0_cond2 i (wUsed c xt) = 1#1) (h3 : ¬ k0_cond3 i (wUsed c xt) = 1#1) :
    (runB c i arg2 harg2 arg3 harg3 arg4 harg4 arg5 harg5 arg6 harg6 arg7 harg7 arg8 harg8 arg9 harg9 arg10 harg10 x0 x1 x2 x3 x4 x5 s0 s1 xt hf h2 h3).1
      = [⟨Rect.unit ![0, 0] S256x1024.size inb_S256x1024_S256x1024_0_0, OUT x0 s0 x2 s1 x4⟩] := by
  have e_arg2 : View.readAt (Elt F) arg2.view (Rect.unit ![0, 0] S256x1024.size inb_S256x1024_S256x1024_0_0).toLoadRect (harg2.unread x0) = x0 := load_whole harg2 x0 (by decide) _
  have e_arg4 : View.readAt (Elt F) arg4.view (Rect.unit ![0, 0, 0, 0] S1x1x1x2048.size inb_S1x1x1x2048_S1x1x1x2048_0_0_0_0).toLoadRect (harg4.unread x2) = x2 := load_whole harg4 x2 (by decide) _
  have e_arg6 : View.readAt (Elt F) arg6.view (Rect.unit ![0, 0, 0, 0] S1x1x1x1024.size inb_S1x1x1x1024_S1x1x1x1024_0_0_0_0).toLoadRect (harg6.unread x4) = x4 := load_whole harg6 x4 (by decide) _
  have e_arg9 : View.readAt (Elt F) arg9.view (Rect.unit ![0, 0] S1024x2048.size inb_S1024x2048_S1024x2048_0_0).toLoadRect (harg9.unread s0) = s0 := load_whole harg9 s0 (by decide) _
  have e_arg10 : View.readAt (Elt F) arg10.view (Rect.unit ![0, 0] S1024x1024.size inb_S1024x1024_S1024x1024_0_0).toLoadRect (harg10.unread s1) = s1 := load_whole harg10 s1 (by decide) _
  unfold runB
  refine congrArg (fun w => [(⟨Rect.unit ![0, 0] S256x1024.size inb_S256x1024_S256x1024_0_0, w⟩ : View.Piece (Elt F) S256x1024 .f32)]) ?_
  unfold OUT
  rw [show runB.sl.v159 c arg6 harg6 x4 = x4 from e_arg6]
  erw [e_arg10]
  simp only [runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.v159]
  rw [e_arg2, e_arg4, e_arg9]

/-- What a point of a block not in use leaves in its output block. -/
theorem runC_out (c : Dev nD) (i : grid0.Coords) (arg2 : Memref sig .tc .vmem S256x1024 .f32) (harg2 : arg2.IsWhole) (arg3 : Memref sig .tc .vmem S1x1x1024x2048 .f32) (harg3 : arg3.IsWhole) (arg4 : Memref sig .tc .vmem S1x1x1x2048 .f32) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S256x256 .bf16) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (x5 : Vec F S256x256 .bf16) (s0 : Vec F S1024x2048 .bf16) (s1 : Vec F S1024x1024 .bf16) (xt : TbBuf (F := F) c tbM) (hf : ¬ fill i (wUsed c xt) (wHere c xt i) (wPrev c xt i) = 1#1) (h2 : ¬ k0_cond2 i (wUsed c xt) = 1#1) (h3 : k0_cond3 i (wUsed c xt) = 1#1) :
    (runC c i arg2 harg2 arg3 harg3 arg4 harg4 arg5 harg5 arg6 harg6 arg7 harg7 arg8 harg8 arg9 harg9 arg10 harg10 x0 x1 x2 x3 x4 x5 s0 s1 xt hf h2 h3).1
      = [⟨Rect.unit ![0, 0] S256x1024.size inb_S256x1024_S256x1024_0_0, (k0_pay4 : Vec F S256x1024 .f32)⟩] := rfl

/-- The stored copy of the first weights after a point that refills it. -/
theorem runA_up (c : Dev nD) (i : grid0.Coords) (arg2 : Memref sig .tc .vmem S256x1024 .f32) (harg2 : arg2.IsWhole) (arg3 : Memref sig .tc .vmem S1x1x1024x2048 .f32) (harg3 : arg3.IsWhole) (arg4 : Memref sig .tc .vmem S1x1x1x2048 .f32) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S256x256 .bf16) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (x5 : Vec F S256x256 .bf16) (xt : TbBuf (F := F) c tbM) (hf : fill i (wUsed c xt) (wHere c xt i) (wPrev c xt i) = 1#1) (h2 : k0_cond2 i (wUsed c xt) = 1#1) (h3 : ¬ k0_cond3 i (wUsed c xt) = 1#1) :
    (runA c i arg2 harg2 arg3 harg3 arg4 harg4 arg5 harg5 arg6 harg6 arg7 harg7 arg8 harg8 arg9 harg9 arg10 harg10 x0 x1 x2 x3 x4 x5 xt hf h2 h3).2.1 = upPieces x5 x1 := by
  have e_arg7 : View.readAt (Elt F) arg7.view (Rect.unit ![0, 0] S256x256.size inb_S256x256_S256x256_0_0).toLoadRect (harg7.unread x5) = x5 := load_whole harg7 x5 (by decide) _
  have e3 (r : Rect S1x1x1024x2048) : View.readAt (Elt F) arg3.view r.toLoadRect (harg3.unread x1) = View.ld x1 r := load_part harg3 x1 r
  show runA.sl.HS0_8 c arg3 harg3 arg7 harg7 x1 x5 = _
  unfold runA.sl.HS0_8 upPieces
  simp only [runA.sl.r_3, runA.sl.r_4, runA.sl.r_5]
  rw [e_arg7]
  simp only [e3]

/-- The stored copy of the second weights after it. -/
theorem runA_down (c : Dev nD) (i : grid0.Coords) (arg2 : Memref sig .tc .vmem S256x1024 .f32) (harg2 : arg2.IsWhole) (arg3 : Memref sig .tc .vmem S1x1x1024x2048 .f32) (harg3 : arg3.IsWhole) (arg4 : Memref sig .tc .vmem S1x1x1x2048 .f32) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S256x256 .bf16) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (x5 : Vec F S256x256 .bf16) (xt : TbBuf (F := F) c tbM) (hf : fill i (wUsed c xt) (wHere c xt i) (wPrev c xt i) = 1#1) (h2 : k0_cond2 i (wUsed c xt) = 1#1) (h3 : ¬ k0_cond3 i (wUsed c xt) = 1#1) :
    (runA c i arg2 harg2 arg3 harg3 arg4 harg4 arg5 harg5 arg6 harg6 arg7 harg7 arg8 harg8 arg9 harg9 arg10 harg10 x0 x1 x2 x3 x4 x5 xt hf h2 h3).2.2.1 = [⟨Rect.unit ![0, 0] S1024x1024.size inb_S1024x1024_S1024x1024_0_0, WD x3⟩] := by
  have e_arg5 : View.readAt (Elt F) arg5.view (Rect.unit ![0, 0, 0, 0] S1x1x1024x1024.size inb_S1x1x1024x1024_S1x1x1024x1024_0_0_0_0).toLoadRect (harg5.unread x3) = x3 := load_whole harg5 x3 (by decide) _
  show runA.sl.HS1_1 c arg5 harg5 x3 = _
  unfold runA.sl.HS1_1 WD
  rw [show runA.sl.v85 c arg5 harg5 x3 = x3 from e_arg5]

/-- What it leaves in its output block. -/
theorem runA_out (c : Dev nD) (i : grid0.Coords) (arg2 : Memref sig .tc .vmem S256x1024 .f32) (harg2 : arg2.IsWhole) (arg3 : Memref sig .tc .vmem S1x1x1024x2048 .f32) (harg3 : arg3.IsWhole) (arg4 : Memref sig .tc .vmem S1x1x1x2048 .f32) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S256x256 .bf16) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (x5 : Vec F S256x256 .bf16) (xt : TbBuf (F := F) c tbM) (hf : fill i (wUsed c xt) (wHere c xt i) (wPrev c xt i) = 1#1) (h2 : k0_cond2 i (wUsed c xt) = 1#1) (h3 : ¬ k0_cond3 i (wUsed c xt) = 1#1) :
    (runA c i arg2 harg2 arg3 harg3 arg4 harg4 arg5 harg5 arg6 harg6 arg7 harg7 arg8 harg8 arg9 harg9 arg10 harg10 x0 x1 x2 x3 x4 x5 xt hf h2 h3).1 = [⟨Rect.unit ![0, 0] S256x1024.size inb_S256x1024_S256x1024_0_0, OUT x0 (WU x5 x1) x2 (WD x3) x4⟩] := by
  have e_arg2 : View.readAt (Elt F) arg2.view (Rect.unit ![0, 0] S256x1024.size inb_S256x1024_S256x1024_0_0).toLoadRect (harg2.unread x0) = x0 := load_whole harg2 x0 (by decide) _
  have e_arg4 : View.readAt (Elt F) arg4.view (Rect.unit ![0, 0, 0, 0] S1x1x1x2048.size inb_S1x1x1x2048_S1x1x1x2048_0_0_0_0).toLoadRect (harg4.unread x2) = x2 := load_whole harg4 x2 (by decide) _
  have e_arg6 : View.readAt (Elt F) arg6.view (Rect.unit ![0, 0, 0, 0] S1x1x1x1024.size inb_S1x1x1x1024_S1x1x1x1024_0_0_0_0).toLoadRect (harg6.unread x4) = x4 := load_whole harg6 x4 (by decide) _
  have hu := runA_up c i arg2 harg2 arg3 harg3 arg4 harg4 arg5 harg5 arg6 harg6 arg7 harg7 arg8 harg8 arg9 harg9 arg10 harg10 x0 x1 x2 x3 x4 x5 xt hf h2 h3
  have hd := runA_down c i arg2 harg2 arg3 harg3 arg4 harg4 arg5 harg5 arg6 harg6 arg7 harg7 arg8 harg8 arg9 harg9 arg10 harg10 x0 x1 x2 x3 x4 x5 xt hf h2 h3
  have e9 : runA.sl.v22 c arg3 harg3 arg7 harg7 arg9 x1 x5 = WU x5 x1 := by
    unfold runA.sl.v22
    rw [show runA.sl.HS0_8 c arg3 harg3 arg7 harg7 x1 x5 = upPieces x5 x1 from hu]
    exact load_stored arg9.view (upPieces x5 x1) (by decide) _
  have e10 : runA.sl.v157 c arg5 harg5 arg10 x3 = WD x3 := by
    unfold runA.sl.v157
    rw [show runA.sl.HS1_1 c arg5 harg5 x3 = [⟨Rect.unit ![0, 0] S1024x1024.size inb_S1024x1024_S1024x1024_0_0, WD x3⟩] from hd]
    refine (load_stored arg10.view _ (by decide) _).trans (View.canon_cons_unit_lit _ _ _ (by decide))
  unfold runA
  refine congrArg (fun w => [(⟨Rect.unit ![0, 0] S256x1024.size inb_S256x1024_S256x1024_0_0, w⟩ : View.Piece (Elt F) S256x1024 .f32)]) ?_
  unfold OUT
  rw [show runA.sl.v159 c arg6 harg6 x4 = x4 from e_arg6, e10]
  simp only [runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18]
  rw [e9, e_arg2, e_arg4]

set_option maxHeartbeats 1000000 in
/-- A point that keeps the stored weights. -/
theorem body_keep (c : Dev nD) (i : grid0.Coords) (arg2 : Memref sig .tc .vmem S256x1024 .f32) (harg2 : arg2.IsWhole) (arg3 : Memref sig .tc .vmem S1x1x1024x2048 .f32) (harg3 : arg3.IsWhole) (arg4 : Memref sig .tc .vmem S1x1x1x2048 .f32) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S256x256 .bf16) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (x5 : Vec F S256x256 .bf16) (s0 : Vec F S1024x2048 .bf16) (s1 : Vec F S1024x1024 .bf16) (xt : TbBuf (F := F) c tbM) (hf : ¬ fill i (wUsed c xt) (wHere c xt i) (wPrev c xt i) = 1#1) (h2 : k0_cond2 i (wUsed c xt) = 1#1) (h3 : ¬ k0_cond3 i (wUsed c xt) = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1 ∗ tbPt c tbM xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (OUT x0 s0 x2 s1 x4) ∗ owns (c : Thread nD τ) arg9 fullShare (s0) ∗ owns (c : Thread nD τ) arg10 fullShare (s1) ∗ tbPt c tbM xt) -∗ K ⟨⟩))
      ⊢ wp frame (wpE (defs₀ (F := F)) Variants.none c none) E (cc0_moe_experts i tbM htbM arg2 harg2 arg3 harg3 arg4 harg4 arg5 harg5 arg6 harg6 arg7 harg7 arg8 harg8 arg9 harg9 arg10 harg10) K := by
  have ho := runB_out c i arg2 harg2 arg3 harg3 arg4 harg4 arg5 harg5 arg6 harg6 arg7 harg7 arg8 harg8 arg9 harg9 arg10 harg10 x0 x1 x2 x3 x4 x5 s0 s1 xt hf h2 h3
  iintro ⟨H0, H1, H2, H3, H4, H5, H6, HS0, HS1, HT, Hk⟩
  iapply ((runB c i arg2 harg2 arg3 harg3 arg4 harg4 arg5 harg5 arg6 harg6 arg7 harg7 arg8 harg8 arg9 harg9 arg10 harg10 x0 x1 x2 x3 x4 x5 s0 s1 xt hf h2 h3).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HT]; · iexact HT
  iintro ⟨H0, H1, H2, H3, H4, H5, ⟨%f6, H6⟩, HS0, HS1, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [ho]
    exact store_whole _ _ (by decide) _ _
  isplitl [HS0]; · iexact HS0
  isplitl [HS1]; · iexact HS1
  iexact HT

set_option maxHeartbeats 1000000 in
/-- A point of a block not in use. -/
theorem body_off (c : Dev nD) (i : grid0.Coords) (arg2 : Memref sig .tc .vmem S256x1024 .f32) (harg2 : arg2.IsWhole) (arg3 : Memref sig .tc .vmem S1x1x1024x2048 .f32) (harg3 : arg3.IsWhole) (arg4 : Memref sig .tc .vmem S1x1x1x2048 .f32) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S256x256 .bf16) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (x5 : Vec F S256x256 .bf16) (s0 : Vec F S1024x2048 .bf16) (s1 : Vec F S1024x1024 .bf16) (xt : TbBuf (F := F) c tbM) (hf : ¬ fill i (wUsed c xt) (wHere c xt i) (wPrev c xt i) = 1#1) (h2 : ¬ k0_cond2 i (wUsed c xt) = 1#1) (h3 : k0_cond3 i (wUsed c xt) = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1 ∗ tbPt c tbM xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 : Vec F S256x1024 .f32) ∗ owns (c : Thread nD τ) arg9 fullShare (s0) ∗ owns (c : Thread nD τ) arg10 fullShare (s1) ∗ tbPt c tbM xt) -∗ K ⟨⟩))
      ⊢ wp frame (wpE (defs₀ (F := F)) Variants.none c none) E (cc0_moe_experts i tbM htbM arg2 harg2 arg3 harg3 arg4 harg4 arg5 harg5 arg6 harg6 arg7 harg7 arg8 harg8 arg9 harg9 arg10 harg10) K := by
  have ho := runC_out c i arg2 harg2 arg3 harg3 arg4 harg4 arg5 harg5 arg6 harg6 arg7 harg7 arg8 harg8 arg9 harg9 arg10 harg10 x0 x1 x2 x3 x4 x5 s0 s1 xt hf h2 h3
  iintro ⟨H0, H1, H2, H3, H4, H5, H6, HS0, HS1, HT, Hk⟩
  iapply ((runC c i arg2 harg2 arg3 harg3 arg4 harg4 arg5 harg5 arg6 harg6 arg7 harg7 arg8 harg8 arg9 harg9 arg10 harg10 x0 x1 x2 x3 x4 x5 s0 s1 xt hf h2 h3).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HT]; · iexact HT
  iintro ⟨H0, H1, H2, H3, H4, H5, ⟨%f6, H6⟩, HS0, HS1, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [ho]
    exact store_whole _ _ (by decide) _ _
  isplitl [HS0]; · iexact HS0
  isplitl [HS1]; · iexact HS1
  iexact HT

/-- The chunks of columns cover the stored copy of the first weights. -/
theorem up_cover (x5 : Vec F S256x256 .bf16) (x1 : Vec F S1x1x1024x2048 .f32) (y : S1024x2048.Idx) :
    ∃ p ∈ upPieces x5 x1, y ∈ p.1.set := by
  exact View.cover_of_tiledL (upPieces x5 x1) S1024x256.size (by sl_kernel_rfl) y

set_option maxHeartbeats 1000000 in
/-- A point that refills the stored weights. -/
theorem body_fill (c : Dev nD) (i : grid0.Coords) (arg2 : Memref sig .tc .vmem S256x1024 .f32) (harg2 : arg2.IsWhole) (arg3 : Memref sig .tc .vmem S1x1x1024x2048 .f32) (harg3 : arg3.IsWhole) (arg4 : Memref sig .tc .vmem S1x1x1x2048 .f32) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S256x256 .bf16) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (x5 : Vec F S256x256 .bf16) (xt : TbBuf (F := F) c tbM) (hf : fill i (wUsed c xt) (wHere c xt i) (wPrev c xt i) = 1#1) (h2 : k0_cond2 i (wUsed c xt) = 1#1) (h3 : ¬ k0_cond3 i (wUsed c xt) = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ tbPt c tbM xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (OUT x0 (WU x5 x1) x2 (WD x3) x4) ∗ owns (c : Thread nD τ) arg9 fullShare (WU x5 x1) ∗ owns (c : Thread nD τ) arg10 fullShare (WD x3) ∗ tbPt c tbM xt) -∗ K ⟨⟩))
      ⊢ wp frame (wpE (defs₀ (F := F)) Variants.none c none) E (cc0_moe_experts i tbM htbM arg2 harg2 arg3 harg3 arg4 harg4 arg5 harg5 arg6 harg6 arg7 harg7 arg8 harg8 arg9 harg9 arg10 harg10) K := by
  have ho := runA_out c i arg2 harg2 arg3 harg3 arg4 harg4 arg5 harg5 arg6 harg6 arg7 harg7 arg8 harg8 arg9 harg9 arg10 harg10 x0 x1 x2 x3 x4 x5 xt hf h2 h3
  have hu := runA_up c i arg2 harg2 arg3 harg3 arg4 harg4 arg5 harg5 arg6 harg6 arg7 harg7 arg8 harg8 arg9 harg9 arg10 harg10 x0 x1 x2 x3 x4 x5 xt hf h2 h3
  have hd := runA_down c i arg2 harg2 arg3 harg3 arg4 harg4 arg5 harg5 arg6 harg6 arg7 harg7 arg8 harg8 arg9 harg9 arg10 harg10 x0 x1 x2 x3 x4 x5 xt hf h2 h3
  iintro ⟨H0, H1, H2, H3, H4, H5, H6, HS0, HS1, HT, Hk⟩
  iapply ((runA c i arg2 harg2 arg3 harg3 arg4 harg4 arg5 harg5 arg6 harg6 arg7 harg7 arg8 harg8 arg9 harg9 arg10 harg10 x0 x1 x2 x3 x4 x5 xt hf h2 h3).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HT]; · iexact HT
  iintro ⟨H0, H1, H2, H3, H4, H5, ⟨%f6, H6⟩, ⟨%f9, HS0⟩, ⟨%f10, HS1⟩, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [ho]
    exact store_whole _ _ (by decide) _ _
  isplitl [HS0]
  · unfold owns; iexists _; isplitr
    swap; · iexact HS0
    ipureintro; rw [hu]
    exact View.read_writes_eq_canon _ _ _ (up_cover x5 x1)
  isplitl [HS1]
  · unfold owns; iexists _; isplitr
    swap; · iexact HS1
    ipureintro; rw [hd]
    exact store_whole _ _ (by decide) _ _
  iexact HT

end Cert.KernelIdeal.Exp
-- ==== Proof.Experts.HostI.lean ====
module

public import proofs.«01_k».proof.Proof.Gen.KernelIdeal.Skeleton
public import proofs.«01_k».proof.Proof.Experts.BodyI
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The host operations before the call -/

/-- The buffers when the call is entered, core by core: as the host operations leave them. -/
abbrev V (c : Dev nD) (b : Ref sig .tc) : Buf (Elt F) ((c : Thread nD τ).loc b) :=
  StableHlo.after ([hostOps0, hostOps0_1, hostOps0_2, hostOps0_3] : List (List (HloOp τ sig (Elt F)))).flatten (fun b => m (c, b)) (Proc.devRef .tc b)

/-- The program up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    ⟨hostOps0_sub, hostOps0_1_sub, hostOps0_2_sub, hostOps0_3_sub⟩
    (by
      simp only [List.Forall]
      repeat' apply And.intro
      all_goals rfl)
    main_chain

/-- Two stretches of host operations run one after the other. -/
theorem after_two (l k : List (HloOp τ sig (Elt F))) (W : Valuation τ sig (Elt F)) :
    StableHlo.after (l ++ k) W = StableHlo.after k (StableHlo.after l W) := by
  induction l generalizing W with
  | nil => rfl
  | cons o l ih => exact ih _

/-- The buffers before the last stretch of host operations. -/
abbrev W (c : Dev nD) : Valuation τ sig (Elt F) :=
  StableHlo.after hostOps0_2 (StableHlo.after hostOps0_1 (StableHlo.after hostOps0 (fun b => m (c, b))))

theorem V_eq (c : Dev nD) (b : Ref sig .tc) : V m c b = StableHlo.after hostOps0_3 (W m c) (Proc.devRef .tc b) := by
  show StableHlo.after ([hostOps0, hostOps0_1, hostOps0_2, hostOps0_3] : List (List (HloOp τ sig (Elt F)))).flatten _ _ = _
  rw [List.flatten_cons, List.flatten_cons, List.flatten_cons, List.flatten_cons, List.flatten_nil, List.append_nil,
    after_two, after_two, after_two]

/-- The host operations leave argument 0 as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

/-- The host operations leave argument 1 as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

/-- The host operations leave argument 2 as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

/-- The host operations leave argument 3 as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

/-- The host operations leave argument 4 as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

/-- The host operations leave argument 5 as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The table -/

/-- Where the experts' blocks of rows end, in blocks: what the running sum of the counts leaves. -/
abbrev Ends : Type := (⟨S32, .i32⟩ : BufTy).Contents (Elt F)

/-- The table: the number of blocks in use, then the expert of each block. -/
def tableOf (e : Ends (F := F)) : (⟨S289, .i32⟩ : BufTy).Contents (Elt F) :=
  concatenate S289 0 [⟨S1, shapeCast S1 (shapeCast S_ (extractStridedSlice S1 ![31] e slices_S32_S1_31) shapeCasts_S1_S_) shapeCasts_S_S1⟩,
    ⟨S288, minsi (Host.reduce IntOp.addi (extui 32 (cmpi .sle (broadcastInDim S288x32 ![0, 1] bcast_S1x32_S288x32_0_1 (broadcastInDim S1x32 ![1] bcast_S32_S1x32_1 e)) (broadcastInDim S288x32 ![0, 1] bcast_S288x1_S288x32_0_1 (broadcastInDim S288x1 ![0] bcast_S288_S288x1_0 (iotaInDim S288 32 0)))) natLt_1_32) (constantI S_ 32 0#32) reducesTo_S288x32_S288_d1 h_S_)
      (broadcastInDim S288 ![] bcast_S_S288 (constantI S_ 32 31#32))⟩] concatenates_S1_S288_S289_d0

theorem V_table (c : Dev nD) : V m c main_v19 = tableOf (W m c (Proc.devRef .tc main_v5)) := by
  rw [V_eq]
  generalize W m c = X
  simp only [hostOps0_3]
  after_results
  rfl

theorem V_bup (c : Dev nD) : V m c main_v23 = broadcastInDim S4x32x1x2048 ![0, 1, 3] bcast_S4x32x2048_S4x32x1x2048_0_1_3
    (shapeCast S4x32x2048 (transpose S4x32x8x2x128 [0, 1, 2, 4, 3] (shapeCast S4x32x8x128x2 (m ((c : Thread nD τ).loc main_arg3)) shapeCasts_S4x32x2048_S4x32x8x128x2)
      transposes_S4x32x8x128x2_S4x32x8x2x128_0_1_2_4_3) shapeCasts_S4x32x8x2x128_S4x32x2048) := by
  rw [V_eq, show m ((c : Thread nD τ).loc main_arg3) = W m c (Proc.devRef .tc main_arg3) from ((V_arg3 m c).symm.trans (V_eq m c _)).trans (by
    generalize W m c = X
    simp only [hostOps0_3]
    after_results)]
  generalize W m c = X
  simp only [hostOps0_3]
  after_results
  rfl

theorem V_bdown (c : Dev nD) : V m c main_v24 = broadcastInDim S4x32x1x1024 ![0, 1, 3] bcast_S4x32x1024_S4x32x1x1024_0_1_3
    (m ((c : Thread nD τ).loc main_arg5)) := by
  rw [V_eq, show m ((c : Thread nD τ).loc main_arg5) = W m c (Proc.devRef .tc main_arg5) from ((V_arg5 m c).symm.trans (V_eq m c _)).trans (by
    generalize W m c = X
    simp only [hostOps0_3]
    after_results)]
  generalize W m c = X
  simp only [hostOps0_3]
  after_results

end Cert.KernelIdeal.Exp
-- ==== Proof.Experts.TabI.lean ====
module

public import proofs.«01_k».proof.Proof.Gen.KernelIdeal.Skeleton
public import proofs.«01_k».proof.Proof.Experts.HostI
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pointwise

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The words of the table -/

/-- A sum of words that are each zero or one, from zero, is at most their number. -/
theorem fold_small {ι : Type} (f : ι → BitVec 32) (hf : ∀ n, (f n).toNat ≤ 1) :
    ∀ (l : List ι) (z : BitVec 32), (l.foldl (fun r n => IntOp.addi r (f n)) z).toNat ≤ z.toNat + l.length
  | [], z => by simp
  | a :: l, z => by
    have h := fold_small f hf l (IntOp.addi z (f a))
    have h2 : (IntOp.addi z (f a)).toNat ≤ z.toNat + (f a).toNat := by
      show (z + f a).toNat ≤ _
      rw [BitVec.toNat_add]; exact Nat.mod_le _ _
    have h3 := hf a
    simp only [List.foldl_cons, List.length_cons]
    omega

/-- How many experts' rows end at or before each block of rows. -/
def passed (e : Ends (F := F)) : (⟨S288, .i32⟩ : BufTy).Contents (Elt F) :=
  Host.reduce IntOp.addi (extui 32 (cmpi .sle (broadcastInDim S288x32 ![0, 1] bcast_S1x32_S288x32_0_1 (broadcastInDim S1x32 ![1] bcast_S32_S1x32_1 e)) (broadcastInDim S288x32 ![0, 1] bcast_S288x1_S288x32_0_1 (broadcastInDim S288x1 ![0] bcast_S288_S288x1_0 (iotaInDim S288 32 0)))) natLt_1_32) (constantI S_ 32 0#32) reducesTo_S288x32_S288_d1 h_S_

theorem passed_le (e : Ends (F := F)) (y : S288.Idx) : (passed e y : BitVec 32).toNat ≤ 9216 := by
  refine le_trans (fold_small _ (fun n => ?_) _ _) ?_
  · show (BitVec.setWidth 32 _).toNat ≤ 1
    rw [BitVec.toNat_setWidth]
    refine le_trans (Nat.mod_le _ _) (Nat.le_of_lt_succ ?_)
    exact BitVec.isLt _
  · refine le_trans (Nat.add_le_add_left (List.length_filter_le _ _) _) ?_
    rw [List.length_finRange]
    exact le_of_eq (by decide)

/-- The expert of a block of rows. -/
def expert (e : Ends (F := F)) (j : Fin 288) : BitVec 32 := IntOp.minsi (passed e (ix1 j)) 31#32

theorem expert_le (e : Ends (F := F)) (j : Fin 288) : (expert e j).toNat ≤ 31 := by
  have h := passed_le e (ix1 j)
  unfold expert IntOp.minsi
  generalize (passed e (ix1 j) : BitVec 32) = x at h ⊢
  split
  · rename_i hs
    rw [BitVec.slt, decide_eq_true_eq] at hs
    rw [BitVec.toInt_eq_toNat_of_lt (by omega), BitVec.toInt_eq_toNat_of_lt (by decide)] at hs
    have : (31#32 : BitVec 32).toNat = 31 := rfl
    omega
  · decide

theorem tableOf_used (e : Ends (F := F)) : tableOf e (ix1 ⟨0, by decide⟩) = e (ix1 ⟨31, by decide⟩) := by
  pointwise [tableOf]

theorem tableOf_succ (e : Ends (F := F)) (j : Fin 288) : tableOf e (ix1 ⟨j.val + 1, by omega⟩) = expert e j := by
  have h := j.isLt
  unfold expert passed
  pointwise [tableOf]
  rw [dif_neg (by omega), Nat.add_sub_cancel]

/-- The words a point reads. -/
theorem word_at (c : Dev nD) (x : (⟨S289, .i32⟩ : BufTy).Contents (Elt F)) (o : Fin 1 → Nat) (h : ∀ a, o a + S1.size a ≤ S289.size a)
    (k : Fin 289) (hk : o 0 = k.val) : word c x o h = x (ix1 k) := by
  show x _ = x _
  refine congrArg x (funext fun a => Fin.ext ?_)
  fin_cases a
  show o 0 + 1 * 0 = k.val
  omega

end Cert.KernelIdeal.Exp
-- ==== Proof.Experts.BlkI.lean ====
module

public import proofs.«01_k».proof.Proof.Gen.KernelIdeal.Skeleton
public import proofs.«01_k».proof.Proof.Experts.TabI
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pointwise

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The table of the call -/

/-- Where the experts' blocks of rows end, as the host operations leave it. -/
def E : Ends (F := F) := W m (0 : Dev nD) (Proc.devRef .tc main_v5)

/-- The prefetched table's contents. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
theorem tbl_eq : tbl m 0 = tableOf (E m) := V_table m 0

/-- A grid point's block of rows. -/
abbrev pt (t : Fin grid0.N) : Fin 288 := ⟨t.val, lt_of_lt_of_eq t.isLt N_0⟩
theorem coords_val (t : Fin grid0.N) : (grid0.coords t 0).val = t.val :=
  (by decide +kernel : ∀ t : Fin grid0.N, (grid0.coords t 0).val = t.val) t

/-- The words at a point. -/
theorem wUsed_eq (c : Dev nD) : wUsed c (tbl m 0) = E m (ix1 ⟨31, by decide⟩) := by
  rw [tbl_eq, ← tableOf_used (E m)]; exact word_at c _ _ _ ⟨0, by decide⟩ rfl
theorem wHere_eq (c : Dev nD) (t : Fin grid0.N) : wHere c (tbl m 0) (grid0.coords t) = expert (E m) (pt t) := by
  rw [tbl_eq, ← tableOf_succ]
  refine word_at c _ _ _ ⟨t.val + 1, by have := (pt t).isLt; show t.val + 1 < 289; simp only at this; omega⟩ ?_
  rw [k0_off1_eq]
  show (grid0.coords t 0).val + 1 = t.val + 1
  rw [coords_val]
theorem wPrev_eq (c : Dev nD) (t s : Fin grid0.N) (h : s.val + 1 = t.val) : wPrev c (tbl m 0) (grid0.coords t) = expert (E m) (pt s) := by
  rw [tbl_eq, ← tableOf_succ]
  refine word_at c _ _ _ ⟨s.val + 1, by have := (pt s).isLt; show s.val + 1 < 289; simp only at this; omega⟩ ?_
  rw [k0_off2_eq]
  show max (grid0.coords t 0).val 1 = s.val + 1
  rw [coords_val]; omega

/-- A point's block of rows is in use. -/
abbrev used (i : grid0.Coords) (a : BitVec 32) : Prop := (BitVec.ofNat 32 (i 0).val).slt a = true

theorem cond2_iff (i : grid0.Coords) (a : BitVec 32) : k0_cond2 i a = 1#1 ↔ used i a := by
  unfold used
  show (Scalar.cmpi .ne (Scalar.extui (BitVec.ofBool ((BitVec.ofNat 32 (i 0).val).slt a)) : BitVec 32) 0#32) = 1#1 ↔ _
  generalize (BitVec.ofNat 32 (i 0).val).slt a = b
  cases b <;> decide
theorem cond3_iff (i : grid0.Coords) (a : BitVec 32) : k0_cond3 i a = 1#1 ↔ ¬ used i a := by
  unfold used
  show (Scalar.cmpi .ne (Scalar.extui (BitVec.ofBool (a.sle (BitVec.ofNat 32 (i 0).val))) : BitVec 32) 0#32) = 1#1 ↔ _
  rw [BitVec.sle_eq_not_slt]
  generalize (BitVec.ofNat 32 (i 0).val).slt a = b
  cases b <;> decide
theorem fill_used (i : grid0.Coords) (a b d : BitVec 32) (h : fill i a b d = 1#1) : used i a := by
  unfold used
  unfold fill at h
  change (Scalar.cmpi .ne (Scalar.extui (Scalar.andi (BitVec.ofBool ((BitVec.ofNat 32 (i 0).val).slt a)) _) : BitVec 32) 0#32) = 1#1 at h
  revert h
  generalize (BitVec.ofNat 32 (i 0).val).slt a = x
  generalize (Scalar.ori _ _ : BitVec 1) = y
  revert y
  cases x <;> decide
theorem not_fill (i : grid0.Coords) (a b d : BitVec 32) (h : ¬ fill i a b d = 1#1) (hu : used i a) : (i 0).val ≠ 0 ∧ b = d := by
  unfold used at hu
  unfold fill at h
  change ¬ (Scalar.cmpi .ne (Scalar.extui (Scalar.andi (BitVec.ofBool ((BitVec.ofNat 32 (i 0).val).slt a)) (Scalar.ori (BitVec.ofBool (BitVec.ofNat 32 (i 0).val == 0#32)) (BitVec.ofBool (b != d)))) : BitVec 32) 0#32) = 1#1 at h
  rw [hu] at h
  constructor
  · intro h0
    rw [h0] at h
    revert h
    generalize (b != d) = y
    cases y <;> decide
  · by_contra hb
    rw [bne_iff_ne.mpr hb] at h
    revert h
    generalize (BitVec.ofNat 32 (i 0).val == 0#32) = y
    cases y <;> decide
/-- The block before one in use is in use. -/
theorem used_before (t s : Fin grid0.N) (h : s.val + 1 = t.val) (a : BitVec 32) (hu : used (grid0.coords t) a) : used (grid0.coords s) a := by
  unfold used at hu ⊢
  rw [coords_val] at hu ⊢
  have ht := (pt t).isLt
  simp only at ht
  rw [BitVec.slt, decide_eq_true_eq] at hu ⊢
  rw [BitVec.toInt_eq_toNat_of_lt (by rw [BitVec.toNat_ofNat]; omega), BitVec.toNat_ofNat] at hu ⊢
  omega

/-! ## Admissible contents -/

/-- The word each index map reads. -/
abbrev pf_word (t : Fin grid0.N) : BitVec 32 :=
  (tbl m).at 0 (Rect.unit (s := S289) (k0_off1 (grid0.coords t)) S1.size (k0_off1_inb (grid0.coords t))) numel1_S1
theorem pf_word_eq (t : Fin grid0.N) : pf_word m t = expert (E m) (pt t) := wHere_eq m 0 t

theorem transform_1 (t : Fin grid0.N) : cc0_transform_1 k0_off1_inb numel1_S1 (tbl m) (grid0.coords t) = ![0, (expert (E m) (pt t)).toNat, 0, 0] := by
  show (![_, BitVec.toNat (pf_word m t), _, _] : Fin 4 → Nat) = _
  rw [pf_word_eq]
  rfl

theorem transform_2 (t : Fin grid0.N) : cc0_transform_2 k0_off1_inb numel1_S1 (tbl m) (grid0.coords t) = ![0, (expert (E m) (pt t)).toNat, 0, 0] := by
  show (![_, BitVec.toNat (pf_word m t), _, _] : Fin 4 → Nat) = _
  rw [pf_word_eq]
  rfl

theorem transform_3 (t : Fin grid0.N) : cc0_transform_3 k0_off1_inb numel1_S1 (tbl m) (grid0.coords t) = ![0, (expert (E m) (pt t)).toNat, 0, 0] := by
  show (![_, BitVec.toNat (pf_word m t), _, _] : Fin 4 → Nat) = _
  rw [pf_word_eq]
  rfl

theorem transform_4 (t : Fin grid0.N) : cc0_transform_4 k0_off1_inb numel1_S1 (tbl m) (grid0.coords t) = ![0, (expert (E m) (pt t)).toNat, 0, 0] := by
  show (![_, BitVec.toNat (pf_word m t), _, _] : Fin 4 → Nat) = _
  rw [pf_word_eq]
  rfl

theorem ok : ok0 (F := F) (tbl m) := by
  have key : ∀ i : grid0.Coords, ∃ t : Fin grid0.N, i = grid0.coords t := by
    intro i
    refine ⟨⟨(i 0).val, lt_of_lt_of_eq (i 0).isLt N_0.symm⟩, funext fun a => ?_⟩
    obtain rfl : a = 0 := Subsingleton.elim _ _
    exact Fin.ext (coords_val _).symm
  have hle (t : Fin grid0.N) := expert_le (E m) (pt t)
  refine ⟨fun i => ?_, fun i => ?_, fun i => ?_, fun i => ?_⟩ <;> obtain ⟨t, rfl⟩ := key i <;> refine ⟨fun a => ?_, .inl rfl⟩
  · rw [transform_1]; have := hle t; fin_cases a
    · show (0 + 1) * 1 ≤ 4; decide
    · show ((expert (E m) (pt t)).toNat + 1) * 1 ≤ 32; omega
    · show (0 + 1) * 1024 ≤ 1024; decide
    · show (0 + 1) * 2048 ≤ 2048; decide
  · rw [transform_2]; have := hle t; fin_cases a
    · show (0 + 1) * 1 ≤ 4; decide
    · show ((expert (E m) (pt t)).toNat + 1) * 1 ≤ 32; omega
    · show (0 + 1) * 1 ≤ 1; decide
    · show (0 + 1) * 2048 ≤ 2048; decide
  · rw [transform_3]; have := hle t; fin_cases a
    · show (0 + 1) * 1 ≤ 4; decide
    · show ((expert (E m) (pt t)).toNat + 1) * 1 ≤ 32; omega
    · show (0 + 1) * 1024 ≤ 1024; decide
    · show (0 + 1) * 1024 ≤ 1024; decide
  · rw [transform_4]; have := hle t; fin_cases a
    · show (0 + 1) * 1 ≤ 4; decide
    · show ((expert (E m) (pt t)).toNat + 1) * 1 ≤ 32; omega
    · show (0 + 1) * 1 ≤ 1; decide
    · show (0 + 1) * 1024 ≤ 1024; decide

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The part of the table's ownership the region hands the body. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows' blocks -/

/-- A window's block at a point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The expert of a point's block. -/
abbrev ex (t : Fin grid0.N) : Fin 32 := ⟨(expert (E m) (pt t)).toNat, Nat.lt_succ_of_le (expert_le (E m) (pt t))⟩

theorem blk1_apply (hO : Ok m) (c : Dev nD) (t : Fin grid0.N) (y : S1x1x1024x2048.Idx) :
    (iblk m hO c 1 t : Vec F S1x1x1024x2048 .f32) y = V m c main_arg2 (ix4 0 (ex m t) (y 2) (y 3)) := by
  have e := transform_1 m t
  show V m c main_arg2 _ = V m c main_arg2 _
  refine congrArg (V m c main_arg2) (funext fun a => Fin.ext ?_)
  show cc0_transform_1 k0_off1_inb numel1_S1 (tbl m) (grid0.coords t) a * S1x1x1024x2048.size a + 1 * (y a).val = _
  have h0 := (y 0).isLt
  have h1 := (y 1).isLt
  rw [e]
  fin_cases a
  · show 0 * 1 + 1 * (y 0).val = 0
    have : (y 0).val < 1 := h0
    omega
  · show (expert (E m) (pt t)).toNat * 1 + 1 * (y 1).val = (expert (E m) (pt t)).toNat
    have : (y 1).val < 1 := h1
    omega
  · show 0 * 1024 + 1 * (y 2).val = (y 2).val
    omega
  · show 0 * 2048 + 1 * (y 3).val = (y 3).val
    omega

theorem blk2_apply (hO : Ok m) (c : Dev nD) (t : Fin grid0.N) (y : S1x1x1x2048.Idx) :
    (iblk m hO c 2 t : Vec F S1x1x1x2048 .f32) y = V m c main_v23 (ix4 0 (ex m t) (y 2) (y 3)) := by
  have e := transform_2 m t
  show V m c main_v23 _ = V m c main_v23 _
  refine congrArg (V m c main_v23) (funext fun a => Fin.ext ?_)
  show cc0_transform_2 k0_off1_inb numel1_S1 (tbl m) (grid0.coords t) a * S1x1x1x2048.size a + 1 * (y a).val = _
  have h0 := (y 0).isLt
  have h1 := (y 1).isLt
  rw [e]
  fin_cases a
  · show 0 * 1 + 1 * (y 0).val = 0
    have : (y 0).val < 1 := h0
    omega
  · show (expert (E m) (pt t)).toNat * 1 + 1 * (y 1).val = (expert (E m) (pt t)).toNat
    have : (y 1).val < 1 := h1
    omega
  · show 0 * 1 + 1 * (y 2).val = (y 2).val
    omega
  · show 0 * 2048 + 1 * (y 3).val = (y 3).val
    omega

theorem blk3_apply (hO : Ok m) (c : Dev nD) (t : Fin grid0.N) (y : S1x1x1024x1024.Idx) :
    (iblk m hO c 3 t : Vec F S1x1x1024x1024 .f32) y = V m c main_arg4 (ix4 0 (ex m t) (y 2) (y 3)) := by
  have e := transform_3 m t
  show V m c main_arg4 _ = V m c main_arg4 _
  refine congrArg (V m c main_arg4) (funext fun a => Fin.ext ?_)
  show cc0_transform_3 k0_off1_inb numel1_S1 (tbl m) (grid0.coords t) a * S1x1x1024x1024.size a + 1 * (y a).val = _
  have h0 := (y 0).isLt
  have h1 := (y 1).isLt
  rw [e]
  fin_cases a
  · show 0 * 1 + 1 * (y 0).val = 0
    have : (y 0).val < 1 := h0
    omega
  · show (expert (E m) (pt t)).toNat * 1 + 1 * (y 1).val = (expert (E m) (pt t)).toNat
    have : (y 1).val < 1 := h1
    omega
  · show 0 * 1024 + 1 * (y 2).val = (y 2).val
    omega
  · show 0 * 1024 + 1 * (y 3).val = (y 3).val
    omega

theorem blk4_apply (hO : Ok m) (c : Dev nD) (t : Fin grid0.N) (y : S1x1x1x1024.Idx) :
    (iblk m hO c 4 t : Vec F S1x1x1x1024 .f32) y = V m c main_v24 (ix4 0 (ex m t) (y 2) (y 3)) := by
  have e := transform_4 m t
  show V m c main_v24 _ = V m c main_v24 _
  refine congrArg (V m c main_v24) (funext fun a => Fin.ext ?_)
  show cc0_transform_4 k0_off1_inb numel1_S1 (tbl m) (grid0.coords t) a * S1x1x1x1024.size a + 1 * (y a).val = _
  have h0 := (y 0).isLt
  have h1 := (y 1).isLt
  rw [e]
  fin_cases a
  · show 0 * 1 + 1 * (y 0).val = 0
    have : (y 0).val < 1 := h0
    omega
  · show (expert (E m) (pt t)).toNat * 1 + 1 * (y 1).val = (expert (E m) (pt t)).toNat
    have : (y 1).val < 1 := h1
    omega
  · show 0 * 1 + 1 * (y 2).val = (y 2).val
    omega
  · show 0 * 1024 + 1 * (y 3).val = (y 3).val
    omega

theorem blk5_apply (hO : Ok m) (c : Dev nD) (t : Fin grid0.N) (y : S256x256.Idx) :
    (iblk m hO c 5 t : Vec F S256x256 .bf16) y = V m c main_cst y := by
  show V m c main_cst _ = V m c main_cst _
  refine congrArg (V m c main_cst) (funext fun a => Fin.ext ?_)
  show cc0_transform_5 (grid0.coords t) a * S256x256.size a + 1 * (y a).val = _
  fin_cases a
  · show 0 * 256 + 1 * (y 0).val = (y 0).val; omega
  · show 0 * 256 + 1 * (y 1).val = (y 1).val; omega

end Cert.KernelIdeal.Exp
-- ==== Proof.Experts.FrameI.lean ====
module

public import proofs.«01_k».proof.Proof.Gen.KernelIdeal.Skeleton
public import proofs.«01_k».proof.Proof.Experts.BlkI
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pointwise

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/
abbrev B0 (hO : Ok m) (c : Dev nD) (t : Fin grid0.N) : Vec F S256x1024 .f32 := iblk m hO c 0 t
abbrev B1 (hO : Ok m) (c : Dev nD) (t : Fin grid0.N) : Vec F S1x1x1024x2048 .f32 := iblk m hO c 1 t
abbrev B2 (hO : Ok m) (c : Dev nD) (t : Fin grid0.N) : Vec F S1x1x1x2048 .f32 := iblk m hO c 2 t
abbrev B3 (hO : Ok m) (c : Dev nD) (t : Fin grid0.N) : Vec F S1x1x1024x1024 .f32 := iblk m hO c 3 t
abbrev B4 (hO : Ok m) (c : Dev nD) (t : Fin grid0.N) : Vec F S1x1x1x1024 .f32 := iblk m hO c 4 t
abbrev B5 (hO : Ok m) (c : Dev nD) (t : Fin grid0.N) : Vec F S256x256 .bf16 := iblk m hO c 5 t

/-- The copies of the weights a point works with. -/
def up (hO : Ok m) (c : Dev nD) (t : Fin grid0.N) : Vec F S1024x2048 .bf16 := WU (B5 m hO c t) (B1 m hO c t)
def down (hO : Ok m) (c : Dev nD) (t : Fin grid0.N) : Vec F S1024x1024 .bf16 := WD (B3 m hO c t)

/-- Whether a point's block of rows belongs to an expert. -/
abbrev live (t : Fin grid0.N) : Prop := used (grid0.coords t) (E m (ix1 ⟨31, by decide⟩))

open Classical in
/-- The output block of a point. -/
def outAt (hO : Ok m) (c : Dev nD) (t : Fin grid0.N) : Vec F S256x1024 .f32 :=
  if live m t then OUT (B0 m hO c t) (up m hO c t) (B2 m hO c t) (down m hO c t) (B4 m hO c t) else k0_pay4

theorem outAt_live (hO : Ok m) (c : Dev nD) (t : Fin grid0.N) (h : live m t) :
    outAt m hO c t = OUT (B0 m hO c t) (up m hO c t) (B2 m hO c t) (down m hO c t) (B4 m hO c t) := if_pos h
theorem outAt_off (hO : Ok m) (c : Dev nD) (t : Fin grid0.N) (h : ¬ live m t) : outAt m hO c t = k0_pay4 := if_neg h

/-- Two points of one expert have the same weights. -/
theorem up_congr (hO : Ok m) (c : Dev nD) (t s : Fin grid0.N) (h : expert (E m) (pt t) = expert (E m) (pt s)) : up m hO c t = up m hO c s := by
  have hx : ex m t = ex m s := Fin.ext (congrArg BitVec.toNat h)
  have h1 : B1 m hO c t = B1 m hO c s := funext fun y => by
    rw [show B1 m hO c t y = _ from blk1_apply m hO c t y, show B1 m hO c s y = _ from blk1_apply m hO c s y, hx]
  have h5 : B5 m hO c t = B5 m hO c s := funext fun y => by
    rw [show B5 m hO c t y = _ from blk5_apply m hO c t y, show B5 m hO c s y = _ from blk5_apply m hO c s y]
  unfold up
  rw [h1, h5]
theorem down_congr (hO : Ok m) (c : Dev nD) (t s : Fin grid0.N) (h : expert (E m) (pt t) = expert (E m) (pt s)) : down m hO c t = down m hO c s := by
  have hx : ex m t = ex m s := Fin.ext (congrArg BitVec.toNat h)
  have h3 : B3 m hO c t = B3 m hO c s := funext fun y => by
    rw [show B3 m hO c t y = _ from blk3_apply m hO c t y, show B3 m hO c s y = _ from blk3_apply m hO c s y, hx]
  unfold down
  rw [h3]

/-! ## The invariant between points -/

abbrev scU : Memref sig .tc .vmem S1024x2048 .bf16 := Memref.whole cc0_scratch0
abbrev scD : Memref sig .tc .vmem S1024x1024 .bf16 := Memref.whole cc0_scratch1

/-- What the stored copies hold before point `n`: if the point before worked for an expert, that expert's weights. -/
def Kept (hO : Ok m) (c : Dev nD) (n : ℕ) (wu : Vec F S1024x2048 .bf16) (wd : Vec F S1024x1024 .bf16) : Prop :=
  ∀ s : Fin grid0.N, s.val + 1 = n → live m s → wu = up m hO c s ∧ wd = down m hO c s

def PhiS (hO : Ok m) (c : Dev nD) (n : ℕ) (_ : n ≤ (cfgM m hO).N) : sProp 𝕄 :=
  iprop(∃ wu wd, ⌜Kept m hO c n wu wd⌝ ∗ owns (c : Thread nD τ) scU fullShare wu ∗ owns (c : Thread nD τ) scD fullShare wd ∗ (∃ r, prngReg c r) ∗ tbPt c tbM (tbl m 0))

theorem PhiA_eq (c : Dev nD) :
    (Pipeline.ΦA spec0 c : sProp 𝕄) = iprop(iprop((∃ d, owns (c : Thread nD τ) scU fullShare d) ∗ (∃ d, owns (c : Thread nD τ) scD fullShare d)) ∗ (∃ r, prngReg c r)) := by
  unfold Pipeline.ΦA; rw [scopedRest0_eq]; simp only [scU, scD, owns_whole]; try rfl

/-! ## The proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outAt m hO c t
    | ⟨_ + 7, h⟩ => absurd h (Nat.not_lt.2 (Nat.le_add_left _ _))
  Φ t := PhiS m hO c t.val (Nat.le_of_lt_succ t.isLt)
  q _ := fullShare
  owed _ := 0
theorem A_eq (hO : Ok m) (c : Dev nD) (w : Fin (cfgM m hO).W) : (dats m hO 0 c).A w = V m c (Pipeline.arrRef spec0 w) := by dsimp only [dats]
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t
theorem after0_0 (hO : Ok m) (c : Dev nD) (t : Fin (cfgM m hO).N) : (dats m hO 0 c).after 0 t = iblk m hO c 0 t := by dsimp only [dats]; try rfl
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem liveAt0_0 (hO : Ok m) (t : Fin (cfgM m hO).N) : (cfgM m hO).idle 0 (grid0.coords t) = false := rfl
theorem after0_1 (hO : Ok m) (c : Dev nD) (t : Fin (cfgM m hO).N) : (dats m hO 0 c).after 1 t = iblk m hO c 1 t := by dsimp only [dats]; try rfl
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem liveAt0_1 (hO : Ok m) (t : Fin (cfgM m hO).N) : (cfgM m hO).idle 1 (grid0.coords t) = false := rfl
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem liveAt0_2 (hO : Ok m) (t : Fin (cfgM m hO).N) : (cfgM m hO).idle 2 (grid0.coords t) = false := rfl
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem liveAt0_3 (hO : Ok m) (t : Fin (cfgM m hO).N) : (cfgM m hO).idle 3 (grid0.coords t) = false := rfl
theorem after0_4 (hO : Ok m) (c : Dev nD) (t : Fin (cfgM m hO).N) : (dats m hO 0 c).after 4 t = iblk m hO c 4 t := by dsimp only [dats]; try rfl
theorem before0_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem liveAt0_4 (hO : Ok m) (t : Fin (cfgM m hO).N) : (cfgM m hO).idle 4 (grid0.coords t) = false := rfl
theorem after0_5 (hO : Ok m) (c : Dev nD) (t : Fin (cfgM m hO).N) : (dats m hO 0 c).after 5 t = iblk m hO c 5 t := by dsimp only [dats]; try rfl
theorem before0_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem liveAt0_5 (hO : Ok m) (t : Fin (cfgM m hO).N) : (cfgM m hO).idle 5 (grid0.coords t) = false := rfl
theorem after0_6 (hO : Ok m) (c : Dev nD) (t : Fin (cfgM m hO).N) : (dats m hO 0 c).after 6 t = outAt m hO c t := by dsimp only [dats]; try rfl
theorem idle0_6 (pf : pre0.Contents (Elt F)) (i : grid0.Coords) : idle0 pf 6 i = false := by
  show ((!(k0_cond2 i (pf.atD 0 ![0]) == 1#1)) && (!(k0_cond3 i (pf.atD 0 ![0]) == 1#1))) = false
  generalize pf.atD 0 ![0] = a
  by_cases h : used i a
  · rw [(cond2_iff _ a).mpr h]; rfl
  · rw [(cond3_iff _ a).mpr h, Bool.and_comm]; rfl
theorem idleOf_6 (a : (pcfg0 (F := F)).Adm) (i : grid0.Coords) : (cfg0 a).idle 6 i = false := idle0_6 a.1 i
/-- No window is idle at any point. -/
theorem idle_none (a : (pcfg0 (F := F)).Adm) (i : grid0.Coords) : ∀ w : Fin (cfg0 a).W, (cfg0 a).idle w i = false
  | ⟨0, _⟩ => rfl | ⟨1, _⟩ => rfl | ⟨2, _⟩ => rfl | ⟨3, _⟩ => rfl | ⟨4, _⟩ => rfl | ⟨5, _⟩ => rfl | ⟨6, _⟩ => idleOf_6 a i
  | ⟨_ + 7, h⟩ => absurd h (Nat.not_lt.2 (Nat.le_add_left _ _))

/-- The body's obligation, window by window. -/
theorem obligation_of (a : (pcfg0 (F := F)).Adm) (c : Dev nD) (dat : Dat τ (Elt F) Unit ℕ (UR sig nD τ) ℕ (cfg0 a) c)
    (h : ∀ t : Fin (cfg0 a).N,
      iprop(dat.Φ t.castSucc ∗ dat.owesAt () t.castSucc ∗ (∃ d, owns (c : Thread nD τ) (spec0_0.stage ((cfg0 a).slots t 0)) fullShare (dat.before 0 t d)) ∗ (∃ d, owns (c : Thread nD τ) (spec0_1.stage ((cfg0 a).slots t 1)) fullShare (dat.before 1 t d)) ∗ (∃ d, owns (c : Thread nD τ) (spec0_2.stage ((cfg0 a).slots t 2)) fullShare (dat.before 2 t d)) ∗ (∃ d, owns (c : Thread nD τ) (spec0_3.stage ((cfg0 a).slots t 3)) fullShare (dat.before 3 t d)) ∗ (∃ d, owns (c : Thread nD τ) (spec0_4.stage ((cfg0 a).slots t 4)) fullShare (dat.before 4 t d)) ∗ (∃ d, owns (c : Thread nD τ) (spec0_5.stage ((cfg0 a).slots t 5)) fullShare (dat.before 5 t d)) ∗ (∃ d, owns (c : Thread nD τ) (spec0_6.stage ((cfg0 a).slots t 6)) fullShare (dat.before 6 t d)))
        ⊢ wp frame (wpE (defs₀ (F := F)) Variants.none c none) Set.univ ((defs₀ (F := F)) .tc (cfg0 a).body ((cfg0 a).bodyArgs t ((cfg0 a).slots t)))
            (fun _ => iprop(dat.Φ t.succ ∗ dat.owesAt () t.succ ∗ owns (c : Thread nD τ) (spec0_0.stage ((cfg0 a).slots t 0)) fullShare (dat.after 0 t) ∗ owns (c : Thread nD τ) (spec0_1.stage ((cfg0 a).slots t 1)) fullShare (dat.after 1 t) ∗ owns (c : Thread nD τ) (spec0_2.stage ((cfg0 a).slots t 2)) fullShare (dat.after 2 t) ∗ owns (c : Thread nD τ) (spec0_3.stage ((cfg0 a).slots t 3)) fullShare (dat.after 3 t) ∗ owns (c : Thread nD τ) (spec0_4.stage ((cfg0 a).slots t 4)) fullShare (dat.after 4 t) ∗ owns (c : Thread nD τ) (spec0_5.stage ((cfg0 a).slots t 5)) fullShare (dat.after 5 t) ∗ owns (c : Thread nD τ) (spec0_6.stage ((cfg0 a).slots t 6)) fullShare (dat.after 6 t)))) :
    BodyObligation dat (defs₀ (F := F)) Variants.none () Set.univ := fun t => by
  rw [bigSep_W0, bigSep_W0]
  rw [idle_none a ((cfg0 a).grid.coords t) (6 : Fin 7)]
  simp only [idle_none a ((cfg0 a).grid.coords t)]
  exact h t

/-! ## The body at a point -/

abbrev ms0_0 (hO : Ok m) (t : Fin (cfgM m hO).N) : Memref sig .tc .vmem S256x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x256 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S256x1024 .f32 := spec0_6.stage ((cfgM m hO).slots t 6)
abbrev hs0_6 (hO : Ok m) (t : Fin (cfgM m hO).N) : (ms0_6 m hO t).IsWhole := hstage0_6 (((cfgM m hO).slots t 6).cast nbuf0_6)

def bodyAt (hO : Ok m) (t : Fin (cfgM m hO).N) :=
  cc0_moe_experts (F := F) (grid0.coords t) tbM htbM (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scU (Memref.isWhole_whole _) scD (Memref.isWhole_whole _)
theorem defs₀_row (hO : Ok m) (t : Fin (cfgM m hO).N) : (defs₀ (F := F)) .tc (cfgM m hO).body ((cfgM m hO).bodyArgs t ((cfgM m hO).slots t)) = bodyAt m hO t := by
  unfold defs₀; rw [Defs.onTc_tc]; rfl

def bodyPre (hO : Ok m) (c : Dev nD) (t : Fin (cfgM m hO).N) : sProp 𝕄 :=
  iprop((dats m hO 0 c).Φ t.castSucc ∗ (dats m hO 0 c).owesAt () t.castSucc ∗ (∃ d, owns (c : Thread nD τ) (ms0_0 m hO t) fullShare ((dats m hO 0 c).before 0 t d)) ∗ (∃ d, owns (c : Thread nD τ) (ms0_1 m hO t) fullShare ((dats m hO 0 c).before 1 t d)) ∗ (∃ d, owns (c : Thread nD τ) (ms0_2 m hO t) fullShare ((dats m hO 0 c).before 2 t d)) ∗ (∃ d, owns (c : Thread nD τ) (ms0_3 m hO t) fullShare ((dats m hO 0 c).before 3 t d)) ∗ (∃ d, owns (c : Thread nD τ) (ms0_4 m hO t) fullShare ((dats m hO 0 c).before 4 t d)) ∗ (∃ d, owns (c : Thread nD τ) (ms0_5 m hO t) fullShare ((dats m hO 0 c).before 5 t d)) ∗ (∃ d, owns (c : Thread nD τ) (ms0_6 m hO t) fullShare ((dats m hO 0 c).before 6 t d)))
def bodyPost (hO : Ok m) (c : Dev nD) (t : Fin (cfgM m hO).N) : sProp 𝕄 :=
  iprop((dats m hO 0 c).Φ t.succ ∗ (dats m hO 0 c).owesAt () t.succ ∗ owns (c : Thread nD τ) (ms0_0 m hO t) fullShare ((dats m hO 0 c).after 0 t) ∗ owns (c : Thread nD τ) (ms0_1 m hO t) fullShare ((dats m hO 0 c).after 1 t) ∗ owns (c : Thread nD τ) (ms0_2 m hO t) fullShare ((dats m hO 0 c).after 2 t) ∗ owns (c : Thread nD τ) (ms0_3 m hO t) fullShare ((dats m hO 0 c).after 3 t) ∗ owns (c : Thread nD τ) (ms0_4 m hO t) fullShare ((dats m hO 0 c).after 4 t) ∗ owns (c : Thread nD τ) (ms0_5 m hO t) fullShare ((dats m hO 0 c).after 5 t) ∗ owns (c : Thread nD τ) (ms0_6 m hO t) fullShare ((dats m hO 0 c).after 6 t))

set_option maxHeartbeats 1000000 in
/-- The body at a point: it refills the stored copies, keeps them, or leaves zeros. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2, before0_3, before0_4, before0_5]
  rw [show (dats m hO 0 c).owesAt () t.succ = (dats m hO 0 c).owesAt () t.castSucc from rfl]
  rw [show (dats m hO 0 c).Φ t.succ = PhiS m hO c (t.val + 1) t.isLt from rfl, PhiS_castSucc m hO c t]
  rw [after0_0, after0_1, after0_2, after0_3, after0_4, after0_5, after0_6]
  have hU : wUsed c (tbl m 0) = E m (ix1 ⟨31, by decide⟩) := wUsed_eq m c
  unfold PhiS
  by_cases hl : live m t
  · have h2 : k0_cond2 (grid0.coords t) (wUsed c (tbl m 0)) = 1#1 := by rw [hU]; exact (cond2_iff _ _).mpr hl
    have h3 : ¬ k0_cond3 (grid0.coords t) (wUsed c (tbl m 0)) = 1#1 := by rw [hU]; exact fun h => (cond3_iff _ _).mp h hl
    rw [outAt_live m hO c t hl]
    by_cases hf : fill (grid0.coords t) (wUsed c (tbl m 0)) (wHere c (tbl m 0) (grid0.coords t)) (wPrev c (tbl m 0) (grid0.coords t)) = 1#1
    · iintro ⟨⟨%wu, %wd, %hk, HS0, HS1, Hg, HT⟩, Ho, ⟨%d0, H0⟩, ⟨%d1, H1⟩, ⟨%d2, H2⟩, ⟨%d3, H3⟩, ⟨%d4, H4⟩, ⟨%d5, H5⟩, ⟨%d6, H6⟩⟩
      iapply (body_fill c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scU (Memref.isWhole_whole _) scD (Memref.isWhole_whole _) (B0 m hO c t) (B1 m hO c t) (B2 m hO c t) (B3 m hO c t) (B4 m hO c t) (B5 m hO c t) (tbl m 0) hf h2 h3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexists _; iexact HS1
      isplitl [HT]; · iexact HT
      iintro ⟨H0, H1, H2, H3, H4, H5, H6, HS0, HS1, HT⟩
      isplitl [HS0 HS1 Hg HT]
      · iexists _; iexists _; isplitr
        swap
        · isplitl [HS0]; · iexact HS0
          isplitl [HS1]; · iexact HS1
          isplitl [Hg]; · iexact Hg
          iexact HT
        ipureintro
        intro s hs _
        obtain rfl : s = t := Fin.ext (Nat.succ.inj hs)
        exact ⟨rfl, rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hn := not_fill _ _ _ _ hf (by rw [hU]; exact hl)
      have hpos : t.val ≠ 0 := by have := hn.1; rwa [coords_val] at this
      have hlt : t.val - 1 < grid0.N := lt_of_le_of_lt (Nat.sub_le _ _) t.isLt
      have hsub : (⟨t.val - 1, hlt⟩ : Fin grid0.N).val + 1 = t.val := by show t.val - 1 + 1 = t.val; omega
      have he : expert (E m) (pt t) = expert (E m) (pt ⟨t.val - 1, hlt⟩) := by
        rw [← wHere_eq m c t, ← wPrev_eq m c t _ hsub]; exact hn.2
      have hlp : live m ⟨t.val - 1, hlt⟩ := used_before t _ hsub _ hl
      have hu := up_congr m hO c t _ he
      have hd := down_congr m hO c t _ he
      iintro ⟨⟨%wu, %wd, %hk, HS0, HS1, Hg, HT⟩, Ho, ⟨%d0, H0⟩, ⟨%d1, H1⟩, ⟨%d2, H2⟩, ⟨%d3, H3⟩, ⟨%d4, H4⟩, ⟨%d5, H5⟩, ⟨%d6, H6⟩⟩
      iapply (body_keep c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scU (Memref.isWhole_whole _) scD (Memref.isWhole_whole _) (B0 m hO c t) (B1 m hO c t) (B2 m hO c t) (B3 m hO c t) (B4 m hO c t) (B5 m hO c t) wu wd (tbl m 0) hf h2 h3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HT]; · iexact HT
      iintro ⟨H0, H1, H2, H3, H4, H5, H6, HS0, HS1, HT⟩
      isplitl [HS0 HS1 Hg HT]
      · iexists _; iexists _; isplitr
        swap
        · isplitl [HS0]; · iexact HS0
          isplitl [HS1]; · iexact HS1
          isplitl [Hg]; · iexact Hg
          iexact HT
        ipureintro
        intro s hs _
        obtain rfl : s = t := Fin.ext (Nat.succ.inj hs)
        exact ⟨(hk _ hsub hlp).1.trans hu.symm, (hk _ hsub hlp).2.trans hd.symm⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      rw [hu, hd, ← (hk _ hsub hlp).1, ← (hk _ hsub hlp).2]
      iexact H6
  · have h2 : ¬ k0_cond2 (grid0.coords t) (wUsed c (tbl m 0)) = 1#1 := by rw [hU]; exact fun h => hl ((cond2_iff _ _).mp h)
    have h3 : k0_cond3 (grid0.coords t) (wUsed c (tbl m 0)) = 1#1 := by rw [hU]; exact (cond3_iff _ _).mpr hl
    have hf : ¬ fill (grid0.coords t) (wUsed c (tbl m 0)) (wHere c (tbl m 0) (grid0.coords t)) (wPrev c (tbl m 0) (grid0.coords t)) = 1#1 :=
      fun h => h2 ((cond2_iff _ _).mpr (fill_used _ _ _ _ h))
    rw [outAt_off m hO c t hl]
    iintro ⟨⟨%wu, %wd, %hk, HS0, HS1, Hg, HT⟩, Ho, ⟨%d0, H0⟩, ⟨%d1, H1⟩, ⟨%d2, H2⟩, ⟨%d3, H3⟩, ⟨%d4, H4⟩, ⟨%d5, H5⟩, ⟨%d6, H6⟩⟩
    iapply (body_off c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scU (Memref.isWhole_whole _) scD (Memref.isWhole_whole _) (B0 m hO c t) (B1 m hO c t) (B2 m hO c t) (B3 m hO c t) (B4 m hO c t) (B5 m hO c t) wu wd (tbl m 0) hf h2 h3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HT]; · iexact HT
    iintro ⟨H0, H1, H2, H3, H4, H5, H6, HS0, HS1, HT⟩
    isplitl [HS0 HS1 Hg HT]
    · iexists _; iexists _; isplitr
      swap
      · isplitl [HS0]; · iexact HS0
        isplitl [HS1]; · iexact HS1
        isplitl [Hg]; · iexact Hg
        iexact HT
      ipureintro
      intro s hs hls
      obtain rfl : s = t := Fin.ext (Nat.succ.inj hs)
      exact absurd hls hl
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation (hO : Ok m) (c : Dev nD) : BodyObligation (dats (F := F) m hO 0 c) (defs₀ (F := F)) Variants.none () Set.univ :=
  obligation_of (adm m hO) c (dats m hO 0 c) fun t => by
    rw [defs₀_row m hO]
    exact sound_body m hO c t

/-- Before the first point nothing is said of the stored copies. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiA_eq, PhiT_eq]
  unfold PhiS
  iintro ⟨⟨⟨⟨%a, HS0⟩, ⟨%b, HS1⟩⟩, Hg⟩, HT⟩
  iexists a; iexists b
  isplitr
  · ipureintro; intro s hs; exact absurd hs (Nat.succ_ne_zero _)
  isplitl [HS0]; · iexact HS0
  isplitl [HS1]; · iexact HS1
  isplitl [Hg]; · iexact Hg
  iexact HT

/-- After the last point what they hold is forgotten. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N le_rfl from rfl, PhiA_eq]
  unfold PhiS
  iintro ⟨%a, %b, -, HS0, HS1, Hg, -⟩
  isplitl [HS0 HS1]
  · isplitl [HS0]
    · iexists a; iexact HS0
    iexists b; iexact HS1
  iexact Hg

/-! ## The run and the frame -/

set_option backward.isDefEq.respectTransparency.types false in
/-- Every run of the program ends with the call's arrays as the proof data say, every other buffer as the region found it,
    and every counter at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The call's arguments end as they began. -/
theorem ends_args (hO : Ok m) (c : Dev nD) (r : PUnit × MemSt nD τ sig (Elt F))
    (h : Pipeline.FramePost (Pipeline.pin pcfgs fun _ => adm m hO) (dats m hO) 0 (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m hO 0 c).arrAt_in 0 rfl _).trans ((A_eq m hO c 0).trans (V_arg0 m c))),
   ((h c).2 main_arg1 (by decide : main_arg1 ∈ Pipeline.restRefs sig spec0)).trans (V_arg1 m c),
   ((h c).1 1).trans (((dats m hO 0 c).arrAt_in 1 rfl _).trans ((A_eq m hO c 1).trans (V_arg2 m c))),
   ((h c).2 main_arg3 (by decide : main_arg3 ∈ Pipeline.restRefs sig spec0)).trans (V_arg3 m c),
   ((h c).1 3).trans (((dats m hO 0 c).arrAt_in 3 rfl _).trans ((A_eq m hO c 3).trans (V_arg4 m c))),
   ((h c).2 main_arg5 (by decide : main_arg5 ∈ Pipeline.restRefs sig spec0)).trans (V_arg5 m c)⟩

/-- The frame of the program. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ends_args m (ok m) c r h.1, h.2⟩) (run_main m ρ (ok m))

end Cert.KernelIdeal.Exp
-- ==== Proof.Experts.CovI.lean ====
module

public import proofs.«01_k».proof.Proof.Experts.FrameI
public import Idealize.ShloMosaic.Lib.Pipeline.Value
public import Idealize.ShloMosaic.Lib.Pipeline.ValueKit

@[expose] public section

set_option maxRecDepth 16384

noncomputable section

namespace Cert.KernelIdeal.Exp

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-- Every point writes its block back. -/
theorem flush6 (a : (pcfg0 (F := F)).Adm) (t : Fin grid0.N) : ((cfg0 a).win 6).flush t = true := by
  rw [Window.flush_eq_flushOf]
  exact (by decide +kernel : ∀ t : Fin grid0.N, Window.flushOf grid0 true cc0_transform_6 t = true) t

/-- The written blocks of rows cover the output. -/
theorem covers6 (a : (pcfg0 (F := F)).Adm) : ((cfg0 a).win 6).Covers := by
  refine ⟨fun x => ?_, fun β => ?_⟩
  · fin_cases x
    · show 0 < 256; decide
    · show 0 < 1024; decide
  · have hb : (β (0 : Fin 2)).val < 288 := lt_of_lt_of_eq (β (0 : Fin 2)).isLt (show (73728 + 256 - 1) / 256 = 288 by decide)
    refine ⟨⟨(β (0 : Fin 2)).val, lt_of_lt_of_eq hb N_0.symm⟩, flush6 a _, fun x => ⟨?_, Or.inl rfl⟩⟩
    fin_cases x
    · show (BitVec.ofNat 32 (grid0.coords _ 0).val).toNat = (β (0 : Fin 2)).val
      rw [coords_val, BitVec.toNat_ofNat]
      exact Nat.mod_eq_of_lt (show (β (0 : Fin 2)).val < 2 ^ 32 by omega)
    · have h1 : (β (1 : Fin 2)).val < 1 := lt_of_lt_of_eq (β (1 : Fin 2)).isLt (show (1024 + 1024 - 1) / 1024 = 1 by decide)
      show 0 = (β (1 : Fin 2)).val
      omega

end Cert.KernelIdeal.Exp
-- ==== Proof.Experts.Sel.lean ====
module

public import proofs.«01_k».proof.KernelIdeal

@[expose] public section

set_option maxRecDepth 16384

namespace Cert.KernelIdeal.Exp

open Cert.KernelIdeal
open Idealize.ShloMosaic

/-- The selection matrix as it should be, by row-major place: row `r` has a one in column `q` when `r` is the column that
    goes to `q`, the even columns first, then the odd ones. -/
def want (n : Nat) : BitVec 16 :=
  if n / 256 = (if n % 256 < 128 then 2 * (n % 256) else 2 * (n % 256 - 128) + 1) then 0x3F80#16 else 0x0000#16

/-- A test of all numbers below a bound. -/
def allB (f : Nat → Bool) : Nat → Bool
  | 0 => true
  | n + 1 => f n && allB f n

theorem allB_spec (f : Nat → Bool) : ∀ n : Nat, allB f n = true → ∀ i < n, f i = true
  | 0, _, i, h => absurd h (Nat.not_lt_zero i)
  | n + 1, h, i, hi => by
    have h2 : f n = true ∧ allB f n = true := by simpa only [allB, Bool.and_eq_true] using h
    rcases Nat.lt_succ_iff_lt_or_eq.mp hi with hlt | rfl
    · exact allB_spec f n h2.2 i hlt
    · exact h2.1

/-- The printed entries against it, from place `a` on. -/
noncomputable def chk (a n : Nat) : Bool := Nat.beq (lit0t (n + a)).toNat (want (n + a)).toNat

end Cert.KernelIdeal.Exp
-- ==== Proof.Experts.SelA.lean ====
module

public import proofs.«01_k».proof.Proof.Experts.Sel

@[expose] public section

set_option maxRecDepth 16384

namespace Cert.KernelIdeal.Exp

open Cert.KernelIdeal
open Idealize.ShloMosaic

theorem sel_0 : allB (chk (1024 * 0)) 1024 = true := by decide +kernel
theorem sel_1 : allB (chk (1024 * 1)) 1024 = true := by decide +kernel
theorem sel_2 : allB (chk (1024 * 2)) 1024 = true := by decide +kernel
theorem sel_3 : allB (chk (1024 * 3)) 1024 = true := by decide +kernel
theorem sel_4 : allB (chk (1024 * 4)) 1024 = true := by decide +kernel
theorem sel_5 : allB (chk (1024 * 5)) 1024 = true := by decide +kernel
theorem sel_6 : allB (chk (1024 * 6)) 1024 = true := by decide +kernel
theorem sel_7 : allB (chk (1024 * 7)) 1024 = true := by decide +kernel
theorem sel_8 : allB (chk (1024 * 8)) 1024 = true := by decide +kernel
theorem sel_9 : allB (chk (1024 * 9)) 1024 = true := by decide +kernel
theorem sel_10 : allB (chk (1024 * 10)) 1024 = true := by decide +kernel
theorem sel_11 : allB (chk (1024 * 11)) 1024 = true := by decide +kernel
theorem sel_12 : allB (chk (1024 * 12)) 1024 = true := by decide +kernel
theorem sel_13 : allB (chk (1024 * 13)) 1024 = true := by decide +kernel
theorem sel_14 : allB (chk (1024 * 14)) 1024 = true := by decide +kernel
theorem sel_15 : allB (chk (1024 * 15)) 1024 = true := by decide +kernel

end Cert.KernelIdeal.Exp
-- ==== Proof.Experts.SelB.lean ====
module

public import proofs.«01_k».proof.Proof.Experts.Sel

@[expose] public section

set_option maxRecDepth 16384

namespace Cert.KernelIdeal.Exp

open Cert.KernelIdeal
open Idealize.ShloMosaic

theorem sel_16 : allB (chk (1024 * 16)) 1024 = true := by decide +kernel
theorem sel_17 : allB (chk (1024 * 17)) 1024 = true := by decide +kernel
theorem sel_18 : allB (chk (1024 * 18)) 1024 = true := by decide +kernel
theorem sel_19 : allB (chk (1024 * 19)) 1024 = true := by decide +kernel
theorem sel_20 : allB (chk (1024 * 20)) 1024 = true := by decide +kernel
theorem sel_21 : allB (chk (1024 * 21)) 1024 = true := by decide +kernel
theorem sel_22 : allB (chk (1024 * 22)) 1024 = true := by decide +kernel
theorem sel_23 : allB (chk (1024 * 23)) 1024 = true := by decide +kernel
theorem sel_24 : allB (chk (1024 * 24)) 1024 = true := by decide +kernel
theorem sel_25 : allB (chk (1024 * 25)) 1024 = true := by decide +kernel
theorem sel_26 : allB (chk (1024 * 26)) 1024 = true := by decide +kernel
theorem sel_27 : allB (chk (1024 * 27)) 1024 = true := by decide +kernel
theorem sel_28 : allB (chk (1024 * 28)) 1024 = true := by decide +kernel
theorem sel_29 : allB (chk (1024 * 29)) 1024 = true := by decide +kernel
theorem sel_30 : allB (chk (1024 * 30)) 1024 = true := by decide +kernel
theorem sel_31 : allB (chk (1024 * 31)) 1024 = true := by decide +kernel

end Cert.KernelIdeal.Exp
-- ==== Proof.Experts.SelC.lean ====
module

public import proofs.«01_k».proof.Proof.Experts.Sel

@[expose] public section

set_option maxRecDepth 16384

namespace Cert.KernelIdeal.Exp

open Cert.KernelIdeal
open Idealize.ShloMosaic

theorem sel_32 : allB (chk (1024 * 32)) 1024 = true := by decide +kernel
theorem sel_33 : allB (chk (1024 * 33)) 1024 = true := by decide +kernel
theorem sel_34 : allB (chk (1024 * 34)) 1024 = true := by decide +kernel
theorem sel_35 : allB (chk (1024 * 35)) 1024 = true := by decide +kernel
theorem sel_36 : allB (chk (1024 * 36)) 1024 = true := by decide +kernel
theorem sel_37 : allB (chk (1024 * 37)) 1024 = true := by decide +kernel
theorem sel_38 : allB (chk (1024 * 38)) 1024 = true := by decide +kernel
theorem sel_39 : allB (chk (1024 * 39)) 1024 = true := by decide +kernel
theorem sel_40 : allB (chk (1024 * 40)) 1024 = true := by decide +kernel
theorem sel_41 : allB (chk (1024 * 41)) 1024 = true := by decide +kernel
theorem sel_42 : allB (chk (1024 * 42)) 1024 = true := by decide +kernel
theorem sel_43 : allB (chk (1024 * 43)) 1024 = true := by decide +kernel
theorem sel_44 : allB (chk (1024 * 44)) 1024 = true := by decide +kernel
theorem sel_45 : allB (chk (1024 * 45)) 1024 = true := by decide +kernel
theorem sel_46 : allB (chk (1024 * 46)) 1024 = true := by decide +kernel
theorem sel_47 : allB (chk (1024 * 47)) 1024 = true := by decide +kernel

end Cert.KernelIdeal.Exp
-- ==== Proof.Experts.SelD.lean ====
module

public import proofs.«01_k».proof.Proof.Experts.Sel

@[expose] public section

set_option maxRecDepth 16384

namespace Cert.KernelIdeal.Exp

open Cert.KernelIdeal
open Idealize.ShloMosaic

theorem sel_48 : allB (chk (1024 * 48)) 1024 = true := by decide +kernel
theorem sel_49 : allB (chk (1024 * 49)) 1024 = true := by decide +kernel
theorem sel_50 : allB (chk (1024 * 50)) 1024 = true := by decide +kernel
theorem sel_51 : allB (chk (1024 * 51)) 1024 = true := by decide +kernel
theorem sel_52 : allB (chk (1024 * 52)) 1024 = true := by decide +kernel
theorem sel_53 : allB (chk (1024 * 53)) 1024 = true := by decide +kernel
theorem sel_54 : allB (chk (1024 * 54)) 1024 = true := by decide +kernel
theorem sel_55 : allB (chk (1024 * 55)) 1024 = true := by decide +kernel
theorem sel_56 : allB (chk (1024 * 56)) 1024 = true := by decide +kernel
theorem sel_57 : allB (chk (1024 * 57)) 1024 = true := by decide +kernel
theorem sel_58 : allB (chk (1024 * 58)) 1024 = true := by decide +kernel
theorem sel_59 : allB (chk (1024 * 59)) 1024 = true := by decide +kernel
theorem sel_60 : allB (chk (1024 * 60)) 1024 = true := by decide +kernel
theorem sel_61 : allB (chk (1024 * 61)) 1024 = true := by decide +kernel
theorem sel_62 : allB (chk (1024 * 62)) 1024 = true := by decide +kernel
theorem sel_63 : allB (chk (1024 * 63)) 1024 = true := by decide +kernel

end Cert.KernelIdeal.Exp
-- ==== Proof.Experts.SelE.lean ====
module

public import proofs.«01_k».proof.Proof.Experts.SelA
public import proofs.«01_k».proof.Proof.Experts.SelB
public import proofs.«01_k».proof.Proof.Experts.SelC
public import proofs.«01_k».proof.Proof.Experts.SelD
@[expose] public section

set_option maxRecDepth 16384

namespace Cert.KernelIdeal.Exp

open Cert.KernelIdeal
open Idealize.ShloMosaic

theorem sel_all : ∀ k : Nat, k < 64 → allB (chk (1024 * k)) 1024 = true
  | 0, _ => sel_0
  | 1, _ => sel_1
  | 2, _ => sel_2
  | 3, _ => sel_3
  | 4, _ => sel_4
  | 5, _ => sel_5
  | 6, _ => sel_6
  | 7, _ => sel_7
  | 8, _ => sel_8
  | 9, _ => sel_9
  | 10, _ => sel_10
  | 11, _ => sel_11
  | 12, _ => sel_12
  | 13, _ => sel_13
  | 14, _ => sel_14
  | 15, _ => sel_15
  | 16, _ => sel_16
  | 17, _ => sel_17
  | 18, _ => sel_18
  | 19, _ => sel_19
  | 20, _ => sel_20
  | 21, _ => sel_21
  | 22, _ => sel_22
  | 23, _ => sel_23
  | 24, _ => sel_24
  | 25, _ => sel_25
  | 26, _ => sel_26
  | 27, _ => sel_27
  | 28, _ => sel_28
  | 29, _ => sel_29
  | 30, _ => sel_30
  | 31, _ => sel_31
  | 32, _ => sel_32
  | 33, _ => sel_33
  | 34, _ => sel_34
  | 35, _ => sel_35
  | 36, _ => sel_36
  | 37, _ => sel_37
  | 38, _ => sel_38
  | 39, _ => sel_39
  | 40, _ => sel_40
  | 41, _ => sel_41
  | 42, _ => sel_42
  | 43, _ => sel_43
  | 44, _ => sel_44
  | 45, _ => sel_45
  | 46, _ => sel_46
  | 47, _ => sel_47
  | 48, _ => sel_48
  | 49, _ => sel_49
  | 50, _ => sel_50
  | 51, _ => sel_51
  | 52, _ => sel_52
  | 53, _ => sel_53
  | 54, _ => sel_54
  | 55, _ => sel_55
  | 56, _ => sel_56
  | 57, _ => sel_57
  | 58, _ => sel_58
  | 59, _ => sel_59
  | 60, _ => sel_60
  | 61, _ => sel_61
  | 62, _ => sel_62
  | 63, _ => sel_63
  | _ + 64, h => absurd h (by omega)

/-- The printed selection matrix is the one it should be. -/
theorem lit_want (n : Fin 65536) : lit0 n = want n.val := by
  obtain ⟨n, hn⟩ := n
  have h := allB_spec _ _ (sel_all (n / 1024) (by omega)) (n % 1024) (Nat.mod_lt _ (by decide))
  rw [chk, show n % 1024 + 1024 * (n / 1024) = n by omega] at h
  exact BitVec.eq_of_toNat_eq (Nat.eq_of_beq_eq_true h)

end Cert.KernelIdeal.Exp
-- ==== Proof.Experts.MathI.lean ====
module

public import proofs.«01_k».proof.Proof.Experts.FrameI
public import Idealize.ShloMosaic.Lib.Pipeline.Value
public import Idealize.ShloMosaic.Lib.IdealHost

@[expose] public section

set_option maxRecDepth 16384

noncomputable section

namespace Cert.KernelIdeal.Exp

open Cert.KernelIdeal Cert.KernelIdeal.Gen
open Idealize.ShloMosaic Idealize.ShloMosaic.TcCoe Idealize.SL.Sem

/-- The column of the first layer that stands at column `q` of the kernel's order: in every group of 256 columns the
    even ones first, then the odd ones. -/
def src (q : Fin 2048) : Fin 2048 :=
  ⟨if q.val % 256 < 128 then 256 * (q.val / 256) + 2 * (q.val % 256) else 256 * (q.val / 256) + 2 * (q.val % 256 - 128) + 1, by
    have := q.isLt; split_ifs <;> omega⟩

/-- The same inside one group. -/
def srcIn (q : Fin 256) : Fin 256 := ⟨if q.val < 128 then 2 * q.val else 2 * (q.val - 128) + 1, by have := q.isLt; split_ifs <;> omega⟩

/-- A group of 256 weight columns times the selection matrix, at a place. -/
theorem group_apply (s : Vec Ideal S256x256 .bf16) (w : Vec Ideal S1x1x1024x256 .f32) (i : Fin 1024) (q : Fin 256) :
    k0_pay1 s w (ix2 i q) = ∑ k : Fin 256, (w (ix4 0 0 i k) : EReal) * s (ix2 k q) := by
  pointwise [k0_pay1]

/-- With the selection matrix it is one column of the group. -/
theorem group_sel (s : Vec Ideal S256x256 .bf16)
    (hs : ∀ r q : Fin 256, s (ix2 r q) = if r = srcIn q then (1 : EReal) else 0)
    (w : Vec Ideal S1x1x1024x256 .f32) (i : Fin 1024) (q : Fin 256) :
    k0_pay1 s w (ix2 i q) = w (ix4 0 0 i (srcIn q)) := by
  rw [group_apply]
  refine (Finset.sum_eq_single (M := EReal) (srcIn q) (fun k _ hk => ?_) (fun h => absurd (Finset.mem_univ _) h)).trans ?_
  · rw [hs, if_neg hk]; exact mul_zero (M₀ := EReal) _
  · rw [hs, if_pos rfl]; exact mul_one (M := EReal) _

theorem src_add (o : Nat) (b : Fin 256) (q : Fin 2048) (ho : o % 256 = 0) (h : q.val = o + b.val) : o + (srcIn b).val = (src q).val := by
  have hb := b.isLt
  obtain ⟨k, rfl⟩ : ∃ k, o = 256 * k := ⟨o / 256, by omega⟩
  show 256 * k + (if b.val < 128 then 2 * b.val else 2 * (b.val - 128) + 1) = (if q.val % 256 < 128 then 256 * (q.val / 256) + 2 * (q.val % 256) else 256 * (q.val / 256) + 2 * (q.val % 256 - 128) + 1)
  rw [h, show (256 * k + b.val) % 256 = b.val by omega, show (256 * k + b.val) / 256 = k by omega]
  split_ifs <;> omega

/-- The stored copy of the first weights, at a place. -/
theorem up_apply (s : Vec Ideal S256x256 .bf16)
    (hs : ∀ r q : Fin 256, s (ix2 r q) = if r = srcIn q then (1 : EReal) else 0)
    (w : Vec Ideal S1x1x1024x2048 .f32) (i : Fin 1024) (q : Fin 2048) :
    WU s w (ix2 i q) = w (ix4 0 0 i (src q)) := by
  unfold WU
  refine View.canon_apply_of_pieces (fun y : S1024x2048.Idx => w (ix4 0 0 (y 0) (src (y 1)))) _ ?_ _ (up_cover s w _)
  intro p hp
  simp only [upPieces, List.mem_cons, List.not_mem_nil, or_false] at hp
  rcases hp with rfl | rfl | rfl | rfl | rfl | rfl | rfl | rfl <;> intro x
  all_goals
    obtain ⟨a, b, rfl⟩ : ∃ (a : Fin 1024) (b : Fin 256), x = ix2 a b := ⟨x 0, x 1, by funext k; fin_cases k <;> rfl⟩
    refine (group_sel s hs _ a b).trans ?_
    refine congrArg w ?_
    funext k
    fin_cases k
    · rfl
    · rfl
    · exact Fin.ext rfl
    · refine Fin.ext ((Rect.idx_unit_val _ _ _ _ _).trans ?_)
      refine src_add _ b _ rfl ?_
      first
        | exact Rect.idx_unit_val _ _ inb_S1024x2048_S1024x256_0_0 _ _
        | exact Rect.idx_unit_val _ _ inb_S1024x2048_S1024x256_0_256 _ _
        | exact Rect.idx_unit_val _ _ inb_S1024x2048_S1024x256_0_512 _ _
        | exact Rect.idx_unit_val _ _ inb_S1024x2048_S1024x256_0_768 _ _
        | exact Rect.idx_unit_val _ _ inb_S1024x2048_S1024x256_0_1024 _ _
        | exact Rect.idx_unit_val _ _ inb_S1024x2048_S1024x256_0_1280 _ _
        | exact Rect.idx_unit_val _ _ inb_S1024x2048_S1024x256_0_1536 _ _
        | exact Rect.idx_unit_val _ _ inb_S1024x2048_S1024x256_0_1792 _ _

end Cert.KernelIdeal.Exp
-- ==== Proof.Experts.ActI.lean ====
module

public import proofs.«01_k».proof.Proof.Experts.MathI

@[expose] public section

set_option maxRecDepth 16384

noncomputable section

namespace Cert.KernelIdeal.Exp

open Cert.KernelIdeal Cert.KernelIdeal.Gen
open Idealize.ShloMosaic Idealize.ShloMosaic.TcCoe Idealize.SL.Sem

/-- The clipped gated unit of one pair: its gate `g`, its linear part `l`. -/
def swig (g l : EReal) : EReal :=
  (min g (Ideal.ofBits .f32 0x40E00000#32) * Ideal.logistic (Ideal.ofBits .f32 0x3FD9DB23#32 * min g (Ideal.ofBits .f32 0x40E00000#32)))
    * (min (Ideal.ofBits .f32 0x40E00000#32) (max (Ideal.ofBits .f32 0xC0E00000#32) l) + 1)

/-- The first layer at a row and a column of the kernel's order. -/
theorem hidden_apply (x : Vec Ideal S256x1024 .f32) (wu : Vec Ideal S1024x2048 .bf16) (bu : Vec Ideal S1x1x1x2048 .f32) (r : Fin 256) (q : Fin 2048) :
    k0_pay13 x wu bu (ix2 r q) = (∑ k : Fin 1024, (x (ix2 r k) : EReal) * wu (ix2 k q)) + bu (ix4 0 0 0 q) := by
  pointwise [k0_pay13]

theorem part0 (x : Vec Ideal S256x1024 .f32) (wu : Vec Ideal S1024x2048 .bf16) (bu : Vec Ideal S1x1x1x2048 .f32) (r : Fin 256) (i : Fin 128) :
    k0_pay14 x wu bu (ix2 r i) = swig (k0_pay13 x wu bu (ix2 r ⟨0 + i.val, by have := i.isLt; omega⟩)) (k0_pay13 x wu bu (ix2 r ⟨128 + i.val, by have := i.isLt; omega⟩)) := by
  unfold swig
  generalize hh : k0_pay13 x wu bu = h
  unfold k0_pay14
  rw [hh]
  pointwise []
theorem part1 (x : Vec Ideal S256x1024 .f32) (wu : Vec Ideal S1024x2048 .bf16) (bu : Vec Ideal S1x1x1x2048 .f32) (r : Fin 256) (i : Fin 128) :
    k0_pay15 x wu bu (ix2 r i) = swig (k0_pay13 x wu bu (ix2 r ⟨256 + i.val, by have := i.isLt; omega⟩)) (k0_pay13 x wu bu (ix2 r ⟨384 + i.val, by have := i.isLt; omega⟩)) := by
  unfold swig
  generalize hh : k0_pay13 x wu bu = h
  unfold k0_pay15
  rw [hh]
  pointwise []
theorem part2 (x : Vec Ideal S256x1024 .f32) (wu : Vec Ideal S1024x2048 .bf16) (bu : Vec Ideal S1x1x1x2048 .f32) (r : Fin 256) (i : Fin 128) :
    k0_pay17 (k0_pay13 x wu bu) (k0_pay16 x wu bu) (ix2 r i) = swig (k0_pay13 x wu bu (ix2 r ⟨512 + i.val, by have := i.isLt; omega⟩)) (k0_pay13 x wu bu (ix2 r ⟨640 + i.val, by have := i.isLt; omega⟩)) := by
  unfold swig k0_pay16
  generalize k0_pay13 x wu bu = h
  pointwise [k0_pay17]
theorem part3 (h : FVec Ideal S256x2048 .f32) (r : Fin 256) (i : Fin 128) :
    k0_pay18 h (ix2 r i) = swig (h (ix2 r ⟨768 + i.val, by have := i.isLt; omega⟩)) (h (ix2 r ⟨896 + i.val, by have := i.isLt; omega⟩)) := by
  unfold swig
  pointwise [k0_pay18]
theorem part4 (h : FVec Ideal S256x2048 .f32) (r : Fin 256) (i : Fin 128) :
    k0_pay21 (k0_pay19 h) (k0_pay20 h) (ix2 r i) = swig (h (ix2 r ⟨1024 + i.val, by have := i.isLt; omega⟩)) (h (ix2 r ⟨1152 + i.val, by have := i.isLt; omega⟩)) := by
  unfold swig
  pointwise [k0_pay21, k0_pay19, k0_pay20]
theorem part5 (h : FVec Ideal S256x2048 .f32) (r : Fin 256) (i : Fin 128) :
    k0_pay22 h (ix2 r i) = swig (h (ix2 r ⟨1280 + i.val, by have := i.isLt; omega⟩)) (h (ix2 r ⟨1408 + i.val, by have := i.isLt; omega⟩)) := by
  unfold swig
  pointwise [k0_pay22]
theorem part6 (h : FVec Ideal S256x2048 .f32) (r : Fin 256) (i : Fin 128) :
    k0_pay23 h (ix2 r i) = swig (h (ix2 r ⟨1536 + i.val, by have := i.isLt; omega⟩)) (h (ix2 r ⟨1664 + i.val, by have := i.isLt; omega⟩)) := by
  unfold swig
  pointwise [k0_pay23]
theorem part7 (h : FVec Ideal S256x2048 .f32) (r : Fin 256) (i : Fin 128) :
    (k0_pay25 h (ix2 r i) : EReal) * (k0_pay24 h (ix2 r i) + 1) = swig (h (ix2 r ⟨1792 + i.val, by have := i.isLt; omega⟩)) (h (ix2 r ⟨1920 + i.val, by have := i.isLt; omega⟩)) := by
  unfold swig
  pointwise [k0_pay25, k0_pay24]

/-- The second layer of eight groups of columns `A`, at a row and a column. -/
theorem last_apply (p0 p1 p2 p3 p4 p5 p6 : FVec Ideal S256x128 .bf16) (a b : FVec Ideal S256x128 .f32) (wd : Vec Ideal S1024x1024 .bf16) (bd : Vec Ideal S1x1x1x1024 .f32)
    (A : Fin 1024 → EReal) (r : Fin 256) (q : Fin 1024)
    (h0 : ∀ i : Fin 128, p0 (ix2 r i) = A ⟨0 + i.val, by have := i.isLt; omega⟩)
    (h1 : ∀ i : Fin 128, p1 (ix2 r i) = A ⟨128 + i.val, by have := i.isLt; omega⟩)
    (h2 : ∀ i : Fin 128, p2 (ix2 r i) = A ⟨256 + i.val, by have := i.isLt; omega⟩)
    (h3 : ∀ i : Fin 128, p3 (ix2 r i) = A ⟨384 + i.val, by have := i.isLt; omega⟩)
    (h4 : ∀ i : Fin 128, p4 (ix2 r i) = A ⟨512 + i.val, by have := i.isLt; omega⟩)
    (h5 : ∀ i : Fin 128, p5 (ix2 r i) = A ⟨640 + i.val, by have := i.isLt; omega⟩)
    (h6 : ∀ i : Fin 128, p6 (ix2 r i) = A ⟨768 + i.val, by have := i.isLt; omega⟩)
    (h7 : ∀ i : Fin 128, (b (ix2 r i) : EReal) * (a (ix2 r i) + 1) = A ⟨896 + i.val, by have := i.isLt; omega⟩) :
    k0_pay3 p0 p1 p2 p3 p4 p5 p6 a b wd bd (ix2 r q) = (∑ f : Fin 1024, A f * wd (ix2 f q)) + bd (ix4 0 0 0 q) := by
  pointwise [k0_pay3]
  refine congrArg (fun z : EReal => z + bd (ix4 0 0 0 q)) (Finset.sum_congr (M := EReal) rfl fun f _ => congrArg (fun z : EReal => z * wd (ix2 f q)) ?_)
  have hf := f.isLt
  by_cases c0 : f.val < 128
  · rw [dif_pos c0, h0]; exact congrArg A (Fin.ext (by dsimp only; omega))
  by_cases c1 : f.val - 128 < 128
  · rw [dif_neg c0, dif_pos c1, h1]; exact congrArg A (Fin.ext (by dsimp only; omega))
  by_cases c2 : f.val - 128 - 128 < 128
  · rw [dif_neg c0, dif_neg c1, dif_pos c2, h2]; exact congrArg A (Fin.ext (by dsimp only; omega))
  by_cases c3 : f.val - 128 - 128 - 128 < 128
  · rw [dif_neg c0, dif_neg c1, dif_neg c2, dif_pos c3, h3]; exact congrArg A (Fin.ext (by dsimp only; omega))
  by_cases c4 : f.val - 128 - 128 - 128 - 128 < 128
  · rw [dif_neg c0, dif_neg c1, dif_neg c2, dif_neg c3, dif_pos c4, h4]; exact congrArg A (Fin.ext (by dsimp only; omega))
  by_cases c5 : f.val - 128 - 128 - 128 - 128 - 128 < 128
  · rw [dif_neg c0, dif_neg c1, dif_neg c2, dif_neg c3, dif_neg c4, dif_pos c5, h5]; exact congrArg A (Fin.ext (by dsimp only; omega))
  by_cases c6 : f.val - 128 - 128 - 128 - 128 - 128 - 128 < 128
  · rw [dif_neg c0, dif_neg c1, dif_neg c2, dif_neg c3, dif_neg c4, dif_neg c5, dif_pos c6, h6]; exact congrArg A (Fin.ext (by dsimp only; omega))
  rw [dif_neg c0, dif_neg c1, dif_neg c2, dif_neg c3, dif_neg c4, dif_neg c5, dif_neg c6, h7]; exact congrArg A (Fin.ext (by dsimp only; omega))

/-- The activated hidden row: pair `f` of columns of the kernel's order. -/
def gate (f : Fin 1024) : Fin 2048 := ⟨256 * (f.val / 128) + f.val % 128, by have := f.isLt; omega⟩
def lin (f : Fin 1024) : Fin 2048 := ⟨256 * (f.val / 128) + 128 + f.val % 128, by have := f.isLt; omega⟩

theorem src_gate (f : Fin 1024) : src (gate f) = ⟨2 * f.val, by have := f.isLt; omega⟩ := by
  have := f.isLt
  refine Fin.ext ?_
  show (if (256 * (f.val / 128) + f.val % 128) % 256 < 128 then 256 * ((256 * (f.val / 128) + f.val % 128) / 256) + 2 * ((256 * (f.val / 128) + f.val % 128) % 256) else 256 * ((256 * (f.val / 128) + f.val % 128) / 256) + 2 * ((256 * (f.val / 128) + f.val % 128) % 256 - 128) + 1) = 2 * f.val
  split_ifs <;> omega
theorem src_lin (f : Fin 1024) : src (lin f) = ⟨2 * f.val + 1, by have := f.isLt; omega⟩ := by
  have := f.isLt
  refine Fin.ext ?_
  show (if (256 * (f.val / 128) + 128 + f.val % 128) % 256 < 128 then 256 * ((256 * (f.val / 128) + 128 + f.val % 128) / 256) + 2 * ((256 * (f.val / 128) + 128 + f.val % 128) % 256) else 256 * ((256 * (f.val / 128) + 128 + f.val % 128) / 256) + 2 * ((256 * (f.val / 128) + 128 + f.val % 128) % 256 - 128) + 1) = 2 * f.val + 1
  split_ifs <;> omega

/-- The two layers of an expert at a row and a column, from the stored weights. -/
theorem out_apply (x : Vec Ideal S256x1024 .f32) (wu : Vec Ideal S1024x2048 .bf16) (bu : Vec Ideal S1x1x1x2048 .f32) (wd : Vec Ideal S1024x1024 .bf16) (bd : Vec Ideal S1x1x1x1024 .f32)
    (r : Fin 256) (q : Fin 1024) :
    OUT x wu bu wd bd (ix2 r q)
      = (∑ f : Fin 1024, swig (k0_pay13 x wu bu (ix2 r (gate f))) (k0_pay13 x wu bu (ix2 r (lin f))) * wd (ix2 f q)) + bd (ix4 0 0 0 q) := by
  unfold OUT
  refine last_apply _ _ _ _ _ _ _ _ _ wd bd (fun f => swig (k0_pay13 x wu bu (ix2 r (gate f))) (k0_pay13 x wu bu (ix2 r (lin f)))) r q
    (fun i => (part0 x wu bu r i).trans ?_) (fun i => (part1 x wu bu r i).trans ?_) (fun i => (part2 x wu bu r i).trans ?_)
    (fun i => (part3 _ r i).trans ?_) (fun i => (part4 _ r i).trans ?_) (fun i => (part5 _ r i).trans ?_) (fun i => (part6 _ r i).trans ?_) (fun i => (part7 _ r i).trans ?_)
  all_goals
    have hi := i.isLt
    refine congrArg₂ swig (congrArg (fun j => k0_pay13 x wu bu (ix2 r j)) (Fin.ext ?_)) (congrArg (fun j => k0_pay13 x wu bu (ix2 r j)) (Fin.ext ?_))
    · dsimp only [gate]; omega
    · dsimp only [lin]; omega

end Cert.KernelIdeal.Exp
-- ==== Proof.Experts.RefI.lean ====
module

public import proofs.«01_k».proof.Proof.Experts.ActI
public import proofs.«01_k».proof.Proof.Gen.ReferenceIdeal.Run
public import proofs.«01_k».proof.Proof.Gen.ReferenceIdeal.Read

@[expose] public section

set_option maxRecDepth 16384

noncomputable section

namespace Cert.ReferenceIdeal.Exp

open Cert.ReferenceIdeal Cert.ReferenceIdeal.Gen Cert.ReferenceIdeal.Read
open Idealize.ShloMosaic Idealize.ShloMosaic.TcCoe Idealize.SL.Sem
open Cert.KernelIdeal.Exp (swig)

/-! ## One expert's weights for each block of rows -/

section Take
variable {α : Type}

abbrev dims3 (N R A B : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- A gather of whole matrices, at a place: the matrix its index names. -/
theorem take3 {N R A B w : Nat}
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (j : Fin R) (k : Fin A) (q : Fin B) (e : Fin N)
    (he : (idx (ix2 j 0)).toInt.toNat = e.val) :
    Host.gather (dims3 N R A B wf) x idx (ix3 j k q) = x (ix3 e k q) := by
  unfold Host.gather
  congr 1
  funext a
  refine Fin.ext ?_
  show (dims3 N R A B wf).start (ix3 j k q) idx a + (dims3 N R A B wf).batchCoord (ix3 j k q) a + (dims3 N R A B wf).offCoord (ix3 j k q) a = _
  rw [GatherDims.batchCoord_eq_zero _ _ _ List.not_mem_nil]
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (dims3 N R A B wf).startIndexMap from List.mem_singleton.mpr rfl)]
    have hsi : (dims3 N R A B wf).siIdx (ix3 j k q) ⟨List.idxOf (0 : Fin 3) (dims3 N R A B wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi, he]
    show min e.val (N - 1) + 0 + 0 = e.val
    have := e.isLt
    omega
  · have hs : (dims3 N R A B wf).start (ix3 j k q) idx 1 = 0 := by
      unfold GatherDims.start
      rw [dif_neg (show ¬ (1 : Fin 3) ∈ (dims3 N R A B wf).startIndexMap from fun h => absurd (show (1 : Nat) = 0 from congrArg Fin.val (List.mem_singleton.mp h)) (by decide))]
    rw [hs, Nat.add_zero, Nat.zero_add]
    unfold GatherDims.offCoord
    rw [dif_pos (show (1 : Fin 3) ∈ (dims3 N R A B wf).sKept from (GatherDims.mem_sKept _ _).mpr ⟨fun h => absurd (show (1 : Nat) = 0 from congrArg Fin.val (List.mem_singleton.mp h)) (by decide), List.not_mem_nil⟩)]
    rfl
  · have hs : (dims3 N R A B wf).start (ix3 j k q) idx 2 = 0 := by
      unfold GatherDims.start
      rw [dif_neg (show ¬ (2 : Fin 3) ∈ (dims3 N R A B wf).startIndexMap from fun h => absurd (show (2 : Nat) = 0 from congrArg Fin.val (List.mem_singleton.mp h)) (by decide))]
    rw [hs, Nat.add_zero, Nat.zero_add]
    unfold GatherDims.offCoord
    rw [dif_pos (show (2 : Fin 3) ∈ (dims3 N R A B wf).sKept from (GatherDims.mem_sKept _ _).mpr ⟨fun h => absurd (show (2 : Nat) = 0 from congrArg Fin.val (List.mem_singleton.mp h)) (by decide), List.not_mem_nil⟩)]
    rfl

abbrev dims2 (N R B : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- A gather of whole rows, at a place: the row its index names. -/
theorem take2 {N R B w : Nat}
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (j : Fin R) (q : Fin B) (e : Fin N)
    (he : (idx (ix2 j 0)).toInt.toNat = e.val) :
    Host.gather (dims2 N R B wf) x idx (ix2 j q) = x (ix2 e q) := by
  unfold Host.gather
  congr 1
  funext a
  refine Fin.ext ?_
  show (dims2 N R B wf).start (ix2 j q) idx a + (dims2 N R B wf).batchCoord (ix2 j q) a + (dims2 N R B wf).offCoord (ix2 j q) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (dims2 N R B wf).startIndexMap from List.mem_singleton.mpr rfl)]
    have hsi : (dims2 N R B wf).siIdx (ix2 j q) ⟨List.idxOf (0 : Fin 2) (dims2 N R B wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi, he]
    show min e.val (N - 1) + 0 + 0 = e.val
    have := e.isLt
    omega
  · have hs : (dims2 N R B wf).start (ix2 j q) idx 1 = 0 := by
      unfold GatherDims.start
      rw [dif_neg (show ¬ (1 : Fin 2) ∈ (dims2 N R B wf).startIndexMap from fun h => absurd (show (1 : Nat) = 0 from congrArg Fin.val (List.mem_singleton.mp h)) (by decide))]
    rw [hs, Nat.add_zero, Nat.zero_add]
    unfold GatherDims.offCoord
    rw [dif_pos (show (1 : Fin 2) ∈ (dims2 N R B wf).sKept from (GatherDims.mem_sKept _ _).mpr ⟨fun h => absurd (show (1 : Nat) = 0 from congrArg Fin.val (List.mem_singleton.mp h)) (by decide), List.not_mem_nil⟩)]
    rfl

end Take

variable (x0 : (⟨S73728x1024, .f32⟩ : BufTy).Contents (Elt Ideal)) (x1 : (⟨S32, .i32⟩ : BufTy).Contents (Elt Ideal))
  (x2 : (⟨S4x32x1024x2048, .f32⟩ : BufTy).Contents (Elt Ideal)) (x3 : (⟨S4x32x2048, .f32⟩ : BufTy).Contents (Elt Ideal))
  (x4 : (⟨S4x32x1024x1024, .f32⟩ : BufTy).Contents (Elt Ideal)) (x5 : (⟨S4x32x1024, .f32⟩ : BufTy).Contents (Elt Ideal))

/-- The first weights of a block's expert. -/
theorem up_at (j : Fin 288) (e : Fin 32) (he : (val_main_v15 (F := Ideal) x1 (ix1 j) : BitVec 32).toInt.toNat = e.val) (k : Fin 1024) (q : Fin 2048) :
    val_main_v19 (F := Ideal) x1 x2 (ix3 j k q) = x2 (ix4 0 e k q) := by
  have hi : (val_main_call2_v0 (F := Ideal) x1 (ix2 j 0) : BitVec 32).toInt.toNat = e.val := by
    rw [val_main_call2_v0_apply]
    refine Eq.trans (congrArg (fun z : S288.Idx => (val_main_v15 (F := Ideal) x1 z : BitVec 32).toInt.toNat) ?_) he
    funext b
    match b with
    | ⟨0, _⟩ => rfl
  have hx : val_main_v18 (F := Ideal) x2 (ix3 e k q) = x2 (ix4 0 e k q) := by
    pointwise [val_main_v18, val_main_v17]
  unfold val_main_v19 gather_S32x1024x2048_S288x1_S288x1024x2048_12_0_n_n_0_1_110242048
  generalize val_main_call2_v0 (F := Ideal) x1 = i at hi ⊢
  generalize val_main_v18 (F := Ideal) x2 = w at hx ⊢
  exact (take3 Facts₀.gather_S32x1024x2048_S288x1_S288x1024x2048_12_0_n_n_0_1_110242048_wf w i j k q e hi).trans hx

/-- Its first bias. -/
theorem bup_at (j : Fin 288) (e : Fin 32) (he : (val_main_v15 (F := Ideal) x1 (ix1 j) : BitVec 32).toInt.toNat = e.val) (q : Fin 2048) :
    val_main_v23 (F := Ideal) x1 x3 (ix2 j q) = x3 (ix3 0 e q) := by
  have hi : (val_main_call3_v0 (F := Ideal) x1 (ix2 j 0) : BitVec 32).toInt.toNat = e.val := by
    rw [val_main_call3_v0_apply]
    refine Eq.trans (congrArg (fun z : S288.Idx => (val_main_v15 (F := Ideal) x1 z : BitVec 32).toInt.toNat) ?_) he
    funext b
    match b with
    | ⟨0, _⟩ => rfl
  have hx : val_main_v22 (F := Ideal) x3 (ix2 e q) = x3 (ix3 0 e q) := by
    pointwise [val_main_v22, val_main_v21]
  unfold val_main_v23 gather_S32x2048_S288x1_S288x2048_1_0_n_n_0_1_12048
  generalize val_main_call3_v0 (F := Ideal) x1 = i at hi ⊢
  generalize val_main_v22 (F := Ideal) x3 = w at hx ⊢
  exact (take2 Facts₀.gather_S32x2048_S288x1_S288x2048_1_0_n_n_0_1_12048_wf w i j q e hi).trans hx

/-- Its second weights. -/
theorem down_at (j : Fin 288) (e : Fin 32) (he : (val_main_v15 (F := Ideal) x1 (ix1 j) : BitVec 32).toInt.toNat = e.val) (k q : Fin 1024) :
    val_main_v46 (F := Ideal) x1 x4 (ix3 j k q) = x4 (ix4 0 e k q) := by
  have hi : (val_main_call5_v0 (F := Ideal) x1 (ix2 j 0) : BitVec 32).toInt.toNat = e.val := by
    rw [val_main_call5_v0_apply]
    refine Eq.trans (congrArg (fun z : S288.Idx => (val_main_v15 (F := Ideal) x1 z : BitVec 32).toInt.toNat) ?_) he
    funext b
    match b with
    | ⟨0, _⟩ => rfl
  have hx : val_main_v45 (F := Ideal) x4 (ix3 e k q) = x4 (ix4 0 e k q) := by
    pointwise [val_main_v45, val_main_v44]
  unfold val_main_v46 gather_S32x1024x1024_S288x1_S288x1024x1024_12_0_n_n_0_1_110241024
  generalize val_main_call5_v0 (F := Ideal) x1 = i at hi ⊢
  generalize val_main_v45 (F := Ideal) x4 = w at hx ⊢
  exact (take3 Facts₀.gather_S32x1024x1024_S288x1_S288x1024x1024_12_0_n_n_0_1_110241024_wf w i j k q e hi).trans hx

/-- Its second bias. -/
theorem bdown_at (j : Fin 288) (e : Fin 32) (he : (val_main_v15 (F := Ideal) x1 (ix1 j) : BitVec 32).toInt.toNat = e.val) (q : Fin 1024) :
    val_main_v50 (F := Ideal) x1 x5 (ix2 j q) = x5 (ix3 0 e q) := by
  have hi : (val_main_call6_v0 (F := Ideal) x1 (ix2 j 0) : BitVec 32).toInt.toNat = e.val := by
    rw [val_main_call6_v0_apply]
    refine Eq.trans (congrArg (fun z : S288.Idx => (val_main_v15 (F := Ideal) x1 z : BitVec 32).toInt.toNat) ?_) he
    funext b
    match b with
    | ⟨0, _⟩ => rfl
  have hx : val_main_v49 (F := Ideal) x5 (ix2 e q) = x5 (ix3 0 e q) := by
    pointwise [val_main_v49, val_main_v48]
  unfold val_main_v50 gather_S32x1024_S288x1_S288x1024_1_0_n_n_0_1_11024
  generalize val_main_call6_v0 (F := Ideal) x1 = i at hi ⊢
  generalize val_main_v49 (F := Ideal) x5 = w at hx ⊢
  exact (take2 Facts₀.gather_S32x1024_S288x1_S288x1024_1_0_n_n_0_1_11024_wf w i j q e hi).trans hx

/-! ## The two layers -/

/-- Row `r` of block `j`. -/
def row (j : Fin 288) (r : Fin 256) : Fin 73728 := ⟨256 * j.val + r.val, by have := j.isLt; have := r.isLt; omega⟩

/-- The first layer of expert `e` for row `r` of block `j`, at channel `q`. -/
def hid (e : Fin 32) (j : Fin 288) (r : Fin 256) (q : Fin 2048) : EReal :=
  (∑ k : Fin 1024, (x0 (ix2 (row j r) k) : EReal) * x2 (ix4 0 e k q)) + x3 (ix3 0 e q)

/-- Both layers. -/
def ffn (e : Fin 32) (j : Fin 288) (r : Fin 256) (q : Fin 1024) : EReal :=
  (∑ f : Fin 1024, swig (hid x0 x2 x3 e j r ⟨2 * f.val, by have := f.isLt; omega⟩) (hid x0 x2 x3 e j r ⟨2 * f.val + 1, by have := f.isLt; omega⟩)
    * x4 (ix4 0 e f q)) + x5 (ix3 0 e q)

theorem hid_at (j : Fin 288) (e : Fin 32) (he : (val_main_v15 (F := Ideal) x1 (ix1 j) : BitVec 32).toInt.toNat = e.val) (r : Fin 256) (q : Fin 2048) :
    val_main_v26 (F := Ideal) x0 x1 x2 x3 (ix3 j r q) = hid x0 x2 x3 e j r q := by
  have hw := fun k => up_at x1 x2 j e he k q
  have hb := bup_at x1 x3 j e he q
  unfold val_main_v26 val_main_v20 val_main_v25 val_main_v24 val_main_v16 hid
  generalize val_main_v19 (F := Ideal) x1 x2 = w at hw ⊢
  generalize val_main_v23 (F := Ideal) x1 x3 = b at hb ⊢
  pointwise []
  have hr : ∀ h, (⟨j.val * 256 + r.val, h⟩ : Fin 73728) = row j r := fun h => Fin.ext (by unfold row; show j.val * 256 + r.val = 256 * j.val + r.val; omega)
  simp only [hw, hb, hr]

theorem act_at (j : Fin 288) (r : Fin 256) (f : Fin 1024) :
    val_main_v43 (F := Ideal) x0 x1 x2 x3 (ix3 j r f)
      = swig (val_main_v26 (F := Ideal) x0 x1 x2 x3 (ix3 j r ⟨2 * f.val, by have := f.isLt; omega⟩)) (val_main_v26 (F := Ideal) x0 x1 x2 x3 (ix3 j r ⟨2 * f.val + 1, by have := f.isLt; omega⟩)) := by
  unfold swig val_main_v43 val_main_v40 val_main_v42 val_main_v39 val_main_v37 val_main_v35 val_main_v34 val_main_v33 val_main_v29 val_main_v31 val_main_call4_v2 val_main_v27 val_main_v30
  generalize val_main_v26 (F := Ideal) x0 x1 x2 x3 = h
  pointwise [val_main_v41, val_main_v38, val_main_v36, val_main_v32, val_main_v28, val_main_call4_v1, val_main_call4_v0, val_main_call4_v4, val_main_call4_v3, val_main_cst, val_main_cst_4, val_main_cst_5, val_main_cst_6, val_main_cst_7, val_main_cst_8, val_main_cst_9]
  have hf : ∀ h, (⟨1 + 2 * f.val, h⟩ : Fin 2048) = ⟨2 * f.val + 1, by have := f.isLt; omega⟩ := fun h => Fin.ext (Nat.add_comm _ _)
  simp only [hf]
  rfl

theorem sum_at (j : Fin 288) (e : Fin 32) (he : (val_main_v15 (F := Ideal) x1 (ix1 j) : BitVec 32).toInt.toNat = e.val) (r : Fin 256) (q : Fin 1024) :
    val_main_v53 (F := Ideal) x0 x1 x2 x3 x4 x5 (ix3 j r q) = ffn x0 x2 x3 x4 x5 e j r q := by
  have hw := fun k => down_at x1 x4 j e he k q
  have hb := bdown_at x1 x5 j e he q
  have ha := fun f => (act_at x0 x1 x2 x3 j r f).trans (congrArg₂ swig (hid_at x0 x1 x2 x3 j e he r _) (hid_at x0 x1 x2 x3 j e he r _))
  unfold val_main_v53 val_main_v47 val_main_v52 val_main_v51 ffn
  generalize val_main_v43 (F := Ideal) x0 x1 x2 x3 = a at ha ⊢
  generalize val_main_v46 (F := Ideal) x1 x4 = w at hw ⊢
  generalize val_main_v50 (F := Ideal) x1 x5 = b at hb ⊢
  pointwise []
  simp only [hw, hb, ha]

theorem all_at (j : Fin 288) (r : Fin 256) (q : Fin 1024) :
    val_main_v60 (F := Ideal) x0 x1 x2 x3 x4 x5 (ix2 (row j r) q)
      = if (BitVec.ofNat 32 j.val).slt (val_main_v5 (F := Ideal) x1 (ix1 31)) = true then val_main_v53 (F := Ideal) x0 x1 x2 x3 x4 x5 (ix3 j r q) else 0 := by
  unfold val_main_v60 val_main_v59 val_main_call7_v1 val_main_v58 val_main_v57 val_main_v56 val_main_v55 val_main_v54
  generalize val_main_v53 (F := Ideal) x0 x1 x2 x3 x4 x5 = y
  generalize val_main_v5 (F := Ideal) x1 = z
  pointwise [val_main_call7_v2, val_main_call7_v0, val_main_cst_10, val_main_v6]
  have h1 : (row j r).val / 256 = j.val := by
    have := r.isLt
    show (256 * j.val + r.val) / 256 = j.val
    omega
  have h2 : (row j r).val % 256 = r.val := by
    have := r.isLt
    show (256 * j.val + r.val) % 256 = r.val
    omega
  have h3 : (id (constant (F := Ideal) S_ FTy.f32 0#32) ix0 : EReal) = 0 := Ideal.ofBits_zero_f32
  simp only [h1, h2, Fin.eta]
  refine (congrArg (Scalar.select _ _) h3).trans ?_
  unfold Scalar.select IntOp.cmpi
  cases (BitVec.ofNat 32 j.val).slt (z (ix1 31)) <;> simp

end Cert.ReferenceIdeal.Exp
-- ==== Proof.Experts.HostVI.lean ====
module

public import proofs.«01_k».proof.Proof.Experts.SelE
public import proofs.«01_k».proof.Proof.Experts.ActI
public import proofs.«01_k».proof.Proof.Experts.RefI
public import Idealize.ShloMosaic.Lib.IdealHost

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ)

section Table
open Cert.ReferenceIdeal.Read

theorem first_v3 (X : Valuation τ sig (Elt Ideal)) :
    StableHlo.after hostOps0 X (Proc.devRef .tc main_v3) = val_main_v3 (F := Ideal) (X (Proc.devRef .tc main_arg1)) := by
  simp only [hostOps0]
  after_results
  rfl

theorem first_c1 (X : Valuation τ sig (Elt Ideal)) :
    StableHlo.after hostOps0 X (Proc.devRef .tc main_c_1) = val_main_c_1 (F := Ideal) := by
  simp only [hostOps0]
  after_results
  rfl

/-- The number of blocks of each expert. -/
theorem second_v4 (X : Valuation τ sig (Elt Ideal)) (x : (⟨S32, .i32⟩ : BufTy).Contents (Elt Ideal))
    (h : X (Proc.devRef .tc main_v3) = val_main_v3 (F := Ideal) x) (h' : X (Proc.devRef .tc main_c_1) = val_main_c_1 (F := Ideal)) :
    StableHlo.after hostOps0_1 X (Proc.devRef .tc main_v4) = val_main_v4 (F := Ideal) x := by
  unfold val_main_v4 val_main_call0_v11 val_main_call0_v13 val_main_call0_v12 val_main_call0_v10 val_main_call0_v9 val_main_call0_v8 val_main_call0_v7
    val_main_call0_v6 val_main_call0_v5 val_main_call0_v4 val_main_call0_v3 val_main_call0_v2 val_main_call0_v1 val_main_call0_v0 val_main_call0_c val_main_call0_c_0
  rw [← h, ← h']
  simp only [hostOps0_1]
  after_results
  rfl

theorem third_v5 (X : Valuation τ sig (Elt Ideal)) (x : (⟨S32, .i32⟩ : BufTy).Contents (Elt Ideal))
    (h : X (Proc.devRef .tc main_v4) = val_main_v4 (F := Ideal) x) :
    StableHlo.after hostOps0_2 X (Proc.devRef .tc main_v5) = val_main_v5 (F := Ideal) x := by
  unfold val_main_v5 val_main_call1_call0_v0 val_main_call1_call0_c
  rw [← h]
  simp only [hostOps0_2]
  after_results
  simp only [StableHlo.TRef.toBuf, StableHlo.TRef.ofBuf, cast_eq]

/-- Where the experts' blocks end is the reference's running sum. -/
theorem E_eq : E m = val_main_v5 (F := Ideal) (m (((0 : Dev nD) : Thread nD τ).loc main_arg1)) :=
  third_v5 _ _ (second_v4 _ _ (first_v3 (fun b => m ((0 : Dev nD), b))) (first_c1 (fun b => m ((0 : Dev nD), b))))

end Table

/-- The expert of a block is the reference's. -/
theorem expert_eq (j : Fin 288) : expert (E m) j = Cert.ReferenceIdeal.Read.val_main_v15 (F := Ideal) (m (((0 : Dev nD) : Thread nD τ).loc main_arg1)) (ix1 j) := by
  rw [E_eq]
  unfold expert passed Cert.ReferenceIdeal.Read.val_main_v15 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7
  generalize Cert.ReferenceIdeal.Read.val_main_v5 (F := Ideal) (m (((0 : Dev nD) : Thread nD τ).loc main_arg1)) = e
  rfl

/-- The selection matrix the region finds. -/
theorem V_sel (c : Dev nD) : V m c main_cst = (fun i => FloatOps.ofBits (F := Ideal) .bf16 (lit0 (S256x256.rowMajor i))) := by
  rw [V_eq]
  show StableHlo.after hostOps0_3 (StableHlo.after hostOps0_2 (StableHlo.after hostOps0_1 (StableHlo.after hostOps0 (fun b => m (c, b))))) (Proc.devRef .tc main_cst) = _
  generalize (fun b => m (c, b) : Valuation τ sig (Elt Ideal)) = X
  simp only [hostOps0, hostOps0_1, hostOps0_2, hostOps0_3]
  after_results
  rfl

/-- The selection matrix, at a place. -/
theorem sel_apply (c : Dev nD) (r q : Fin 256) : (V m c main_cst (ix2 r q) : EReal) = if r = srcIn q then (1 : EReal) else 0 := by
  rw [V_sel]
  show Ideal.ofBits .bf16 (lit0 (S256x256.rowMajor (ix2 r q))) = _
  refine (congrArg (Ideal.ofBits .bf16) (lit_want (S256x256.rowMajor (ix2 r q)))).trans ?_
  have hv : (S256x256.rowMajor (ix2 r q)).val = 256 * r.val + q.val := by
    rw [Shape.rowMajor_val_two]
    show r.val * 256 + q.val = _
    omega
  rw [hv]
  have hr := r.isLt
  have hq := q.isLt
  have h1 : (256 * r.val + q.val) / 256 = r.val := by omega
  have h2 : (256 * r.val + q.val) % 256 = q.val := by omega
  unfold want
  rw [h1, h2]
  have hs : (r.val = if q.val < 128 then 2 * q.val else 2 * (q.val - 128) + 1) ↔ r = srcIn q := by
    rw [Fin.ext_iff]
    unfold srcIn
    rfl
  by_cases h : r = srcIn q
  · rw [if_pos h, if_pos (hs.mpr h)]; exact Ideal.ofBits_one_bf16
  · rw [if_neg h, if_neg (fun x => h (hs.mp x))]; exact Ideal.ofBits_zero_bf16

/-- The first bias the region finds: the given one with each group of 256 channels' even ones first. -/
theorem bup_apply (c : Dev nD) (e : Fin 32) (q : Fin 2048) :
    V m c main_v23 (ix4 0 e 0 q) = m ((c : Thread nD τ).loc main_arg3) (ix3 0 e (src q)) := by
  rw [V_bup]
  generalize m ((c : Thread nD τ).loc main_arg3) = b
  pointwise []
  refine congrArg (fun z : Fin 2048 => b (ix3 0 e z)) (Fin.ext ?_)
  have hq := q.isLt
  unfold src
  show q.val / 256 * 256 + q.val % 128 * 2 + q.val / 128 % 2 = if q.val % 256 < 128 then 256 * (q.val / 256) + 2 * (q.val % 256) else 256 * (q.val / 256) + 2 * (q.val % 256 - 128) + 1
  split_ifs <;> omega

/-- The second bias the region finds. -/
theorem bdown_apply (c : Dev nD) (e : Fin 32) (q : Fin 1024) :
    V m c main_v24 (ix4 0 e 0 q) = m ((c : Thread nD τ).loc main_arg5) (ix3 0 e q) := by
  rw [V_bdown]
  generalize m ((c : Thread nD τ).loc main_arg5) = b
  pointwise []

/-- The stored second weights. -/
theorem WD_apply (x : Vec Ideal S1x1x1024x1024 .f32) (f q : Fin 1024) : (WD x (ix2 f q) : EReal) = x (ix4 0 0 f q) := by
  pointwise [WD, k0_pay2]

/-- A point's block of rows, at a row and a column. -/
theorem blk0_apply (hO : Ok m) (c : Dev nD) (t : Fin grid0.N) (r : Fin 256) (k : Fin 1024) :
    B0 m hO c t (ix2 r k) = V m c main_arg0 (ix2 (Cert.ReferenceIdeal.Exp.row (pt t) r) k) := by
  show V m c main_arg0 _ = V m c main_arg0 _
  refine congrArg (V m c main_arg0) (funext fun a => Fin.ext ?_)
  show cc0_transform_0 (grid0.coords t) a * S256x1024.size a + 1 * (ix2 r k a).val = _
  have ht := (pt t).isLt
  fin_cases a
  · show (BitVec.ofNat 32 (grid0.coords t 0).val).toNat * 256 + 1 * r.val = 256 * t.val + r.val
    rw [coords_val, BitVec.toNat_ofNat, Nat.mod_eq_of_lt (show t.val < 2 ^ 32 by simp only at ht; omega)]
    omega
  · show 0 * 1024 + 1 * k.val = k.val
    omega

end Cert.KernelIdeal.Exp
-- ==== Proof.Experts.ValueI.lean ====
module

public import proofs.«01_k».proof.Defs
public import proofs.«01_k».proof.Proof.Experts.CovI
public import proofs.«01_k».proof.Proof.Experts.HostVI
public import Idealize.ShloMosaic.Adequacy
public import Idealize.ShloMosaic.Init

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic Idealize.SL.Sem
open Idealize.ShloMosaic.Pipeline (Dat Cfg Window)
open Cert.ReferenceIdeal.Exp (row hid ffn)
open Cert.ReferenceIdeal.Read (val_main_v60 val_main_v53 val_main_v15 val_main_v5)

variable (m : (ℓ : Loc nD τ sig) → Buf (Elt Ideal) ℓ)

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-- The stored first weights of a point are its expert's, each group's even channels first. -/
theorem up_at (hO : Ok m) (c : Dev nD) (t : Fin grid0.N) (k : Fin 1024) (q : Fin 2048) :
    (up m hO c t (ix2 k q) : EReal) = a2 m c (ix4 0 (ex m t) k (src q)) := by
  unfold up
  refine (up_apply (B5 m hO c t) (fun r q => ?_) (B1 m hO c t) k q).trans ?_
  · exact (blk5_apply m hO c t (ix2 r q)).trans (sel_apply m c r q)
  · exact (blk1_apply m hO c t (ix4 0 0 k (src q))).trans (congrFun (V_arg2 m c) _)

/-- The first layer of a point. -/
theorem hidden_at (hO : Ok m) (c : Dev nD) (t : Fin grid0.N) (r : Fin 256) (q : Fin 2048) :
    (k0_pay13 (B0 m hO c t) (up m hO c t) (B2 m hO c t) (ix2 r q) : EReal) = hid (a0 m c) (a2 m c) (a3 m c) (ex m t) (pt t) r (src q) := by
  refine (hidden_apply _ _ _ r q).trans ?_
  unfold hid
  refine congrArg₂ (fun a b : EReal => a + b) (Finset.sum_congr (M := EReal) rfl fun k _ => congrArg₂ (fun a b : EReal => a * b) ?_ ?_) ?_
  · exact (blk0_apply m hO c t r k).trans (congrFun (V_arg0 m c) _)
  · exact up_at m hO c t k q
  · exact (blk2_apply m hO c t (ix4 0 0 0 q)).trans (bup_apply m c (ex m t) q)

/-- Both layers of a point. -/
theorem both_at (hO : Ok m) (c : Dev nD) (t : Fin grid0.N) (r : Fin 256) (q : Fin 1024) :
    (OUT (B0 m hO c t) (up m hO c t) (B2 m hO c t) (down m hO c t) (B4 m hO c t) (ix2 r q) : EReal)
      = ffn (a0 m c) (a2 m c) (a3 m c) (a4 m c) (a5 m c) (ex m t) (pt t) r q := by
  refine (out_apply _ _ _ _ _ r q).trans ?_
  unfold ffn
  refine congrArg₂ (fun a b : EReal => a + b) (Finset.sum_congr (M := EReal) rfl fun f _ => congrArg₂ (fun a b : EReal => a * b) (congrArg₂ swig ?_ ?_) ?_) ?_
  · rw [hidden_at, src_gate]
  · rw [hidden_at, src_lin]
  · exact (WD_apply (B3 m hO c t) f q).trans ((blk3_apply m hO c t (ix4 0 0 f q)).trans (congrFun (V_arg4 m c) _))
  · exact (blk4_apply m hO c t (ix4 0 0 0 q)).trans (bdown_apply m c (ex m t) q)

/-- The reference's result. -/
def G (c : Dev nD) : Vec Ideal S73728x1024 .f32 := val_main_v60 (F := Ideal) (a0 m c) (a1 m c) (a2 m c) (a3 m c) (a4 m c) (a5 m c)

/-- What a point leaves is the reference's block of rows. -/
theorem point (hO : Ok m) (c : Dev nD) (t : Fin grid0.N) (r : Fin 256) (q : Fin 1024) :
    (outAt m hO c t (ix2 r q) : EReal) = G m c (ix2 (row (pt t) r) q) := by
  obtain rfl : c = 0 := Subsingleton.elim _ _
  have he : (val_main_v15 (F := Ideal) (a1 m 0) (ix1 (pt t)) : BitVec 32).toInt.toNat = (ex m t).val := by
    rw [← expert_eq m (pt t)]
    have h := expert_le (E m) (pt t)
    show (expert (E m) (pt t)).toInt.toNat = (expert (E m) (pt t)).toNat
    rw [BitVec.toInt_eq_toNat_of_lt (by omega)]
    rfl
  have hl : live m t ↔ (BitVec.ofNat 32 (pt t).val).slt (val_main_v5 (F := Ideal) (a1 m 0) (ix1 31)) = true := by
    unfold live used
    rw [E_eq, coords_val]
    exact Iff.rfl
  unfold G
  refine Eq.trans ?_ (Cert.ReferenceIdeal.Exp.all_at (a0 m 0) (a1 m 0) (a2 m 0) (a3 m 0) (a4 m 0) (a5 m 0) (pt t) r q).symm
  by_cases h : live m t
  · rw [if_pos (hl.mp h), outAt_live m hO 0 t h]
    exact (both_at m hO 0 t r q).trans (Cert.ReferenceIdeal.Exp.sum_at (a0 m 0) (a1 m 0) (a2 m 0) (a3 m 0) (a4 m 0) (a5 m 0) (pt t) (ex m t) he r q).symm
  · rw [if_neg (fun x => h (hl.mpr x)), outAt_off m hO 0 t h]
    exact Ideal.ofBits_zero_f32

theorem place6 (a : (pcfg0 (F := Ideal)).Adm) (t : Fin grid0.N) (y : S256x1024.Idx) :
    ((((cfg0 a).win 6).blk t).view.emb y : S73728x1024.Idx) = ix2 (row (pt t) (y 0)) (y 1) := by
  funext x
  refine Fin.ext ?_
  show cc0_transform_6 (grid0.coords t) x * S256x1024.size x + 1 * (y x).val = _
  have ht := (pt t).isLt
  fin_cases x
  · show (BitVec.ofNat 32 (grid0.coords t 0).val).toNat * 256 + 1 * (y 0).val = 256 * t.val + (y 0).val
    rw [coords_val, BitVec.toNat_ofNat, Nat.mod_eq_of_lt (show t.val < 2 ^ 32 by simp only at ht; omega)]
    omega
  · show 0 * 1024 + 1 * (y 1).val = (y 1).val
    omega

theorem whole6 (a : (pcfg0 (F := Ideal)).Adm) : ((cfg0 a).win 6).arr.IsWhole := Memref.isWhole_whole _

/-- The same, at any proof data. -/
theorem out_gen (a : (pcfg0 (F := Ideal)).Adm) (c : Dev nD) (dat : Dat τ (Elt Ideal) Unit ℕ (Idealize.ShloMosaic.UR sig nD τ) ℕ (cfg0 a) c)
    (Z : Vec Ideal S73728x1024 .f32) (O : Fin grid0.N → Vec Ideal S256x1024 .f32) (ha : ∀ t : Fin (cfg0 a).N, dat.after 6 t = O t)
    (h : ∀ (t : Fin grid0.N) (r : Fin 256) (q : Fin 1024), O t (ix2 r q) = Z (ix2 (row (pt t) r) q)) :
    dat.arrAt 6 (cfg0 a).N = Z := by
  refine dat.arrAt_eq_of_covers 6 Z (covers6 a) (fun t hf y => ?_) (whole6 a)
  rw [ha]
  have hy : (((cfg0 a).win 6).xinj ((cfg0 a).grid.coords t) y : S256x1024.Idx) = ix2 (y (0 : Fin 2)) (y (1 : Fin 2)) := by
    funext a
    fin_cases a <;> rfl
  exact (congrArg (O t) hy).trans ((h t (y (0 : Fin 2)) (y (1 : Fin 2))).trans (congrArg Z (place6 a t y).symm))

/-- An array whose blocks of rows are what the points leave is what the region leaves. -/
theorem out_of (hO : Ok m) (c : Dev nD) (Z : Vec Ideal S73728x1024 .f32)
    (h : ∀ (t : Fin grid0.N) (r : Fin 256) (q : Fin 1024), outAt m hO c t (ix2 r q) = Z (ix2 (row (pt t) r) q)) :
    (dats m hO 0 c).arrAt 6 (cfgM m hO).N = Z := by
  exact out_gen (adm m hO) c (dats m hO 0 c) Z (outAt m hO c) (after0_6 m hO c) h

/-- The output array ends holding the reference's result. -/
theorem out_eq (hO : Ok m) (c : Dev nD) : (dats m hO 0 c).arrAt 6 (cfgM m hO).N = G m c :=
  out_of m hO c _ fun t r q => point m hO c t r q

/-- The experts over the extended reals: the kernel's result is the reference's, from equal arguments. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => G m c, ?_, ?_⟩
  · exact (θ_run defs _ _).mono (fun r h c => ⟨((h.1 c).1 6).trans (out_eq m (ok m) c), ends_args m (ok m) c r h.1⟩) (run_main m g (ok m))
  · refine (θ_run Cert.ReferenceIdeal.defs _ _).mono (fun r h c => ?_) (Cert.ReferenceIdeal.Value.run (F := Ideal) m' g')
    obtain ⟨h60, ha⟩ := h c
    obtain ⟨g0, g1, g2, g3, g4, g5⟩ := hag c
    refine ⟨h60.trans ((Cert.ReferenceIdeal.Read.val_main_v60_eq m' c).trans ?_), ha⟩
    rw [g0, g1, g2, g3, g4, g5]
    rfl

/-- The reference leaves its arguments and counters as they were. -/
theorem reference_frame : Cert.quiescent_ReferenceIdeal (hReferenceIdeal := Cert.ReferenceIdeal.Gen.facts) := by
  intro m ρ _
  refine (θ_run Cert.ReferenceIdeal.defs _ _).mono (fun r h => ⟨fun c => (h c).2,
      Idealize.ShloMosaic.sem_eq_zero_of_no_sems (by decide) r.2⟩) (Cert.ReferenceIdeal.Value.run (F := Ideal) m ρ)

end Cert.KernelIdeal.Exp
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.InProj.Frame
public import proofs.«01_k».proof.Proof.Gen.InProjIdeal.Frame
public import proofs.«01_k».proof.Proof.Gen.InProjReferenceIdeal
public import proofs.«01_k».proof.Proof.InProj.Value
public import proofs.«01_k».proof.Proof.Merge.Value
public import proofs.«01_k».proof.Proof.Memory.Value
public import proofs.«01_k».proof.Proof.MemKv.Value
public import proofs.«01_k».proof.Proof.Conv.Value
public import proofs.«01_k».proof.Proof.LnIn.Value
public import proofs.«01_k».proof.Proof.Prep.Value
public import proofs.«01_k».proof.Proof.Experts.FrameK
public import proofs.«01_k».proof.Proof.Experts.ValueI
public import Idealize.ShloMosaic.Adequacy
public import Idealize.ShloMosaic.Init

@[expose] public section

noncomputable section

namespace Cert.Proof

open Idealize.ShloMosaic

/-- All the claims: the experts' frames and value, then the input projection's, the merge's, the memory attention's,
    the memory's keys' and values', the short convolution's, the input norm's and the normed latents'. -/
theorem claim : Cert.Claim :=
  ⟨Cert.Kernel.Gen.facts, Cert.KernelIdeal.Gen.facts, Cert.ReferenceIdeal.Gen.facts,
    Cert.InProj.Gen.facts, Cert.InProjIdeal.Gen.facts, Cert.InProjReferenceIdeal.Gen.facts,
    Cert.Merge.Gen.facts, Cert.MergeIdeal.Gen.facts, Cert.MergeReferenceIdeal.Gen.facts,
    Cert.Memory.Gen.facts, Cert.MemoryIdeal.Gen.facts, Cert.MemoryReferenceIdeal.Gen.facts,
    Cert.MemKv.Gen.facts, Cert.MemKvIdeal.Gen.facts, Cert.MemKvReferenceIdeal.Gen.facts,
    Cert.Conv.Gen.facts, Cert.ConvIdeal.Gen.facts, Cert.ConvReferenceIdeal.Gen.facts,
    Cert.LnIn.Gen.facts, Cert.LnInIdeal.Gen.facts, Cert.LnInReferenceIdeal.Gen.facts,
    Cert.Prep.Gen.facts, Cert.PrepIdeal.Gen.facts, Cert.PrepReferenceIdeal.Gen.facts,
    fun m ρ _ => Cert.Kernel.Exp.frame_all m ρ,
    fun m ρ _ => Cert.KernelIdeal.Exp.frame_all m ρ,
    Cert.KernelIdeal.Exp.reference_frame,
    fun m ρ _ => Cert.InProj.Gen.frame m ρ,
    fun m ρ _ => Cert.InProjIdeal.Gen.frame m ρ,
    Cert.InProjIdeal.Val.reference_frame,
    fun m ρ _ => Cert.Merge.Gen.frame m ρ,
    fun m ρ _ => Cert.MergeIdeal.Gen.frame m ρ,
    Cert.MergeIdeal.Mg.reference_frame,
    fun m ρ _ => Cert.Memory.Gen.frame m ρ,
    fun m ρ _ => Cert.MemoryIdeal.Gen.frame m ρ,
    Cert.MemoryIdeal.Mem.reference_frame,
    fun m ρ _ => Cert.MemKv.Gen.frame m ρ,
    fun m ρ _ => Cert.MemKvIdeal.Gen.frame m ρ,
    Cert.MemKvIdeal.Kv.reference_frame,
    fun m ρ _ => Cert.Conv.Gen.frame m ρ,
    fun m ρ _ => Cert.ConvIdeal.Gen.frame m ρ,
    Cert.ConvIdeal.Cv.reference_frame,
    fun m ρ _ => Cert.LnIn.Gen.frame m ρ,
    fun m ρ _ => Cert.LnInIdeal.Gen.frame m ρ,
    Cert.LnInIdeal.Ln.reference_frame,
    fun m ρ _ => Cert.Prep.Gen.frame m ρ,
    fun m ρ _ => Cert.PrepIdeal.Gen.frame m ρ,
    Cert.PrepIdeal.Pr.reference_frame,
    trivial,
    Cert.KernelIdeal.Exp.algebraic,
    trivial,
    Cert.InProjIdeal.Val.algebraic,
    trivial,
    Cert.MergeIdeal.Mg.algebraic,
    trivial,
    Cert.MemoryIdeal.Mem.algebraic,
    trivial,
    Cert.MemKvIdeal.Kv.algebraic,
    trivial,
    Cert.ConvIdeal.Cv.algebraic,
    trivial,
    Cert.LnInIdeal.Ln.algebraic,
    trivial,
    Cert.PrepIdeal.Pr.algebraic⟩

end Cert.Proof
